-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gathered [hPre_gathered : Cert.Pre_gathered.Facts] (m : (ℓ : Loc Cert.KernelIdeal.nD Cert.KernelIdeal.τ Cert.KernelIdeal.sig) → Buf (Elt Ideal) ℓ) : Prop :=
  ∀ c : Dev Cert.KernelIdeal.nD,
    (Cert.Pre_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.1 = (fun _ => 1#1)
    ∧ (Cert.Pre_gathered.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gathered [hPre_gathered : Cert.Pre_gathered.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gathered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_gathered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_gathered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_gathered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.1 = (fun _ => 1#1)
    ∧ (Cert.Pre_gathered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.1 = (fun _ => 1#1)
    ∧ (Cert.Pre_gathered.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2.2 = (fun _ => 1#1)

def Pre_Table (m : (ℓ : Loc Cert.Table.nD Cert.Table.τ Cert.Table.sig) → Buf (Elt Bits) ℓ) : Prop :=
  True

def Pre_TableReference (m : (ℓ : Loc Cert.TableReference.nD Cert.TableReference.τ Cert.TableReference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_gathered [hKernelIdeal : Cert.KernelIdeal.Facts] [hPre_gathered : Cert.Pre_gathered.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gathered m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_gathered [hReferenceIdeal : Cert.ReferenceIdeal.Facts] [hPre_gathered : Cert.Pre_gathered.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gathered m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Table [hTable : Cert.Table.Facts] : Prop :=
  ∀ (m : (ℓ : Loc Cert.Table.nD Cert.Table.τ Cert.Table.sig) → Buf (Elt Bits) ℓ) (g : Dev Cert.Table.nD → PrngReg), Pre_Table m →
    θ_run (Cert.Table.defs (F := Bits)) (onTc (τ := Cert.Table.τ) (Cert.Table.main (F := Bits))) ⟨m, fun _ => 0, g⟩ (fun r => (∀ c : Dev Cert.Table.nD,
      r.2.mem ((c.tc : Thread Cert.Table.nD Cert.Table.τ).loc Cert.Table.main_arg0) = m ((c.tc : Thread Cert.Table.nD Cert.Table.τ).loc Cert.Table.main_arg0)
      ∧ r.2.mem ((c.tc : Thread Cert.Table.nD Cert.Table.τ).loc Cert.Table.main_arg1) = m ((c.tc : Thread Cert.Table.nD Cert.Table.τ).loc Cert.Table.main_arg1))
      ∧ r.2.sem = fun _ => 0)

def quiescent_TableReference [hTableReference : Cert.TableReference.Facts] : Prop :=
  ∀ (m : (ℓ : Loc Cert.TableReference.nD Cert.TableReference.τ Cert.TableReference.sig) → Buf (Elt Bits) ℓ) (g : Dev Cert.TableReference.nD → PrngReg), Pre_TableReference m →
    θ_run (Cert.TableReference.defs (F := Bits)) (onTc (τ := Cert.TableReference.τ) (Cert.TableReference.main (F := Bits))) ⟨m, fun _ => 0, g⟩ (fun r => (∀ c : Dev Cert.TableReference.nD,
      r.2.mem ((c.tc : Thread Cert.TableReference.nD Cert.TableReference.τ).loc Cert.TableReference.main_arg0) = m ((c.tc : Thread Cert.TableReference.nD Cert.TableReference.τ).loc Cert.TableReference.main_arg0)
      ∧ r.2.mem ((c.tc : Thread Cert.TableReference.nD Cert.TableReference.τ).loc Cert.TableReference.main_arg1) = m ((c.tc : Thread Cert.TableReference.nD Cert.TableReference.τ).loc Cert.TableReference.main_arg1))
      ∧ r.2.sem = fun _ => 0)

def preserves_Kernel_KernelIdeal : Prop :=
  True

def algebraic_KernelIdeal_ReferenceIdeal_pre_gathered [hKernelIdeal : Cert.KernelIdeal.Facts] [hReferenceIdeal : Cert.ReferenceIdeal.Facts] [hPre_gathered : Cert.Pre_gathered.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gathered m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_v162) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def bitexact_Table_TableReference [hTable : Cert.Table.Facts] [hTableReference : Cert.TableReference.Facts] : Prop :=
  ∀ (m : (ℓ : Loc Cert.Table.nD Cert.Table.τ Cert.Table.sig) → Buf (Elt Bits) ℓ) (g : Dev Cert.Table.nD → PrngReg)
    (m' : (ℓ : Loc Cert.TableReference.nD Cert.TableReference.τ Cert.TableReference.sig) → Buf (Elt Bits) ℓ) (g' : Dev Cert.TableReference.nD → PrngReg), Pre_Table m →
    (∀ c : Dev Cert.Table.nD,
      m' ((c.tc : Thread Cert.TableReference.nD Cert.TableReference.τ).loc Cert.TableReference.main_arg0) = m ((c.tc : Thread Cert.Table.nD Cert.Table.τ).loc Cert.Table.main_arg0)
      ∧ m' ((c.tc : Thread Cert.TableReference.nD Cert.TableReference.τ).loc Cert.TableReference.main_arg1) = m ((c.tc : Thread Cert.Table.nD Cert.Table.τ).loc Cert.Table.main_arg1)) →
    ∃ (v0 : (c : Dev Cert.Table.nD) → Buf (Elt Bits) ((c.tc : Thread Cert.Table.nD Cert.Table.τ).loc Cert.Table.main_v2)),
      θ_run (Cert.Table.defs (F := Bits)) (onTc (τ := Cert.Table.τ) (Cert.Table.main (F := Bits))) ⟨m, fun _ => 0, g⟩ (fun r => ∀ c : Dev Cert.Table.nD,
          r.2.mem ((c.tc : Thread Cert.Table.nD Cert.Table.τ).loc Cert.Table.main_v2) = v0 c
          ∧ r.2.mem ((c.tc : Thread Cert.Table.nD Cert.Table.τ).loc Cert.Table.main_arg0) = m ((c.tc : Thread Cert.Table.nD Cert.Table.τ).loc Cert.Table.main_arg0)
          ∧ r.2.mem ((c.tc : Thread Cert.Table.nD Cert.Table.τ).loc Cert.Table.main_arg1) = m ((c.tc : Thread Cert.Table.nD Cert.Table.τ).loc Cert.Table.main_arg1))
      ∧ θ_run (Cert.TableReference.defs (F := Bits)) (onTc (τ := Cert.TableReference.τ) (Cert.TableReference.main (F := Bits))) ⟨m', fun _ => 0, g'⟩ (fun r => ∀ c : Dev Cert.TableReference.nD,
          r.2.mem ((c.tc : Thread Cert.TableReference.nD Cert.TableReference.τ).loc Cert.TableReference.main_v29) = v0 c
          ∧ r.2.mem ((c.tc : Thread Cert.TableReference.nD Cert.TableReference.τ).loc Cert.TableReference.main_arg0) = m' ((c.tc : Thread Cert.TableReference.nD Cert.TableReference.τ).loc Cert.TableReference.main_arg0)
          ∧ r.2.mem ((c.tc : Thread Cert.TableReference.nD Cert.TableReference.τ).loc Cert.TableReference.main_arg1) = m' ((c.tc : Thread Cert.TableReference.nD Cert.TableReference.τ).loc Cert.TableReference.main_arg1))

def Claim : Prop :=
  ∃ (hKernel : Cert.Kernel.Facts) (hKernelIdeal : Cert.KernelIdeal.Facts) (hReferenceIdeal : Cert.ReferenceIdeal.Facts) (hTable : Cert.Table.Facts) (hTableReference : Cert.TableReference.Facts) (hPre_gathered : Cert.Pre_gathered.Facts),
    quiescent_Kernel (hKernel := hKernel)
    ∧ quiescent_KernelIdeal (hKernelIdeal := hKernelIdeal)
    ∧ quiescent_KernelIdeal_pre_gathered (hKernelIdeal := hKernelIdeal) (hPre_gathered := hPre_gathered)
    ∧ quiescent_ReferenceIdeal (hReferenceIdeal := hReferenceIdeal)
    ∧ quiescent_ReferenceIdeal_pre_gathered (hReferenceIdeal := hReferenceIdeal) (hPre_gathered := hPre_gathered)
    ∧ quiescent_Table (hTable := hTable)
    ∧ quiescent_TableReference (hTableReference := hTableReference)
    ∧ preserves_Kernel_KernelIdeal
    ∧ algebraic_KernelIdeal_ReferenceIdeal_pre_gathered (hKernelIdeal := hKernelIdeal) (hReferenceIdeal := hReferenceIdeal) (hPre_gathered := hPre_gathered)
    ∧ bitexact_Table_TableReference (hTable := hTable) (hTableReference := hTableReference)
-- ==== Pre_gathered.lean ====
abbrev S24576 : Shape := ⟨1, ![24576]⟩
abbrev S1572864x128 : Shape := ⟨2, ![1572864, 128]⟩
abbrev S24576x256 : Shape := ⟨2, ![24576, 256]⟩
abbrev S24576x128 : Shape := ⟨2, ![24576, 128]⟩
abbrev S256 : Shape := ⟨1, ![256]⟩
abbrev S1x256 : Shape := ⟨2, ![1, 256]⟩
abbrev S24576x1 : Shape := ⟨2, ![24576, 1]⟩
abbrev S24576x256x32 : Shape := ⟨3, ![24576, 256, 32]⟩
abbrev S24576x256x3x32 : Shape := ⟨4, ![24576, 256, 3, 32]⟩
abbrev S24576x256x1x32 : Shape := ⟨4, ![24576, 256, 1, 32]⟩
abbrev S_ : Shape := ⟨0, ![]⟩
abbrev S24576x256x3x4x8 : Shape := ⟨5, ![24576, 256, 3, 4, 8]⟩
abbrev S24576x256x3x8x4 : Shape := ⟨5, ![24576, 256, 3, 8, 4]⟩
abbrev S24576x64x4x4 : Shape := ⟨4, ![24576, 64, 4, 4]⟩
abbrev S24576x64x1x4 : Shape := ⟨4, ![24576, 64, 1, 4]⟩
abbrev S24576x256x4 : Shape := ⟨3, ![24576, 256, 4]⟩
abbrev S24576x256x3 : Shape := ⟨3, ![24576, 256, 3]⟩
abbrev S24576x32 : Shape := ⟨2, ![24576, 32]⟩
abbrev S24576x3x32 : Shape := ⟨3, ![24576, 3, 32]⟩
abbrev S24576x1x32 : Shape := ⟨3, ![24576, 1, 32]⟩
abbrev S24576x3x4x8 : Shape := ⟨4, ![24576, 3, 4, 8]⟩
abbrev S24576x3x8x4 : Shape := ⟨4, ![24576, 3, 8, 4]⟩
abbrev S24576x3 : Shape := ⟨2, ![24576, 3]⟩
abbrev S24576x4x32 : Shape := ⟨3, ![24576, 4, 32]⟩
abbrev S24576x256x1x1 : Shape := ⟨4, ![24576, 256, 1, 1]⟩
abbrev S24576x256x1 : Shape := ⟨3, ![24576, 256, 1]⟩

class Facts : Prop where
  bcast_S256_S1x256_1 : S256.BroadcastsInDim S1x256 (![1] : Fin 1 → Fin S1x256.rank)
  bcast_S24576_S24576x1_0 : S24576.BroadcastsInDim S24576x1 (![0] : Fin 1 → Fin S24576x1.rank)
  bcast_S1x256_S24576x256_0_1 : S1x256.BroadcastsInDim S24576x256 (![0, 1] : Fin 2 → Fin S24576x256.rank)
  bcast_S24576x1_S24576x256_0_1 : S24576x1.BroadcastsInDim S24576x256 (![0, 1] : Fin 2 → Fin S24576x256.rank)
  shapeCasts_S1572864x128_S24576x256x32 : S1572864x128.ShapeCasts S24576x256x32
  bcast_S24576x256x32_S24576x256x1x32_0_1_3 : S24576x256x32.BroadcastsInDim S24576x256x1x32 (![0, 1, 3] : Fin 3 → Fin S24576x256x1x32.rank)
  bcast_S24576x256x1x32_S24576x256x3x32_0_1_2_3 : S24576x256x1x32.BroadcastsInDim S24576x256x3x32 (![0, 1, 2, 3] : Fin 4 → Fin S24576x256x3x32.rank)
  bcast_S_S24576x256x3x32 : S_.BroadcastsInDim S24576x256x3x32 (![] : Fin 0 → Fin S24576x256x3x32.rank)
  shapeCasts_S24576x256x3x32_S24576x256x3x4x8 : S24576x256x3x32.ShapeCasts S24576x256x3x4x8
  transposes_S24576x256x3x4x8_S24576x256x3x8x4_0_1_2_4_3 : S24576x256x3x4x8.Transposes [0, 1, 2, 4, 3] S24576x256x3x8x4
  shapeCasts_S24576x256x3x8x4_S24576x256x3x32 : S24576x256x3x8x4.ShapeCasts S24576x256x3x32
  shapeCasts_S24576x256_S24576x64x1x4 : S24576x256.ShapeCasts S24576x64x1x4
  bcast_S24576x64x1x4_S24576x64x4x4_0_1_2_3 : S24576x64x1x4.BroadcastsInDim S24576x64x4x4 (![0, 1, 2, 3] : Fin 4 → Fin S24576x64x4x4.rank)
  bcast_S_S24576x64x4x4 : S_.BroadcastsInDim S24576x64x4x4 (![] : Fin 0 → Fin S24576x64x4x4.rank)
  shapeCasts_S24576x64x4x4_S24576x256x4 : S24576x64x4x4.ShapeCasts S24576x256x4
  slices_S24576x256x4_S24576x256x3_0_0_0 : S24576x256x4.Slices ![0, 0, 0] S24576x256x3
  bcast_S_S24576x256x3 : S_.BroadcastsInDim S24576x256x3 (![] : Fin 0 → Fin S24576x256x3.rank)
  slices_S24576x128_S24576x32_0_0 : S24576x128.Slices ![0, 0] S24576x32
  bcast_S24576x32_S24576x1x32_0_2 : S24576x32.BroadcastsInDim S24576x1x32 (![0, 2] : Fin 2 → Fin S24576x1x32.rank)
  bcast_S24576x1x32_S24576x3x32_0_1_2 : S24576x1x32.BroadcastsInDim S24576x3x32 (![0, 1, 2] : Fin 3 → Fin S24576x3x32.rank)
  bcast_S_S24576x3x32 : S_.BroadcastsInDim S24576x3x32 (![] : Fin 0 → Fin S24576x3x32.rank)
  shapeCasts_S24576x3x32_S24576x3x4x8 : S24576x3x32.ShapeCasts S24576x3x4x8
  transposes_S24576x3x4x8_S24576x3x8x4_0_1_3_2 : S24576x3x4x8.Transposes [0, 1, 3, 2] S24576x3x8x4
  shapeCasts_S24576x3x8x4_S24576x3x32 : S24576x3x8x4.ShapeCasts S24576x3x32
  slices_S24576x128_S24576x3_0_0 : S24576x128.Slices ![0, 0] S24576x3
  bcast_S_S24576x3 : S_.BroadcastsInDim S24576x3 (![] : Fin 0 → Fin S24576x3.rank)
  shapeCasts_S24576x128_S24576x4x32 : S24576x128.ShapeCasts S24576x4x32
  bcast_S24576x1x32_S24576x4x32_0_1_2 : S24576x1x32.BroadcastsInDim S24576x4x32 (![0, 1, 2] : Fin 3 → Fin S24576x4x32.rank)
  bcast_S_S24576 : S_.BroadcastsInDim S24576 (![] : Fin 0 → Fin S24576.rank)
  bcast_S24576x256_S24576x256x1x1_0_1 : S24576x256.BroadcastsInDim S24576x256x1x1 (![0, 1] : Fin 2 → Fin S24576x256x1x1.rank)
  bcast_S24576x256x1x1_S24576x256x3x32_0_1_2_3 : S24576x256x1x1.BroadcastsInDim S24576x256x3x32 (![0, 1, 2, 3] : Fin 4 → Fin S24576x256x3x32.rank)
  bcast_S24576x256_S24576x256x1_0_1 : S24576x256.BroadcastsInDim S24576x256x1 (![0, 1] : Fin 2 → Fin S24576x256x1.rank)
  bcast_S24576x256x1_S24576x256x3_0_1_2 : S24576x256x1.BroadcastsInDim S24576x256x3 (![0, 1, 2] : Fin 3 → Fin S24576x256x3.rank)

variable [Facts]

def fn_part3 {F : FTy → Type} [FloatOps F] (main_arg0 : IVec S24576 32) (main_v5 : IVec S24576x256 1) (main_v21 : IVec S24576x256x3x32 1) (main_v33 : IVec S24576x256x3 1) (main_v49 : IVec S24576x3x32 1) (main_v54 : IVec S24576x3 1) (main_v55 : IVec S24576x4x32 32) (main_v58 : IVec S24576x4x32 32) : IVec S24576 1 × IVec S24576x256x3x32 1 × IVec S24576x256x3 1 × IVec S24576x3x32 1 × IVec S24576x3 1 × IVec S24576x4x32 1 :=
  let main_v59 : IVec S24576x4x32 1 := cmpi .eq main_v55 main_v58
  let main_c_12 : IVec S_ 32 := constantI S_ 32 0#32
  let main_v60 : IVec S24576 32 := broadcastInDim S24576 ![] bcast_S_S24576 main_c_12
  let main_v61 : IVec S24576 1 := cmpi .sge main_arg0 main_v60
  let main_v62 : IVec S24576x256x1x1 1 := broadcastInDim S24576x256x1x1 ![0, 1] bcast_S24576x256_S24576x256x1x1_0_1 main_v5
  let main_v63 : IVec S24576x256x1x1 1 := noti main_v62
  let main_v64 : IVec S24576x256x3x32 1 := broadcastInDim S24576x256x3x32 ![0, 1, 2, 3] bcast_S24576x256x1x1_S24576x256x3x32_0_1_2_3 main_v63
  let main_v65 : IVec S24576x256x3x32 1 := ori main_v64 main_v21
  let main_v66 : IVec S24576x256x1 1 := broadcastInDim S24576x256x1 ![0, 1] bcast_S24576x256_S24576x256x1_0_1 main_v5
  let main_v67 : IVec S24576x256x1 1 := noti main_v66
  let main_v68 : IVec S24576x256x3 1 := broadcastInDim S24576x256x3 ![0, 1, 2] bcast_S24576x256x1_S24576x256x3_0_1_2 main_v67
  let main_v69 : IVec S24576x256x3 1 := ori main_v68 main_v33
  (main_v61, main_v65, main_v69, main_v49, main_v54, main_v59)

def fn_part2 {F : FTy → Type} [FloatOps F] (main_arg0 : IVec S24576 32) (main_arg3 : IVec S24576x128 32) (main_v5 : IVec S24576x256 1) (main_v21 : IVec S24576x256x3x32 1) (main_v33 : IVec S24576x256x3 1) (main_v37 : IVec S24576x3x32 32) (main_v39 : IVec S24576x3x32 32) : IVec S24576 1 × IVec S24576x256x3x32 1 × IVec S24576x256x3 1 × IVec S24576x3x32 1 × IVec S24576x3 1 × IVec S24576x4x32 1 :=
  let main_v40 : IVec S24576x3x32 32 := Host.shrui main_v37 main_v39
  let main_c_7 : IVec S_ 32 := constantI S_ 32 255#32
  let main_v41 : IVec S24576x3x32 32 := broadcastInDim S24576x3x32 ![] bcast_S_S24576x3x32 main_c_7
  let main_v42 : IVec S24576x3x32 32 := andi main_v40 main_v41
  let main_v43 : IVec S24576x3x4x8 32 := shapeCast S24576x3x4x8 main_v42 shapeCasts_S24576x3x32_S24576x3x4x8
  let main_v44 : IVec S24576x3x8x4 32 := (transpose S24576x3x8x4 [0, 1, 3, 2] · transposes_S24576x3x4x8_S24576x3x8x4_0_1_3_2) main_v43
  let main_v45 : IVec S24576x3x32 32 := shapeCast S24576x3x32 main_v44 shapeCasts_S24576x3x8x4_S24576x3x32
  let main_c_8 : IVec S_ 32 := constantI S_ 32 127#32
  let main_v46 : IVec S24576x3x32 32 := broadcastInDim S24576x3x32 ![] bcast_S_S24576x3x32 main_c_8
  let main_v47 : IVec S24576x3x32 32 := andi main_v45 main_v46
  let main_c_9 : IVec S_ 32 := constantI S_ 32 127#32
  let main_v48 : IVec S24576x3x32 32 := broadcastInDim S24576x3x32 ![] bcast_S_S24576x3x32 main_c_9
  let main_v49 : IVec S24576x3x32 1 := cmpi .ne main_v47 main_v48
  let main_v50 : IVec S24576x3 32 := (extractStridedSlice S24576x3 ![0, 0] · slices_S24576x128_S24576x3_0_0) main_arg3
  let main_c_10 : IVec S_ 32 := constantI S_ 32 24#32
  let main_v51 : IVec S24576x3 32 := broadcastInDim S24576x3 ![] bcast_S_S24576x3 main_c_10
  let main_v52 : IVec S24576x3 32 := Host.shrui main_v50 main_v51
  let main_c_11 : IVec S_ 32 := constantI S_ 32 255#32
  let main_v53 : IVec S24576x3 32 := broadcastInDim S24576x3 ![] bcast_S_S24576x3 main_c_11
  let main_v54 : IVec S24576x3 1 := cmpi .ne main_v52 main_v53
  let main_v55 : IVec S24576x4x32 32 := shapeCast S24576x4x32 main_arg3 shapeCasts_S24576x128_S24576x4x32
  let main_v56 : IVec S24576x32 32 := (extractStridedSlice S24576x32 ![0, 0] · slices_S24576x128_S24576x32_0_0) main_arg3
  let main_v57 : IVec S24576x1x32 32 := broadcastInDim S24576x1x32 ![0, 2] bcast_S24576x32_S24576x1x32_0_2 main_v56
  let main_v58 : IVec S24576x4x32 32 := broadcastInDim S24576x4x32 ![0, 1, 2] bcast_S24576x1x32_S24576x4x32_0_1_2 main_v57
  fn_part3 (F := F) main_arg0 main_v5 main_v21 main_v33 main_v49 main_v54 main_v55 main_v58

def fn_part1 {F : FTy → Type} [FloatOps F] (main_arg0 : IVec S24576 32) (main_arg2 : IVec S24576x256 32) (main_arg3 : IVec S24576x128 32) (main_v5 : IVec S24576x256 1) (main_v19 : IVec S24576x256x3x32 32) (main_c_2 : IVec S_ 32) : IVec S24576 1 × IVec S24576x256x3x32 1 × IVec S24576x256x3 1 × IVec S24576x3x32 1 × IVec S24576x3 1 × IVec S24576x4x32 1 :=
  let main_v20 : IVec S24576x256x3x32 32 := broadcastInDim S24576x256x3x32 ![] bcast_S_S24576x256x3x32 main_c_2
  let main_v21 : IVec S24576x256x3x32 1 := cmpi .ne main_v19 main_v20
  let main_v22 : IVec S24576x64x4x4 32 := iotaInDim S24576x64x4x4 32 2
  let main_v23 : IVec S24576x64x1x4 32 := shapeCast S24576x64x1x4 main_arg2 shapeCasts_S24576x256_S24576x64x1x4
  let main_v24 : IVec S24576x64x4x4 32 := broadcastInDim S24576x64x4x4 ![0, 1, 2, 3] bcast_S24576x64x1x4_S24576x64x4x4_0_1_2_3 main_v23
  let main_c_3 : IVec S_ 32 := constantI S_ 32 8#32
  let main_v25 : IVec S24576x64x4x4 32 := broadcastInDim S24576x64x4x4 ![] bcast_S_S24576x64x4x4 main_c_3
  let main_v26 : IVec S24576x64x4x4 32 := muli main_v25 main_v22
  let main_v27 : IVec S24576x64x4x4 32 := Host.shrui main_v24 main_v26
  let main_c_4 : IVec S_ 32 := constantI S_ 32 255#32
  let main_v28 : IVec S24576x64x4x4 32 := broadcastInDim S24576x64x4x4 ![] bcast_S_S24576x64x4x4 main_c_4
  let main_v29 : IVec S24576x64x4x4 32 := andi main_v27 main_v28
  let main_v30 : IVec S24576x256x4 32 := shapeCast S24576x256x4 main_v29 shapeCasts_S24576x64x4x4_S24576x256x4
  let main_v31 : IVec S24576x256x3 32 := (extractStridedSlice S24576x256x3 ![0, 0, 0] · slices_S24576x256x4_S24576x256x3_0_0_0) main_v30
  let main_c_5 : IVec S_ 32 := constantI S_ 32 255#32
  let main_v32 : IVec S24576x256x3 32 := broadcastInDim S24576x256x3 ![] bcast_S_S24576x256x3 main_c_5
  let main_v33 : IVec S24576x256x3 1 := cmpi .ne main_v31 main_v32
  let main_v34 : IVec S24576x32 32 := (extractStridedSlice S24576x32 ![0, 0] · slices_S24576x128_S24576x32_0_0) main_arg3
  let main_v35 : IVec S24576x3x32 32 := iotaInDim S24576x3x32 32 1
  let main_v36 : IVec S24576x1x32 32 := broadcastInDim S24576x1x32 ![0, 2] bcast_S24576x32_S24576x1x32_0_2 main_v34
  let main_v37 : IVec S24576x3x32 32 := broadcastInDim S24576x3x32 ![0, 1, 2] bcast_S24576x1x32_S24576x3x32_0_1_2 main_v36
  let main_c_6 : IVec S_ 32 := constantI S_ 32 8#32
  let main_v38 : IVec S24576x3x32 32 := broadcastInDim S24576x3x32 ![] bcast_S_S24576x3x32 main_c_6
  let main_v39 : IVec S24576x3x32 32 := muli main_v38 main_v35
  fn_part2 (F := F) main_arg0 main_arg3 main_v5 main_v21 main_v33 main_v37 main_v39

def fn {F : FTy → Type} [FloatOps F] (main_arg0 : IVec S24576 32) (main_arg1 : IVec S1572864x128 32) (main_arg2 : IVec S24576x256 32) (main_arg3 : IVec S24576x128 32) : IVec S24576 1 × IVec S24576x256x3x32 1 × IVec S24576x256x3 1 × IVec S24576x3x32 1 × IVec S24576x3 1 × IVec S24576x4x32 1 :=
  let main_v0 : IVec S256 32 := iotaInDim S256 32 0
  let main_v1 : IVec S1x256 32 := broadcastInDim S1x256 ![1] bcast_S256_S1x256_1 main_v0
  let main_v2 : IVec S24576x1 32 := broadcastInDim S24576x1 ![0] bcast_S24576_S24576x1_0 main_arg0
  let main_v3 : IVec S24576x256 32 := broadcastInDim S24576x256 ![0, 1] bcast_S1x256_S24576x256_0_1 main_v1
  let main_v4 : IVec S24576x256 32 := broadcastInDim S24576x256 ![0, 1] bcast_S24576x1_S24576x256_0_1 main_v2
  let main_v5 : IVec S24576x256 1 := cmpi .slt main_v3 main_v4
  let main_v6 : IVec S24576x256x32 32 := shapeCast S24576x256x32 main_arg1 shapeCasts_S1572864x128_S24576x256x32
  let main_v7 : IVec S24576x256x3x32 32 := iotaInDim S24576x256x3x32 32 2
  let main_v8 : IVec S24576x256x1x32 32 := broadcastInDim S24576x256x1x32 ![0, 1, 3] bcast_S24576x256x32_S24576x256x1x32_0_1_3 main_v6
  let main_v9 : IVec S24576x256x3x32 32 := broadcastInDim S24576x256x3x32 ![0, 1, 2, 3] bcast_S24576x256x1x32_S24576x256x3x32_0_1_2_3 main_v8
  let main_c : IVec S_ 32 := constantI S_ 32 8#32
  let main_v10 : IVec S24576x256x3x32 32 := broadcastInDim S24576x256x3x32 ![] bcast_S_S24576x256x3x32 main_c
  let main_v11 : IVec S24576x256x3x32 32 := muli main_v10 main_v7
  let main_v12 : IVec S24576x256x3x32 32 := Host.shrui main_v9 main_v11
  let main_c_0 : IVec S_ 32 := constantI S_ 32 255#32
  let main_v13 : IVec S24576x256x3x32 32 := broadcastInDim S24576x256x3x32 ![] bcast_S_S24576x256x3x32 main_c_0
  let main_v14 : IVec S24576x256x3x32 32 := andi main_v12 main_v13
  let main_v15 : IVec S24576x256x3x4x8 32 := shapeCast S24576x256x3x4x8 main_v14 shapeCasts_S24576x256x3x32_S24576x256x3x4x8
  let main_v16 : IVec S24576x256x3x8x4 32 := (transpose S24576x256x3x8x4 [0, 1, 2, 4, 3] · transposes_S24576x256x3x4x8_S24576x256x3x8x4_0_1_2_4_3) main_v15
  let main_v17 : IVec S24576x256x3x32 32 := shapeCast S24576x256x3x32 main_v16 shapeCasts_S24576x256x3x8x4_S24576x256x3x32
  let main_c_1 : IVec S_ 32 := constantI S_ 32 127#32
  let main_v18 : IVec S24576x256x3x32 32 := broadcastInDim S24576x256x3x32 ![] bcast_S_S24576x256x3x32 main_c_1
  let main_v19 : IVec S24576x256x3x32 32 := andi main_v17 main_v18
  let main_c_2 : IVec S_ 32 := constantI S_ 32 127#32
  fn_part1 (F := F) main_arg0 main_arg2 main_arg3 main_v5 main_v19 main_c_2
-- ==== Kernel.lean ====
abbrev S24576 : Shape := ⟨1, ![24576]⟩
abbrev S1572864x128 : Shape := ⟨2, ![1572864, 128]⟩
abbrev S24576x256 : Shape := ⟨2, ![24576, 256]⟩
abbrev S24576x128 : Shape := ⟨2, ![24576, 128]⟩
abbrev S96x24576 : Shape := ⟨2, ![96, 24576]⟩
abbrev S8192x128 : Shape := ⟨2, ![8192, 128]⟩
abbrev S128x256 : Shape := ⟨2, ![128, 256]⟩
abbrev S128x128 : Shape := ⟨2, ![128, 128]⟩
abbrev S96x128 : Shape := ⟨2, ![96, 128]⟩
abbrev S512x128 : Shape := ⟨2, ![512, 128]⟩
abbrev S3x128x128 : Shape := ⟨3, ![3, 128, 128]⟩
abbrev S2x512x128 : Shape := ⟨3, ![2, 512, 128]⟩
abbrev S3x2x256x128 : Shape := ⟨4, ![3, 2, 256, 128]⟩
abbrev S128x1 : Shape := ⟨2, ![128, 1]⟩
abbrev S1x128x128 : Shape := ⟨3, ![1, 128, 128]⟩
abbrev S8x256 : Shape := ⟨2, ![8, 256]⟩
abbrev S64x128 : Shape := ⟨2, ![64, 128]⟩
abbrev S1 : Shape := ⟨1, ![1]⟩
abbrev S256x128 : Shape := ⟨2, ![256, 128]⟩
abbrev S256x256 : Shape := ⟨2, ![256, 256]⟩
abbrev S1x1x128 : Shape := ⟨3, ![1, 1, 128]⟩
abbrev S1x128 : Shape := ⟨2, ![1, 128]⟩
abbrev S8x128 : Shape := ⟨2, ![8, 128]⟩
abbrev S24x256 : Shape := ⟨2, ![24, 256]⟩
abbrev S1x8x128 : Shape := ⟨3, ![1, 8, 128]⟩
abbrev S16x128 : Shape := ⟨2, ![16, 128]⟩
abbrev S1x16x128 : Shape := ⟨3, ![1, 16, 128]⟩
abbrev S16 : Shape := ⟨1, ![16]⟩
abbrev S16x1 : Shape := ⟨2, ![16, 1]⟩
abbrev S4x128 : Shape := ⟨2, ![4, 128]⟩
abbrev S1x1x4x128 : Shape := ⟨4, ![1, 1, 4, 128]⟩
abbrev S1x1x64x128 : Shape := ⟨4, ![1, 1, 64, 128]⟩

abbrev nBuf : Space → Nat
  | .hbm => 6
  | .vmem => 18
  | .smem => 1
  | _ => 0

abbrev bufTy : (tb : Table) → Fin (tcTables nBuf tb) → BufTy
  | .hbm, ⟨0, _⟩ => ⟨S24576, .i32⟩
  | .hbm, ⟨1, _⟩ => ⟨S1572864x128, .i32⟩
  | .hbm, ⟨2, _⟩ => ⟨S24576x256, .i32⟩
  | .hbm, ⟨3, _⟩ => ⟨S24576x128, .i32⟩
  | .hbm, ⟨4, _⟩ => ⟨S24576x256, .f32⟩
  | .hbm, ⟨5, _⟩ => ⟨S96x24576, .bf16⟩
  | .local _ .vmem, ⟨0, _⟩ => ⟨S8192x128, .i32⟩
  | .local _ .vmem, ⟨1, _⟩ => ⟨S8192x128, .i32⟩
  | .local _ .vmem, ⟨2, _⟩ => ⟨S128x256, .i32⟩
  | .local _ .vmem, ⟨3, _⟩ => ⟨S128x256, .i32⟩
  | .local _ .vmem, ⟨4, _⟩ => ⟨S128x128, .i32⟩
  | .local _ .vmem, ⟨5, _⟩ => ⟨S128x128, .i32⟩
  | .local _ .vmem, ⟨6, _⟩ => ⟨S128x256, .f32⟩
  | .local _ .vmem, ⟨7, _⟩ => ⟨S128x256, .f32⟩
  | .local _ .vmem, ⟨8, _⟩ => ⟨S96x128, .bf16⟩
  | .local _ .vmem, ⟨9, _⟩ => ⟨S96x128, .bf16⟩
  | .local _ .vmem, ⟨10, _⟩ => ⟨S512x128, .f32⟩
  | .local _ .vmem, ⟨11, _⟩ => ⟨S3x128x128, .f32⟩
  | .local _ .vmem, ⟨12, _⟩ => ⟨S2x512x128, .f32⟩
  | .local _ .vmem, ⟨13, _⟩ => ⟨S128x128, .i32⟩
  | .local _ .vmem, ⟨14, _⟩ => ⟨S2x512x128, .f32⟩
  | .local _ .vmem, ⟨15, _⟩ => ⟨S3x2x256x128, .f32⟩
  | .local _ .vmem, ⟨16, _⟩ => ⟨S128x128, .f32⟩
  | .local _ .vmem, ⟨17, _⟩ => ⟨S96x128, .f32⟩
  | .local _ .smem, ⟨0, _⟩ => ⟨S24576, .i32⟩
  | _, _ => ⟨S24576, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_scratch6 : Ref sig .tc := ⟨.vmem, 16, rfl⟩
abbrev cc0_scratch7 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![192], ![false]⟩

@[reducible] def k0_t1_loop : Scf.Loop 32 :=
  let c0_i32_35 : BitVec 32 := 0#32
  let c64_i32 : BitVec 32 := 64#32
  let v107 : BitVec 32 := Scalar.addi c0_i32_35 c64_i32
  let c1_i32_36 : BitVec 32 := 1#32
  ⟨c0_i32_35, v107, c1_i32_36⟩
def k0_off1 (k0_t1 : Fin k0_t1_loop.trips) (c0_i32_213 : BitVec 32) : Fin 2 → Nat :=
  let c2_i32_212 : BitVec 32 := 2#32
  let c0_i32_211 : BitVec 32 := 0#32
  let c0_i32_35 : BitVec 32 := 0#32
  let c1_i32_36 : BitVec 32 := 1#32
  let arg15 : BitVec 32 := Scf.iv c0_i32_35 c1_i32_36 k0_t1
  let c1_i32_210 : BitVec 32 := 1#32
  let v343 : BitVec 32 := Scalar.muli arg15 c1_i32_210
  let v344 : BitVec 32 := Scalar.addi c0_i32_211 v343
  let v345 : BitVec 32 := Scalar.muli c2_i32_212 v344
  let v346 : BitVec 32 := Scalar.addi v345 c0_i32_213
  let c64_i32_214 : BitVec 32 := 64#32
  let v347 : BitVec 32 := Scalar.muli v346 c64_i32_214
  let v348 : Index := Scalar.indexCast v347
  let c0_215 : Index := 0#32
  ![v348.toNat, 0]
def k0_off2 (i : grid0.Coords) (k0_t1 : Fin k0_t1_loop.trips) (c0_i32_217 : BitVec 32) : Fin 1 → Nat :=
  let arg0 : BitVec 32 := BitVec.ofNat 32 (i 0).val
  let c128_i32 : BitVec 32 := 128#32
  let v350 : BitVec 32 := Scalar.muli arg0 c128_i32
  let c2_i32_216 : BitVec 32 := 2#32
  let c0_i32_211 : BitVec 32 := 0#32
  let c0_i32_35 : BitVec 32 := 0#32
  let c1_i32_36 : BitVec 32 := 1#32
  let arg15 : BitVec 32 := Scf.iv c0_i32_35 c1_i32_36 k0_t1
  let c1_i32_210 : BitVec 32 := 1#32
  let v343 : BitVec 32 := Scalar.muli arg15 c1_i32_210
  let v344 : BitVec 32 := Scalar.addi c0_i32_211 v343
  let v351 : BitVec 32 := Scalar.muli c2_i32_216 v344
  let v352 : BitVec 32 := Scalar.addi v350 v351
  let v353 : BitVec 32 := Scalar.addi v352 c0_i32_217
  let v354 : Index := Scalar.indexCast v353
  ![v354.toNat]
def k0_off3 (k0_t1 : Fin k0_t1_loop.trips) (c0_i32_230 : BitVec 32) : Fin 3 → Nat :=
  let c0_231 : Index := 0#32
  let c2_i32_229 : BitVec 32 := 2#32
  let c0_i32_211 : BitVec 32 := 0#32
  let c0_i32_35 : BitVec 32 := 0#32
  let c1_i32_36 : BitVec 32 := 1#32
  let arg15 : BitVec 32 := Scf.iv c0_i32_35 c1_i32_36 k0_t1
  let c1_i32_210 : BitVec 32 := 1#32
  let v343 : BitVec 32 := Scalar.muli arg15 c1_i32_210
  let v344 : BitVec 32 := Scalar.addi c0_i32_211 v343
  let v382 : BitVec 32 := Scalar.muli c2_i32_229 v344
  let v383 : BitVec 32 := Scalar.addi v382 c0_i32_230
  let v384 : Index := Scalar.indexCast v383
  let c0_232 : Index := 0#32
  ![0, v384.toNat, 0]
def k0_off4 (k0_t1 : Fin k0_t1_loop.trips) (c0_i32_238 : BitVec 32) : Fin 3 → Nat :=
  let c1_239 : Index := 1#32
  let c2_i32_237 : BitVec 32 := 2#32
  let c0_i32_211 : BitVec 32 := 0#32
  let c0_i32_35 : BitVec 32 := 0#32
  let c1_i32_36 : BitVec 32 := 1#32
  let arg15 : BitVec 32 := Scf.iv c0_i32_35 c1_i32_36 k0_t1
  let c1_i32_210 : BitVec 32 := 1#32
  let v343 : BitVec 32 := Scalar.muli arg15 c1_i32_210
  let v344 : BitVec 32 := Scalar.addi c0_i32_211 v343
  let v400 : BitVec 32 := Scalar.muli c2_i32_237 v344
  let v401 : BitVec 32 := Scalar.addi v400 c0_i32_238
  let v402 : Index := Scalar.indexCast v401
  let c0_240 : Index := 0#32
  ![1, v402.toNat, 0]
def k0_off5 (k0_t1 : Fin k0_t1_loop.trips) (c0_i32_247 : BitVec 32) : Fin 3 → Nat :=
  let c2_248 : Index := 2#32
  let c2_i32_246 : BitVec 32 := 2#32
  let c0_i32_211 : BitVec 32 := 0#32
  let c0_i32_35 : BitVec 32 := 0#32
  let c1_i32_36 : BitVec 32 := 1#32
  let arg15 : BitVec 32 := Scf.iv c0_i32_35 c1_i32_36 k0_t1
  let c1_i32_210 : BitVec 32 := 1#32
  let v343 : BitVec 32 := Scalar.muli arg15 c1_i32_210
  let v344 : BitVec 32 := Scalar.addi c0_i32_211 v343
  let v418 : BitVec 32 := Scalar.muli c2_i32_246 v344
  let v419 : BitVec 32 := Scalar.addi v418 c0_i32_247
  let v420 : Index := Scalar.indexCast v419
  let c0_249 : Index := 0#32
  ![2, v420.toNat, 0]
def k0_off6 (k0_t1 : Fin k0_t1_loop.trips) : Fin 3 → Nat :=
  let c0_259 : Index := 0#32
  let c0_i32_211 : BitVec 32 := 0#32
  let c0_i32_35 : BitVec 32 := 0#32
  let c1_i32_36 : BitVec 32 := 1#32
  let arg15 : BitVec 32 := Scf.iv c0_i32_35 c1_i32_36 k0_t1
  let c1_i32_210 : BitVec 32 := 1#32
  let v343 : BitVec 32 := Scalar.muli arg15 c1_i32_210
  let v344 : BitVec 32 := Scalar.addi c0_i32_211 v343
  let c8_i32_258 : BitVec 32 := 8#32
  let v448 : BitVec 32 := Scalar.muli v344 c8_i32_258
  let v449 : Index := Scalar.indexCast v448
  let c0_260 : Index := 0#32
  ![0, v449.toNat, 0]
def k0_off7 (k0_t1 : Fin k0_t1_loop.trips) : Fin 3 → Nat :=
  let c1_262 : Index := 1#32
  let c0_i32_211 : BitVec 32 := 0#32
  let c0_i32_35 : BitVec 32 := 0#32
  let c1_i32_36 : BitVec 32 := 1#32
  let arg15 : BitVec 32 := Scf.iv c0_i32_35 c1_i32_36 k0_t1
  let c1_i32_210 : BitVec 32 := 1#32
  let v343 : BitVec 32 := Scalar.muli arg15 c1_i32_210
  let v344 : BitVec 32 := Scalar.addi c0_i32_211 v343
  let c8_i32_261 : BitVec 32 := 8#32
  let v454 : BitVec 32 := Scalar.muli v344 c8_i32_261
  let v455 : Index := Scalar.indexCast v454
  let c0_263 : Index := 0#32
  ![1, v455.toNat, 0]
def k0_off8 (k0_t1 : Fin k0_t1_loop.trips) (c0_i32_268 : BitVec 32) : Fin 2 → Nat :=
  let c2_i32_267 : BitVec 32 := 2#32
  let c0_i32_211 : BitVec 32 := 0#32
  let c0_i32_35 : BitVec 32 := 0#32
  let c1_i32_36 : BitVec 32 := 1#32
  let arg15 : BitVec 32 := Scf.iv c0_i32_35 c1_i32_36 k0_t1
  let c1_i32_210 : BitVec 32 := 1#32
  let v343 : BitVec 32 := Scalar.muli arg15 c1_i32_210
  let v344 : BitVec 32 := Scalar.addi c0_i32_211 v343
  let v466 : BitVec 32 := Scalar.muli c2_i32_267 v344
  let v467 : BitVec 32 := Scalar.addi v466 c0_i32_268
  let v468 : Index := Scalar.indexCast v467
  let c0_269 : Index := 0#32
  ![v468.toNat, 0]
@[reducible] def k0_t2_loop : Scf.Loop 32 :=
  let c0_i32_41 : BitVec 32 := 0#32
  let c8_i32 : BitVec 32 := 8#32
  let v119 : BitVec 32 := Scalar.addi c0_i32_41 c8_i32
  let c1_i32_42 : BitVec 32 := 1#32
  ⟨c0_i32_41, v119, c1_i32_42⟩
def k0_off9 (k0_t2 : Fin k0_t2_loop.trips) : Fin 2 → Nat :=
  let c0_i32_211 : BitVec 32 := 0#32
  let c0_i32_41 : BitVec 32 := 0#32
  let c1_i32_42 : BitVec 32 := 1#32
  let arg15 : BitVec 32 := Scf.iv c0_i32_41 c1_i32_42 k0_t2
  let c1_i32_210 : BitVec 32 := 1#32
  let v343 : BitVec 32 := Scalar.muli arg15 c1_i32_210
  let v344 : BitVec 32 := Scalar.addi c0_i32_211 v343
  let c16_i32 : BitVec 32 := 16#32
  let v345 : BitVec 32 := Scalar.muli v344 c16_i32
  let v346 : Index := Scalar.indexCast v345
  let c0_212 : Index := 0#32
  ![v346.toNat, 0]
def k0_off10 (k0_t2 : Fin k0_t2_loop.trips) : Fin 2 → Nat :=
  let c0_i32_211 : BitVec 32 := 0#32
  let c0_i32_41 : BitVec 32 := 0#32
  let c1_i32_42 : BitVec 32 := 1#32
  let arg15 : BitVec 32 := Scf.iv c0_i32_41 c1_i32_42 k0_t2
  let c1_i32_210 : BitVec 32 := 1#32
  let v343 : BitVec 32 := Scalar.muli arg15 c1_i32_210
  let v344 : BitVec 32 := Scalar.addi c0_i32_211 v343
  let c16_i32 : BitVec 32 := 16#32
  let v345 : BitVec 32 := Scalar.muli v344 c16_i32
  let v348 : Index := Scalar.indexCast v345
  let c0_213 : Index := 0#32
  ![v348.toNat, 0]
def k0_off11 (k0_t2 : Fin k0_t2_loop.trips) (c0_i32_218 : BitVec 32) : Fin 3 → Nat :=
  let c0_219 : Index := 0#32
  let c0_i32_211 : BitVec 32 := 0#32
  let c0_i32_41 : BitVec 32 := 0#32
  let c1_i32_42 : BitVec 32 := 1#32
  let arg15 : BitVec 32 := Scf.iv c0_i32_41 c1_i32_42 k0_t2
  let c1_i32_210 : BitVec 32 := 1#32
  let v343 : BitVec 32 := Scalar.muli arg15 c1_i32_210
  let v344 : BitVec 32 := Scalar.addi c0_i32_211 v343
  let c16_i32 : BitVec 32 := 16#32
  let v345 : BitVec 32 := Scalar.muli v344 c16_i32
  let c4_i32_217 : BitVec 32 := 4#32
  let v364 : BitVec 32 := Scalar.muli v345 c4_i32_217
  let v365 : BitVec 32 := Scalar.addi v364 c0_i32_218
  let v366 : Index := Scalar.indexCast v365
  let c0_220 : Index := 0#32
  ![0, v366.toNat, 0]
def k0_off12 (k0_t2 : Fin k0_t2_loop.trips) : Fin 2 → Nat :=
  let c0_i32_211 : BitVec 32 := 0#32
  let c0_i32_41 : BitVec 32 := 0#32
  let c1_i32_42 : BitVec 32 := 1#32
  let arg15 : BitVec 32 := Scf.iv c0_i32_41 c1_i32_42 k0_t2
  let c1_i32_210 : BitVec 32 := 1#32
  let v343 : BitVec 32 := Scalar.muli arg15 c1_i32_210
  let v344 : BitVec 32 := Scalar.addi c0_i32_211 v343
  let c16_i32 : BitVec 32 := 16#32
  let v345 : BitVec 32 := Scalar.muli v344 c16_i32
  let v490 : Index := Scalar.indexCast v345
  let c128 : Index := 128#32
  ![v490.toNat, 128]
def k0_off13 (k0_t2 : Fin k0_t2_loop.trips) (c0_i32_285 : BitVec 32) : Fin 3 → Nat :=
  let c1_286 : Index := 1#32
  let c0_i32_211 : BitVec 32 := 0#32
  let c0_i32_41 : BitVec 32 := 0#32
  let c1_i32_42 : BitVec 32 := 1#32
  let arg15 : BitVec 32 := Scf.iv c0_i32_41 c1_i32_42 k0_t2
  let c1_i32_210 : BitVec 32 := 1#32
  let v343 : BitVec 32 := Scalar.muli arg15 c1_i32_210
  let v344 : BitVec 32 := Scalar.addi c0_i32_211 v343
  let c16_i32 : BitVec 32 := 16#32
  let v345 : BitVec 32 := Scalar.muli v344 c16_i32
  let c4_i32_284 : BitVec 32 := 4#32
  let v506 : BitVec 32 := Scalar.muli v345 c4_i32_284
  let v507 : BitVec 32 := Scalar.addi v506 c0_i32_285
  let v508 : Index := Scalar.indexCast v507
  let c0_287 : Index := 0#32
  ![1, v508.toNat, 0]
@[reducible] def k0_t3_loop : Scf.Loop 32 :=
  let c0_i32_44 : BitVec 32 := 0#32
  let c64_i32_45 : BitVec 32 := 64#32
  let v120 : BitVec 32 := Scalar.addi c0_i32_44 c64_i32_45
  let c1_i32_46 : BitVec 32 := 1#32
  ⟨c0_i32_44, v120, c1_i32_46⟩
def k0_off14 (k0_t3 : Fin k0_t3_loop.trips) (c0_i32_213 : BitVec 32) : Fin 2 → Nat :=
  let c2_i32_212 : BitVec 32 := 2#32
  let c0_i32_211 : BitVec 32 := 0#32
  let c0_i32_44 : BitVec 32 := 0#32
  let c1_i32_46 : BitVec 32 := 1#32
  let arg15 : BitVec 32 := Scf.iv c0_i32_44 c1_i32_46 k0_t3
  let c1_i32_210 : BitVec 32 := 1#32
  let v343 : BitVec 32 := Scalar.muli arg15 c1_i32_210
  let v344 : BitVec 32 := Scalar.addi c0_i32_211 v343
  let v345 : BitVec 32 := Scalar.muli c2_i32_212 v344
  let v346 : BitVec 32 := Scalar.addi v345 c0_i32_213
  let c64_i32_214 : BitVec 32 := 64#32
  let v347 : BitVec 32 := Scalar.muli v346 c64_i32_214
  let v348 : Index := Scalar.indexCast v347
  let c0_215 : Index := 0#32
  ![v348.toNat, 0]
def k0_off15 (i : grid0.Coords) (k0_t3 : Fin k0_t3_loop.trips) (c0_i32_217 : BitVec 32) : Fin 1 → Nat :=
  let arg0 : BitVec 32 := BitVec.ofNat 32 (i 0).val
  let c128_i32 : BitVec 32 := 128#32
  let v350 : BitVec 32 := Scalar.muli arg0 c128_i32
  let c2_i32_216 : BitVec 32 := 2#32
  let c0_i32_211 : BitVec 32 := 0#32
  let c0_i32_44 : BitVec 32 := 0#32
  let c1_i32_46 : BitVec 32 := 1#32
  let arg15 : BitVec 32 := Scf.iv c0_i32_44 c1_i32_46 k0_t3
  let c1_i32_210 : BitVec 32 := 1#32
  let v343 : BitVec 32 := Scalar.muli arg15 c1_i32_210
  let v344 : BitVec 32 := Scalar.addi c0_i32_211 v343
  let v351 : BitVec 32 := Scalar.muli c2_i32_216 v344
  let v352 : BitVec 32 := Scalar.addi v350 v351
  let v353 : BitVec 32 := Scalar.addi v352 c0_i32_217
  let v354 : Index := Scalar.indexCast v353
  ![v354.toNat]
def k0_off16 (k0_t3 : Fin k0_t3_loop.trips) : Fin 3 → Nat :=
  let c0_230 : Index := 0#32
  let c0_i32_211 : BitVec 32 := 0#32
  let c0_i32_44 : BitVec 32 := 0#32
  let c1_i32_46 : BitVec 32 := 1#32
  let arg15 : BitVec 32 := Scf.iv c0_i32_44 c1_i32_46 k0_t3
  let c1_i32_210 : BitVec 32 := 1#32
  let v343 : BitVec 32 := Scalar.muli arg15 c1_i32_210
  let v344 : BitVec 32 := Scalar.addi c0_i32_211 v343
  let c8_i32_229 : BitVec 32 := 8#32
  let v382 : BitVec 32 := Scalar.muli v344 c8_i32_229
  let v383 : Index := Scalar.indexCast v382
  let c0_231 : Index := 0#32
  ![0, v383.toNat, 0]
def k0_off17 (k0_t3 : Fin k0_t3_loop.trips) : Fin 3 → Nat :=
  let c1_233 : Index := 1#32
  let c0_i32_211 : BitVec 32 := 0#32
  let c0_i32_44 : BitVec 32 := 0#32
  let c1_i32_46 : BitVec 32 := 1#32
  let arg15 : BitVec 32 := Scf.iv c0_i32_44 c1_i32_46 k0_t3
  let c1_i32_210 : BitVec 32 := 1#32
  let v343 : BitVec 32 := Scalar.muli arg15 c1_i32_210
  let v344 : BitVec 32 := Scalar.addi c0_i32_211 v343
  let c8_i32_232 : BitVec 32 := 8#32
  let v386 : BitVec 32 := Scalar.muli v344 c8_i32_232
  let v387 : Index := Scalar.indexCast v386
  let c0_234 : Index := 0#32
  ![1, v387.toNat, 0]
def k0_off18 (k0_t3 : Fin k0_t3_loop.trips) : Fin 4 → Nat :=
  let c0_242 : Index := 0#32
  let c0_243 : Index := 0#32
  let c0_i32_211 : BitVec 32 := 0#32
  let c0_i32_44 : BitVec 32 := 0#32
  let c1_i32_46 : BitVec 32 := 1#32
  let arg15 : BitVec 32 := Scf.iv c0_i32_44 c1_i32_46 k0_t3
  let c1_i32_210 : BitVec 32 := 1#32
  let v343 : BitVec 32 := Scalar.muli arg15 c1_i32_210
  let v344 : BitVec 32 := Scalar.addi c0_i32_211 v343
  let c4_i32_241 : BitVec 32 := 4#32
  let v409 : BitVec 32 := Scalar.muli v344 c4_i32_241
  let v410 : Index := Scalar.indexCast v409
  let c0_244 : Index := 0#32
  ![0, 0, v410.toNat, 0]
def k0_off19 (k0_t3 : Fin k0_t3_loop.trips) : Fin 4 → Nat :=
  let c0_246 : Index := 0#32
  let c1_247 : Index := 1#32
  let c0_i32_211 : BitVec 32 := 0#32
  let c0_i32_44 : BitVec 32 := 0#32
  let c1_i32_46 : BitVec 32 := 1#32
  let arg15 : BitVec 32 := Scf.iv c0_i32_44 c1_i32_46 k0_t3
  let c1_i32_210 : BitVec 32 := 1#32
  let v343 : BitVec 32 := Scalar.muli arg15 c1_i32_210
  let v344 : BitVec 32 := Scalar.addi c0_i32_211 v343
  let c4_i32_245 : BitVec 32 := 4#32
  let v415 : BitVec 32 := Scalar.muli v344 c4_i32_245
  let v416 : Index := Scalar.indexCast v415
  let c0_248 : Index := 0#32
  ![0, 1, v416.toNat, 0]
def k0_off20 (k0_t3 : Fin k0_t3_loop.trips) : Fin 4 → Nat :=
  let c1_250 : Index := 1#32
  let c0_251 : Index := 0#32
  let c0_i32_211 : BitVec 32 := 0#32
  let c0_i32_44 : BitVec 32 := 0#32
  let c1_i32_46 : BitVec 32 := 1#32
  let arg15 : BitVec 32 := Scf.iv c0_i32_44 c1_i32_46 k0_t3
  let c1_i32_210 : BitVec 32 := 1#32
  let v343 : BitVec 32 := Scalar.muli arg15 c1_i32_210
  let v344 : BitVec 32 := Scalar.addi c0_i32_211 v343
  let c4_i32_249 : BitVec 32 := 4#32
  let v421 : BitVec 32 := Scalar.muli v344 c4_i32_249
  let v422 : Index := Scalar.indexCast v421
  let c0_252 : Index := 0#32
  ![1, 0, v422.toNat, 0]
def k0_off21 (k0_t3 : Fin k0_t3_loop.trips) : Fin 4 → Nat :=
  let c1_254 : Index := 1#32
  let c1_255 : Index := 1#32
  let c0_i32_211 : BitVec 32 := 0#32
  let c0_i32_44 : BitVec 32 := 0#32
  let c1_i32_46 : BitVec 32 := 1#32
  let arg15 : BitVec 32 := Scf.iv c0_i32_44 c1_i32_46 k0_t3
  let c1_i32_210 : BitVec 32 := 1#32
  let v343 : BitVec 32 := Scalar.muli arg15 c1_i32_210
  let v344 : BitVec 32 := Scalar.addi c0_i32_211 v343
  let c4_i32_253 : BitVec 32 := 4#32
  let v427 : BitVec 32 := Scalar.muli v344 c4_i32_253
  let v428 : Index := Scalar.indexCast v427
  let c0_256 : Index := 0#32
  ![1, 1, v428.toNat, 0]
def k0_off22 (k0_t3 : Fin k0_t3_loop.trips) : Fin 4 → Nat :=
  let c2_258 : Index := 2#32
  let c0_259 : Index := 0#32
  let c0_i32_211 : BitVec 32 := 0#32
  let c0_i32_44 : BitVec 32 := 0#32
  let c1_i32_46 : BitVec 32 := 1#32
  let arg15 : BitVec 32 := Scf.iv c0_i32_44 c1_i32_46 k0_t3
  let c1_i32_210 : BitVec 32 := 1#32
  let v343 : BitVec 32 := Scalar.muli arg15 c1_i32_210
  let v344 : BitVec 32 := Scalar.addi c0_i32_211 v343
  let c4_i32_257 : BitVec 32 := 4#32
  let v433 : BitVec 32 := Scalar.muli v344 c4_i32_257
  let v434 : Index := Scalar.indexCast v433
  let c0_260 : Index := 0#32
  ![2, 0, v434.toNat, 0]
def k0_off23 (k0_t3 : Fin k0_t3_loop.trips) : Fin 4 → Nat :=
  let c2_262 : Index := 2#32
  let c1_263 : Index := 1#32
  let c0_i32_211 : BitVec 32 := 0#32
  let c0_i32_44 : BitVec 32 := 0#32
  let c1_i32_46 : BitVec 32 := 1#32
  let arg15 : BitVec 32 := Scf.iv c0_i32_44 c1_i32_46 k0_t3
  let c1_i32_210 : BitVec 32 := 1#32
  let v343 : BitVec 32 := Scalar.muli arg15 c1_i32_210
  let v344 : BitVec 32 := Scalar.addi c0_i32_211 v343
  let c4_i32_261 : BitVec 32 := 4#32
  let v439 : BitVec 32 := Scalar.muli v344 c4_i32_261
  let v440 : Index := Scalar.indexCast v439
  let c0_264 : Index := 0#32
  ![2, 1, v440.toNat, 0]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S24576 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S96x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S24576 : Shape := ⟨1, ![24576]⟩
abbrev S1572864x128 : Shape := ⟨2, ![1572864, 128]⟩
abbrev S24576x256 : Shape := ⟨2, ![24576, 256]⟩
abbrev S24576x128 : Shape := ⟨2, ![24576, 128]⟩
abbrev S24576x32 : Shape := ⟨2, ![24576, 32]⟩
abbrev S24576x3x32 : Shape := ⟨3, ![24576, 3, 32]⟩
abbrev S24576x1x32 : Shape := ⟨3, ![24576, 1, 32]⟩
abbrev S_ : Shape := ⟨0, ![]⟩
abbrev S24576x3x4x8 : Shape := ⟨4, ![24576, 3, 4, 8]⟩
abbrev S24576x3x8x4 : Shape := ⟨4, ![24576, 3, 8, 4]⟩
abbrev S24576x3 : Shape := ⟨2, ![24576, 3]⟩
abbrev S24576x3x1 : Shape := ⟨3, ![24576, 3, 1]⟩
abbrev S24576x256x32 : Shape := ⟨3, ![24576, 256, 32]⟩
abbrev S24576x256x3x32 : Shape := ⟨4, ![24576, 256, 3, 32]⟩
abbrev S24576x256x1x32 : Shape := ⟨4, ![24576, 256, 1, 32]⟩
abbrev S24576x256x3x4x8 : Shape := ⟨5, ![24576, 256, 3, 4, 8]⟩
abbrev S24576x256x3x8x4 : Shape := ⟨5, ![24576, 256, 3, 8, 4]⟩
abbrev S24576x64x4x4 : Shape := ⟨4, ![24576, 64, 4, 4]⟩
abbrev S24576x64x1x4 : Shape := ⟨4, ![24576, 64, 1, 4]⟩
abbrev S24576x256x4 : Shape := ⟨3, ![24576, 256, 4]⟩
abbrev S24576x256x3 : Shape := ⟨3, ![24576, 256, 3]⟩
abbrev S256 : Shape := ⟨1, ![256]⟩
abbrev S1x256 : Shape := ⟨2, ![1, 256]⟩
abbrev S24576x1 : Shape := ⟨2, ![24576, 1]⟩
abbrev S24576x3x256 : Shape := ⟨3, ![24576, 3, 256]⟩
abbrev S24576x256x1 : Shape := ⟨3, ![24576, 256, 1]⟩
abbrev S24576x96 : Shape := ⟨2, ![24576, 96]⟩
abbrev S96x24576 : Shape := ⟨2, ![96, 24576]⟩

abbrev nBuf : Space → Nat
  | .hbm => 247
  | .vmem => 0
  | .smem => 0
  | _ => 0

abbrev hbmTy0_0 (i : Nat) : BufTy := match i % 128 with
  | 0 => ⟨S24576, .i32⟩
  | 1 => ⟨S1572864x128, .i32⟩
  | 2 => ⟨S24576x256, .i32⟩
  | 3 => ⟨S24576x128, .i32⟩
  | 4 => ⟨S24576x32, .i32⟩
  | 5 => ⟨S24576x3x32, .i32⟩
  | 6 => ⟨S24576x1x32, .i32⟩
  | 7 => ⟨S24576x3x32, .i32⟩
  | 8 => ⟨S_, .i32⟩
  | 9 => ⟨S24576x3x32, .i32⟩
  | 10 => ⟨S24576x3x32, .i32⟩
  | 11 => ⟨S24576x3x32, .i32⟩
  | 12 => ⟨S_, .i32⟩
  | 13 => ⟨S24576x3x32, .i32⟩
  | 14 => ⟨S24576x3x32, .i32⟩
  | 15 => ⟨S24576x3x4x8, .i32⟩
  | 16 => ⟨S24576x3x8x4, .i32⟩
  | 17 => ⟨S24576x3x32, .i32⟩
  | 18 => ⟨S_, .i32⟩
  | 19 => ⟨S24576x3x32, .i32⟩
  | 20 => ⟨S24576x3x32, .i32⟩
  | 21 => ⟨S_, .i32⟩
  | 22 => ⟨S24576x3x32, .i32⟩
  | 23 => ⟨S24576x3x32, .i32⟩
  | 24 => ⟨S_, .i32⟩
  | 25 => ⟨S24576x3x32, .i32⟩
  | 26 => ⟨S24576x3x32, .i32⟩
  | 27 => ⟨S_, .i32⟩
  | 28 => ⟨S24576x3x32, .i32⟩
  | 29 => ⟨S24576x3x32, .i1⟩
  | 30 => ⟨S_, .f32⟩
  | 31 => ⟨S_, .f32⟩
  | 32 => ⟨S24576x3x32, .f32⟩
  | 33 => ⟨S24576x3x32, .f32⟩
  | 34 => ⟨S24576x3x32, .f32⟩
  | 35 => ⟨S_, .i32⟩
  | 36 => ⟨S24576x3x32, .i32⟩
  | 37 => ⟨S24576x3x32, .i1⟩
  | 38 => ⟨S_, .i32⟩
  | 39 => ⟨S24576x3x32, .i32⟩
  | 40 => ⟨S24576x3x32, .i32⟩
  | 41 => ⟨S24576x3x32, .i32⟩
  | 42 => ⟨S24576x3x32, .f32⟩
  | 43 => ⟨S_, .i32⟩
  | 44 => ⟨S24576x3x32, .i32⟩
  | 45 => ⟨S24576x3x32, .i32⟩
  | 46 => ⟨S_, .i32⟩
  | 47 => ⟨S24576x3x32, .i32⟩
  | 48 => ⟨S24576x3x32, .i32⟩
  | 49 => ⟨S24576x3x32, .f32⟩
  | 50 => ⟨S_, .f32⟩
  | 51 => ⟨S24576x3x32, .f32⟩
  | 52 => ⟨S24576x3x32, .f32⟩
  | 53 => ⟨S24576x3x32, .f32⟩
  | 54 => ⟨S24576x3x32, .f32⟩
  | 55 => ⟨S24576x3x32, .f32⟩
  | 56 => ⟨S_, .i32⟩
  | 57 => ⟨S24576x3x32, .i32⟩
  | 58 => ⟨S24576x3x32, .i32⟩
  | 59 => ⟨S_, .i32⟩
  | 60 => ⟨S24576x3x32, .i32⟩
  | 61 => ⟨S24576x3x32, .i1⟩
  | 62 => ⟨S_, .f32⟩
  | 63 => ⟨S_, .f32⟩
  | 64 => ⟨S24576x3x32, .f32⟩
  | 65 => ⟨S24576x3x32, .f32⟩
  | 66 => ⟨S24576x3, .i32⟩
  | 67 => ⟨S_, .i32⟩
  | 68 => ⟨S24576x3, .i32⟩
  | 69 => ⟨S24576x3, .i32⟩
  | 70 => ⟨S_, .i32⟩
  | 71 => ⟨S24576x3, .i32⟩
  | 72 => ⟨S24576x3, .i1⟩
  | 73 => ⟨S_, .i32⟩
  | 74 => ⟨S24576x3, .i32⟩
  | 75 => ⟨S24576x3, .i32⟩
  | 76 => ⟨S24576x3, .f32⟩
  | 77 => ⟨S_, .f32⟩
  | 78 => ⟨S24576x3, .f32⟩
  | 79 => ⟨S24576x3, .f32⟩
  | 80 => ⟨S_, .f32⟩
  | 81 => ⟨S_, .f32⟩
  | 82 => ⟨S24576x3, .f32⟩
  | 83 => ⟨S24576x3, .f32⟩
  | 84 => ⟨S_, .i32⟩
  | 85 => ⟨S24576x3, .i32⟩
  | 86 => ⟨S24576x3, .i1⟩
  | 87 => ⟨S_, .f32⟩
  | 88 => ⟨S_, .f32⟩
  | 89 => ⟨S24576x3, .f32⟩
  | 90 => ⟨S24576x3, .f32⟩
  | 91 => ⟨S24576x3x32, .bf16⟩
  | 92 => ⟨S24576x3, .bf16⟩
  | 93 => ⟨S24576x3x1, .bf16⟩
  | 94 => ⟨S24576x3x32, .bf16⟩
  | 95 => ⟨S24576x3x32, .bf16⟩
  | 96 => ⟨S24576x256x32, .i32⟩
  | 97 => ⟨S24576x256x3x32, .i32⟩
  | 98 => ⟨S24576x256x1x32, .i32⟩
  | 99 => ⟨S24576x256x3x32, .i32⟩
  | 100 => ⟨S_, .i32⟩
  | 101 => ⟨S24576x256x3x32, .i32⟩
  | 102 => ⟨S24576x256x3x32, .i32⟩
  | 103 => ⟨S24576x256x3x32, .i32⟩
  | 104 => ⟨S_, .i32⟩
  | 105 => ⟨S24576x256x3x32, .i32⟩
  | 106 => ⟨S24576x256x3x32, .i32⟩
  | 107 => ⟨S24576x256x3x4x8, .i32⟩
  | 108 => ⟨S24576x256x3x8x4, .i32⟩
  | 109 => ⟨S24576x256x3x32, .i32⟩
  | 110 => ⟨S_, .i32⟩
  | 111 => ⟨S24576x256x3x32, .i32⟩
  | 112 => ⟨S24576x256x3x32, .i32⟩
  | 113 => ⟨S_, .i32⟩
  | 114 => ⟨S24576x256x3x32, .i32⟩
  | 115 => ⟨S24576x256x3x32, .i32⟩
  | 116 => ⟨S_, .i32⟩
  | 117 => ⟨S24576x256x3x32, .i32⟩
  | 118 => ⟨S24576x256x3x32, .i32⟩
  | 119 => ⟨S_, .i32⟩
  | 120 => ⟨S24576x256x3x32, .i32⟩
  | 121 => ⟨S24576x256x3x32, .i1⟩
  | 122 => ⟨S_, .f32⟩
  | 123 => ⟨S_, .f32⟩
  | 124 => ⟨S24576x256x3x32, .f32⟩
  | 125 => ⟨S24576x256x3x32, .f32⟩
  | 126 => ⟨S24576x256x3x32, .f32⟩
  | 127 => ⟨S_, .i32⟩
  | _ => ⟨S24576, .i32⟩

abbrev hbmTy0_1 (i : Nat) : BufTy := match i % 128 with
  | 0 => ⟨S24576x256x3x32, .i32⟩
  | 1 => ⟨S24576x256x3x32, .i1⟩
  | 2 => ⟨S_, .i32⟩
  | 3 => ⟨S24576x256x3x32, .i32⟩
  | 4 => ⟨S24576x256x3x32, .i32⟩
  | 5 => ⟨S24576x256x3x32, .i32⟩
  | 6 => ⟨S24576x256x3x32, .f32⟩
  | 7 => ⟨S_, .i32⟩
  | 8 => ⟨S24576x256x3x32, .i32⟩
  | 9 => ⟨S24576x256x3x32, .i32⟩
  | 10 => ⟨S_, .i32⟩
  | 11 => ⟨S24576x256x3x32, .i32⟩
  | 12 => ⟨S24576x256x3x32, .i32⟩
  | 13 => ⟨S24576x256x3x32, .f32⟩
  | 14 => ⟨S_, .f32⟩
  | 15 => ⟨S24576x256x3x32, .f32⟩
  | 16 => ⟨S24576x256x3x32, .f32⟩
  | 17 => ⟨S24576x256x3x32, .f32⟩
  | 18 => ⟨S24576x256x3x32, .f32⟩
  | 19 => ⟨S24576x256x3x32, .f32⟩
  | 20 => ⟨S_, .i32⟩
  | 21 => ⟨S24576x256x3x32, .i32⟩
  | 22 => ⟨S24576x256x3x32, .i32⟩
  | 23 => ⟨S_, .i32⟩
  | 24 => ⟨S24576x256x3x32, .i32⟩
  | 25 => ⟨S24576x256x3x32, .i1⟩
  | 26 => ⟨S_, .f32⟩
  | 27 => ⟨S_, .f32⟩
  | 28 => ⟨S24576x256x3x32, .f32⟩
  | 29 => ⟨S24576x256x3x32, .f32⟩
  | 30 => ⟨S24576x256x3x32, .bf16⟩
  | 31 => ⟨S24576x64x4x4, .i32⟩
  | 32 => ⟨S24576x64x1x4, .i32⟩
  | 33 => ⟨S24576x64x4x4, .i32⟩
  | 34 => ⟨S_, .i32⟩
  | 35 => ⟨S24576x64x4x4, .i32⟩
  | 36 => ⟨S24576x64x4x4, .i32⟩
  | 37 => ⟨S24576x64x4x4, .i32⟩
  | 38 => ⟨S_, .i32⟩
  | 39 => ⟨S24576x64x4x4, .i32⟩
  | 40 => ⟨S24576x64x4x4, .i32⟩
  | 41 => ⟨S24576x256x4, .i32⟩
  | 42 => ⟨S24576x256x3, .i32⟩
  | 43 => ⟨S_, .i32⟩
  | 44 => ⟨S24576x256x3, .i32⟩
  | 45 => ⟨S24576x256x3, .i1⟩
  | 46 => ⟨S_, .i32⟩
  | 47 => ⟨S24576x256x3, .i32⟩
  | 48 => ⟨S24576x256x3, .i32⟩
  | 49 => ⟨S24576x256x3, .f32⟩
  | 50 => ⟨S_, .f32⟩
  | 51 => ⟨S24576x256x3, .f32⟩
  | 52 => ⟨S24576x256x3, .f32⟩
  | 53 => ⟨S_, .f32⟩
  | 54 => ⟨S_, .f32⟩
  | 55 => ⟨S24576x256x3, .f32⟩
  | 56 => ⟨S24576x256x3, .f32⟩
  | 57 => ⟨S_, .i32⟩
  | 58 => ⟨S24576x256x3, .i32⟩
  | 59 => ⟨S24576x256x3, .i1⟩
  | 60 => ⟨S_, .f32⟩
  | 61 => ⟨S_, .f32⟩
  | 62 => ⟨S24576x256x3, .f32⟩
  | 63 => ⟨S24576x256x3, .f32⟩
  | 64 => ⟨S256, .i32⟩
  | 65 => ⟨S1x256, .i32⟩
  | 66 => ⟨S24576x1, .i32⟩
  | 67 => ⟨S24576x256, .i32⟩
  | 68 => ⟨S24576x256, .i32⟩
  | 69 => ⟨S24576x256, .i1⟩
  | 70 => ⟨S24576x3x256, .f32⟩
  | 71 => ⟨S24576x256x3, .f32⟩
  | 72 => ⟨S24576x256x3, .f32⟩
  | 73 => ⟨S_, .f32⟩
  | 74 => ⟨S24576x256, .f32⟩
  | 75 => ⟨S_, .f32⟩
  | 76 => ⟨S24576x256, .f32⟩
  | 77 => ⟨S24576x256, .f32⟩
  | 78 => ⟨S_, .i32⟩
  | 79 => ⟨S24576, .i32⟩
  | 80 => ⟨S24576, .i1⟩
  | 81 => ⟨S24576x1, .i1⟩
  | 82 => ⟨S_, .f32⟩
  | 83 => ⟨S_, .f32⟩
  | 84 => ⟨S24576x256, .f32⟩
  | 85 => ⟨S24576x256, .f32⟩
  | 86 => ⟨S_, .f32⟩
  | 87 => ⟨S_, .f32⟩
  | 88 => ⟨S24576x256, .i1⟩
  | 89 => ⟨S24576x256, .f32⟩
  | 90 => ⟨S24576x256, .f32⟩
  | 91 => ⟨S_, .f32⟩
  | 92 => ⟨S24576, .f32⟩
  | 93 => ⟨S_, .f32⟩
  | 94 => ⟨S24576, .f32⟩
  | 95 => ⟨S24576, .f32⟩
  | 96 => ⟨S24576x1, .f32⟩
  | 97 => ⟨S24576x256, .f32⟩
  | 98 => ⟨S24576x256, .f32⟩
  | 99 => ⟨S24576x256, .f32⟩
  | 100 => ⟨S_, .f32⟩
  | 101 => ⟨S24576, .f32⟩
  | 102 => ⟨S24576x1, .f32⟩
  | 103 => ⟨S24576x256, .f32⟩
  | 104 => ⟨S24576x256, .f32⟩
  | 105 => ⟨S_, .f32⟩
  | 106 => ⟨S_, .f32⟩
  | 107 => ⟨S24576x256, .i1⟩
  | 108 => ⟨S24576x256, .f32⟩
  | 109 => ⟨S24576x256, .f32⟩
  | 110 => ⟨S24576x256, .bf16⟩
  | 111 => ⟨S24576x256x1, .bf16⟩
  | 112 => ⟨S24576x256x3, .bf16⟩
  | 113 => ⟨S24576x256x3, .bf16⟩
  | 114 => ⟨S24576x256x3, .bf16⟩
  | 115 => ⟨S24576x3x32, .f32⟩
  | 116 => ⟨S24576x96, .f32⟩
  | 117 => ⟨S24576x96, .bf16⟩
  | 118 => ⟨S96x24576, .bf16⟩
  | _ => ⟨S24576, .i32⟩

abbrev hbmTy (i : Nat) : BufTy := match i / 128 with
  | 0 => hbmTy0_0 i
  | 1 => hbmTy0_1 i
  | _ => ⟨S24576, .i32⟩

abbrev bufTy : (tb : Table) → Fin (tcTables nBuf tb) → BufTy
  | .hbm, ⟨i, _⟩ => hbmTy i
  | _, _ => ⟨S24576, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_v16 : Ref sig .tc := ⟨.hbm, 25, rfl⟩
abbrev main_v17 : Ref sig .tc := ⟨.hbm, 26, rfl⟩
abbrev main_c_4 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_cst_5 : Ref sig .tc := ⟨.hbm, 31, rfl⟩
abbrev main_call0_v0 : Ref sig .tc := ⟨.hbm, 32, rfl⟩
abbrev main_call0_v1 : Ref sig .tc := ⟨.hbm, 33, rfl⟩
abbrev main_v20 : Ref sig .tc := ⟨.hbm, 34, rfl⟩
abbrev main_c_6 : Ref sig .tc := ⟨.hbm, 35, rfl⟩
abbrev main_v21 : Ref sig .tc := ⟨.hbm, 36, rfl⟩
abbrev main_v22 : Ref sig .tc := ⟨.hbm, 37, rfl⟩
abbrev main_c_7 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_8 : Ref sig .tc := ⟨.hbm, 43, rfl⟩
abbrev main_v27 : Ref sig .tc := ⟨.hbm, 44, rfl⟩
abbrev main_v28 : Ref sig .tc := ⟨.hbm, 45, rfl⟩
abbrev main_c_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_11 : Ref sig .tc := ⟨.hbm, 56, rfl⟩
abbrev main_v37 : Ref sig .tc := ⟨.hbm, 57, rfl⟩
abbrev main_v38 : Ref sig .tc := ⟨.hbm, 58, rfl⟩
abbrev main_c_12 : Ref sig .tc := ⟨.hbm, 59, rfl⟩
abbrev main_v39 : Ref sig .tc := ⟨.hbm, 60, rfl⟩
abbrev main_v40 : Ref sig .tc := ⟨.hbm, 61, rfl⟩
abbrev main_cst_13 : Ref sig .tc := ⟨.hbm, 62, rfl⟩
abbrev main_call2_v0 : Ref sig .tc := ⟨.hbm, 63, rfl⟩
abbrev main_call2_v1 : Ref sig .tc := ⟨.hbm, 64, rfl⟩
abbrev main_v41 : Ref sig .tc := ⟨.hbm, 65, rfl⟩
abbrev main_v42 : Ref sig .tc := ⟨.hbm, 66, rfl⟩
abbrev main_c_14 : Ref sig .tc := ⟨.hbm, 67, rfl⟩
abbrev main_v43 : Ref sig .tc := ⟨.hbm, 68, rfl⟩
abbrev main_v44 : Ref sig .tc := ⟨.hbm, 69, rfl⟩
abbrev main_c_15 : Ref sig .tc := ⟨.hbm, 70, rfl⟩
abbrev main_v45 : Ref sig .tc := ⟨.hbm, 71, rfl⟩
abbrev main_v46 : Ref sig .tc := ⟨.hbm, 72, rfl⟩
abbrev main_c_16 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_17 : Ref sig .tc := ⟨.hbm, 77, rfl⟩
abbrev main_v50 : Ref sig .tc := ⟨.hbm, 78, rfl⟩
abbrev main_v51 : Ref sig .tc := ⟨.hbm, 79, rfl⟩
abbrev main_cst_18 : Ref sig .tc := ⟨.hbm, 80, rfl⟩
abbrev main_call3_v0 : Ref sig .tc := ⟨.hbm, 81, rfl⟩
abbrev main_call3_v1 : Ref sig .tc := ⟨.hbm, 82, rfl⟩
abbrev main_v52 : Ref sig .tc := ⟨.hbm, 83, rfl⟩
abbrev main_c_19 : Ref sig .tc := ⟨.hbm, 84, rfl⟩
abbrev main_v53 : Ref sig .tc := ⟨.hbm, 85, rfl⟩
abbrev main_v54 : Ref sig .tc := ⟨.hbm, 86, rfl⟩
abbrev main_cst_20 : Ref sig .tc := ⟨.hbm, 87, rfl⟩
abbrev main_call4_v0 : Ref sig .tc := ⟨.hbm, 88, rfl⟩
abbrev main_call4_v1 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_c_21 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_c_22 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_c_23 : Ref sig .tc := ⟨.hbm, 110, rfl⟩
abbrev main_v73 : Ref sig .tc := ⟨.hbm, 111, rfl⟩
abbrev main_v74 : Ref sig .tc := ⟨.hbm, 112, rfl⟩
abbrev main_c_24 : Ref sig .tc := ⟨.hbm, 113, rfl⟩
abbrev main_v75 : Ref sig .tc := ⟨.hbm, 114, rfl⟩
abbrev main_v76 : Ref sig .tc := ⟨.hbm, 115, rfl⟩
abbrev main_c_25 : Ref sig .tc := ⟨.hbm, 116, rfl⟩
abbrev main_v77 : Ref sig .tc := ⟨.hbm, 117, rfl⟩
abbrev main_v78 : Ref sig .tc := ⟨.hbm, 118, rfl⟩
abbrev main_c_26 : Ref sig .tc := ⟨.hbm, 119, rfl⟩
abbrev main_v79 : Ref sig .tc := ⟨.hbm, 120, rfl⟩
abbrev main_v80 : Ref sig .tc := ⟨.hbm, 121, rfl⟩
abbrev main_cst_27 : Ref sig .tc := ⟨.hbm, 122, rfl⟩
abbrev main_cst_28 : Ref sig .tc := ⟨.hbm, 123, rfl⟩
abbrev main_call5_v0 : Ref sig .tc := ⟨.hbm, 124, rfl⟩
abbrev main_call5_v1 : Ref sig .tc := ⟨.hbm, 125, rfl⟩
abbrev main_v81 : Ref sig .tc := ⟨.hbm, 126, rfl⟩
abbrev main_c_29 : Ref sig .tc := ⟨.hbm, 127, rfl⟩
abbrev main_v82 : Ref sig .tc := ⟨.hbm, 128, rfl⟩
abbrev main_v83 : Ref sig .tc := ⟨.hbm, 129, rfl⟩
abbrev main_c_30 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_c_31 : Ref sig .tc := ⟨.hbm, 135, rfl⟩
abbrev main_v88 : Ref sig .tc := ⟨.hbm, 136, rfl⟩
abbrev main_v89 : Ref sig .tc := ⟨.hbm, 137, rfl⟩
abbrev main_c_32 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_cst_33 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_c_34 : Ref sig .tc := ⟨.hbm, 148, rfl⟩
abbrev main_v98 : Ref sig .tc := ⟨.hbm, 149, rfl⟩
abbrev main_v99 : Ref sig .tc := ⟨.hbm, 150, rfl⟩
abbrev main_c_35 : Ref sig .tc := ⟨.hbm, 151, rfl⟩
abbrev main_v100 : Ref sig .tc := ⟨.hbm, 152, rfl⟩
abbrev main_v101 : Ref sig .tc := ⟨.hbm, 153, rfl⟩
abbrev main_cst_36 : Ref sig .tc := ⟨.hbm, 154, rfl⟩
abbrev main_call7_v0 : Ref sig .tc := ⟨.hbm, 155, rfl⟩
abbrev main_call7_v1 : Ref sig .tc := ⟨.hbm, 156, rfl⟩
abbrev main_v102 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_c_37 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_c_38 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_c_39 : Ref sig .tc := ⟨.hbm, 171, rfl⟩
abbrev main_v114 : Ref sig .tc := ⟨.hbm, 172, rfl⟩
abbrev main_v115 : Ref sig .tc := ⟨.hbm, 173, rfl⟩
abbrev main_c_40 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_cst_41 : Ref sig .tc := ⟨.hbm, 178, rfl⟩
abbrev main_v119 : Ref sig .tc := ⟨.hbm, 179, rfl⟩
abbrev main_v120 : Ref sig .tc := ⟨.hbm, 180, rfl⟩
abbrev main_cst_42 : Ref sig .tc := ⟨.hbm, 181, rfl⟩
abbrev main_call8_v0 : Ref sig .tc := ⟨.hbm, 182, rfl⟩
abbrev main_call8_v1 : Ref sig .tc := ⟨.hbm, 183, rfl⟩
abbrev main_v121 : Ref sig .tc := ⟨.hbm, 184, rfl⟩
abbrev main_c_43 : Ref sig .tc := ⟨.hbm, 185, rfl⟩
abbrev main_v122 : Ref sig .tc := ⟨.hbm, 186, rfl⟩
abbrev main_v123 : Ref sig .tc := ⟨.hbm, 187, rfl⟩
abbrev main_cst_44 : Ref sig .tc := ⟨.hbm, 188, rfl⟩
abbrev main_call9_v0 : Ref sig .tc := ⟨.hbm, 189, rfl⟩
abbrev main_call9_v1 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_v127 : Ref sig .tc := ⟨.hbm, 194, rfl⟩
abbrev main_v128 : Ref sig .tc := ⟨.hbm, 195, rfl⟩
abbrev main_v129 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_cst_45 : Ref sig .tc := ⟨.hbm, 201, rfl⟩
abbrev main_v134 : Ref sig .tc := ⟨.hbm, 202, rfl⟩
abbrev main_cst_46 : Ref sig .tc := ⟨.hbm, 203, rfl⟩
abbrev main_v135 : Ref sig .tc := ⟨.hbm, 204, rfl⟩
abbrev main_v136 : Ref sig .tc := ⟨.hbm, 205, rfl⟩
abbrev main_c_47 : Ref sig .tc := ⟨.hbm, 206, rfl⟩
abbrev main_v137 : Ref sig .tc := ⟨.hbm, 207, rfl⟩
abbrev main_v138 : Ref sig .tc := ⟨.hbm, 208, rfl⟩
abbrev main_v139 : Ref sig .tc := ⟨.hbm, 209, rfl⟩
abbrev main_cst_48 : Ref sig .tc := ⟨.hbm, 210, rfl⟩
abbrev main_call10_v0 : Ref sig .tc := ⟨.hbm, 211, rfl⟩
abbrev main_call10_v1 : Ref sig .tc := ⟨.hbm, 212, rfl⟩
abbrev main_v140 : Ref sig .tc := ⟨.hbm, 213, rfl⟩
abbrev main_cst_49 : Ref sig .tc := ⟨.hbm, 214, rfl⟩
abbrev main_call11_v0 : Ref sig .tc := ⟨.hbm, 215, rfl⟩
abbrev main_call11_v1 : Ref sig .tc := ⟨.hbm, 216, rfl⟩
abbrev main_call11_v2 : Ref sig .tc := ⟨.hbm, 217, rfl⟩
abbrev main_v141 : Ref sig .tc := ⟨.hbm, 218, rfl⟩
abbrev main_cst_50 : Ref sig .tc := ⟨.hbm, 219, rfl⟩
abbrev main_v142 : Ref sig .tc := ⟨.hbm, 220, rfl⟩
abbrev main_cst_51 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_cst_52 : Ref sig .tc := ⟨.hbm, 228, rfl⟩
abbrev main_v149 : Ref sig .tc := ⟨.hbm, 229, rfl⟩
abbrev main_v150 : Ref sig .tc := ⟨.hbm, 230, rfl⟩
abbrev main_v151 : Ref sig .tc := ⟨.hbm, 231, rfl⟩
abbrev main_v152 : Ref sig .tc := ⟨.hbm, 232, rfl⟩
abbrev main_cst_53 : Ref sig .tc := ⟨.hbm, 233, rfl⟩
abbrev main_call12_v0 : Ref sig .tc := ⟨.hbm, 234, rfl⟩
abbrev main_call12_v1 : Ref sig .tc := ⟨.hbm, 235, rfl⟩
abbrev main_call12_v2 : Ref sig .tc := ⟨.hbm, 236, rfl⟩
abbrev main_v153 : Ref sig .tc := ⟨.hbm, 237, rfl⟩
abbrev main_v154 : Ref sig .tc := ⟨.hbm, 238, rfl⟩
abbrev main_v155 : Ref sig .tc := ⟨.hbm, 239, rfl⟩
abbrev main_v156 : Ref sig .tc := ⟨.hbm, 240, rfl⟩
abbrev main_v157 : Ref sig .tc := ⟨.hbm, 241, rfl⟩
abbrev main_v158 : Ref sig .tc := ⟨.hbm, 242, rfl⟩
abbrev main_v159 : Ref sig .tc := ⟨.hbm, 243, rfl⟩
abbrev main_v160 : Ref sig .tc := ⟨.hbm, 244, rfl⟩
abbrev main_v161 : Ref sig .tc := ⟨.hbm, 245, rfl⟩
abbrev main_v162 : Ref sig .tc := ⟨.hbm, 246, rfl⟩

abbrev nD : Nat := 1
abbrev τ : Topo := Topo.v7x

variable {F : FTy → Type} [FloatOps F]
-- ==== Table.lean ====
abbrev S200000x96 : Shape := ⟨2, ![200000, 96]⟩
abbrev S200000x3 : Shape := ⟨2, ![200000, 3]⟩
abbrev S96x200000 : Shape := ⟨2, ![96, 200000]⟩
abbrev S3x200000 : Shape := ⟨2, ![3, 200000]⟩
abbrev S50048x128 : Shape := ⟨2, ![50048, 128]⟩
abbrev S96x8704 : Shape := ⟨2, ![96, 8704]⟩
abbrev S3x8704 : Shape := ⟨2, ![3, 8704]⟩
abbrev S2176x128 : Shape := ⟨2, ![2176, 128]⟩
abbrev S8x128 : Shape := ⟨2, ![8, 128]⟩
abbrev S96x128 : Shape := ⟨2, ![96, 128]⟩
abbrev S24x128 : Shape := ⟨2, ![24, 128]⟩
abbrev S3x128 : Shape := ⟨2, ![3, 128]⟩
abbrev S5x128 : Shape := ⟨2, ![5, 128]⟩
abbrev S128x128 : Shape := ⟨2, ![128, 128]⟩

abbrev nBuf : Space → Nat
  | .hbm => 5
  | .vmem => 6
  | .smem => 0
  | _ => 0

abbrev bufTy : (tb : Table) → Fin (tcTables nBuf tb) → BufTy
  | .hbm, ⟨0, _⟩ => ⟨S200000x96, .fp8e4m3⟩
  | .hbm, ⟨1, _⟩ => ⟨S200000x3, .f32⟩
  | .hbm, ⟨2, _⟩ => ⟨S96x200000, .fp8e4m3⟩
  | .hbm, ⟨3, _⟩ => ⟨S3x200000, .f32⟩
  | .hbm, ⟨4, _⟩ => ⟨S50048x128, .i32⟩
  | .local _ .vmem, ⟨0, _⟩ => ⟨S96x8704, .fp8e4m3⟩
  | .local _ .vmem, ⟨1, _⟩ => ⟨S96x8704, .fp8e4m3⟩
  | .local _ .vmem, ⟨2, _⟩ => ⟨S3x8704, .f32⟩
  | .local _ .vmem, ⟨3, _⟩ => ⟨S3x8704, .f32⟩
  | .local _ .vmem, ⟨4, _⟩ => ⟨S2176x128, .i32⟩
  | .local _ .vmem, ⟨5, _⟩ => ⟨S2176x128, .i32⟩
  | _, _ => ⟨S200000x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [BitOps F]

abbrev grid0 : Pipeline.Grid := ⟨1, ![23], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S96x8704 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x8704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2176x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== TableReference.lean ====
abbrev S200000x96 : Shape := ⟨2, ![200000, 96]⟩
abbrev S200000x3 : Shape := ⟨2, ![200000, 3]⟩
abbrev S200000x3x8x4 : Shape := ⟨4, ![200000, 3, 8, 4]⟩
abbrev S200000x3x4x8 : Shape := ⟨4, ![200000, 3, 4, 8]⟩
abbrev S200000x3x32 : Shape := ⟨3, ![200000, 3, 32]⟩
abbrev S_ : Shape := ⟨0, ![]⟩
abbrev S200000x32 : Shape := ⟨2, ![200000, 32]⟩
abbrev S200000x1x32 : Shape := ⟨3, ![200000, 1, 32]⟩
abbrev S200192x32 : Shape := ⟨2, ![200192, 32]⟩
abbrev S391x4x128x32 : Shape := ⟨4, ![391, 4, 128, 32]⟩
abbrev S391x128x4x32 : Shape := ⟨4, ![391, 128, 4, 32]⟩
abbrev S50048x128 : Shape := ⟨2, ![50048, 128]⟩

abbrev nBuf : Space → Nat
  | .hbm => 41
  | .vmem => 0
  | .smem => 0
  | _ => 0

abbrev bufTy : (tb : Table) → Fin (tcTables nBuf tb) → BufTy
  | .hbm, ⟨0, _⟩ => ⟨S200000x96, .fp8e4m3⟩
  | .hbm, ⟨1, _⟩ => ⟨S200000x3, .f32⟩
  | .hbm, ⟨2, _⟩ => ⟨S200000x96, .i8⟩
  | .hbm, ⟨3, _⟩ => ⟨S200000x96, .i32⟩
  | .hbm, ⟨4, _⟩ => ⟨S200000x3x8x4, .i32⟩
  | .hbm, ⟨5, _⟩ => ⟨S200000x3x4x8, .i32⟩
  | .hbm, ⟨6, _⟩ => ⟨S200000x3x32, .i32⟩
  | .hbm, ⟨7, _⟩ => ⟨S200000x3, .i32⟩
  | .hbm, ⟨8, _⟩ => ⟨S_, .i32⟩
  | .hbm, ⟨9, _⟩ => ⟨S200000x3, .i32⟩
  | .hbm, ⟨10, _⟩ => ⟨S200000x3, .i32⟩
  | .hbm, ⟨11, _⟩ => ⟨S_, .i32⟩
  | .hbm, ⟨12, _⟩ => ⟨S200000x3, .i32⟩
  | .hbm, ⟨13, _⟩ => ⟨S200000x3, .i32⟩
  | .hbm, ⟨14, _⟩ => ⟨S_, .i32⟩
  | .hbm, ⟨15, _⟩ => ⟨S_, .i32⟩
  | .hbm, ⟨16, _⟩ => ⟨S200000x32, .i32⟩
  | .hbm, ⟨17, _⟩ => ⟨S200000x1x32, .i32⟩
  | .hbm, ⟨18, _⟩ => ⟨S200000x32, .i32⟩
  | .hbm, ⟨19, _⟩ => ⟨S200000x1x32, .i32⟩
  | .hbm, ⟨20, _⟩ => ⟨S200000x32, .i32⟩
  | .hbm, ⟨21, _⟩ => ⟨S_, .i32⟩
  | .hbm, ⟨22, _⟩ => ⟨S200000x32, .i32⟩
  | .hbm, ⟨23, _⟩ => ⟨S200000x32, .i32⟩
  | .hbm, ⟨24, _⟩ => ⟨S200000x32, .i32⟩
  | .hbm, ⟨25, _⟩ => ⟨S200000x1x32, .i32⟩
  | .hbm, ⟨26, _⟩ => ⟨S200000x32, .i32⟩
  | .hbm, ⟨27, _⟩ => ⟨S_, .i32⟩
  | .hbm, ⟨28, _⟩ => ⟨S200000x32, .i32⟩
  | .hbm, ⟨29, _⟩ => ⟨S200000x32, .i32⟩
  | .hbm, ⟨30, _⟩ => ⟨S200000x32, .i32⟩
  | .hbm, ⟨31, _⟩ => ⟨S_, .i32⟩
  | .hbm, ⟨32, _⟩ => ⟨S200000x32, .i32⟩
  | .hbm, ⟨33, _⟩ => ⟨S200000x32, .i32⟩
  | .hbm, ⟨34, _⟩ => ⟨S200000x32, .i32⟩
  | .hbm, ⟨35, _⟩ => ⟨S_, .i32⟩
  | .hbm, ⟨36, _⟩ => ⟨S_, .i32⟩
  | .hbm, ⟨37, _⟩ => ⟨S200192x32, .i32⟩
  | .hbm, ⟨38, _⟩ => ⟨S391x4x128x32, .i32⟩
  | .hbm, ⟨39, _⟩ => ⟨S391x128x4x32, .i32⟩
  | .hbm, ⟨40, _⟩ => ⟨S50048x128, .i32⟩
  | _, _ => ⟨S200000x96, .fp8e4m3⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_c_0 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_call0_v0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_3 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_5 : Ref sig .tc := ⟨.hbm, 35, rfl⟩
abbrev main_call1_v0 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [BitOps F]
-- ==== Proof.Hand.KernelGroups.lean ====
/- The counted loop over groups of sixteen users of `proofs.«01_k».proof.Kernel`: one trip's run, the pieces
   that the trips before `k` wrote, and the loop's invariant stated by them. -/
module

public import proofs.«01_k».proof.Proof.Gen.Kernel.Loops

@[expose] public section

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- One trip's resources: what the region reads (arg3, arg9, arg10) at its contents, what it writes (arg5, arg11) at
    any. -/
abbrev Trip_k0_t2 (c : Dev nD) (arg3 : Memref sig .tc .vmem S128x256 .i32) (arg9 : Memref sig .tc .vmem S2x512x128 .f32) (arg10 : Memref sig .tc .vmem S128x128 .i32) (arg5 : Memref sig .tc .vmem S128x256 .f32) (arg11 : Memref sig .tc .vmem S2x512x128 .f32) (X_arg3 : BufTy.Contents (Elt F) arg3.view.ty) (X_arg9 : BufTy.Contents (Elt F) arg9.view.ty) (X_arg10 : BufTy.Contents (Elt F) arg10.view.ty) (f_arg5 : BufTy.Contents (Elt F) arg5.view.ty) (f_arg11 : BufTy.Contents (Elt F) arg11.view.ty) : sProp 𝕄G :=
  iprop((arg3.view.loc (c : Thread nD τ) ↦[arg3.view.set]{fullShare} X_arg3) ∗ (arg9.view.loc (c : Thread nD τ) ↦[arg9.view.set]{fullShare} X_arg9) ∗ (arg10.view.loc (c : Thread nD τ) ↦[arg10.view.set]{fullShare} X_arg10) ∗ (arg5.view.loc (c : Thread nD τ) ↦[arg5.view.set]{fullShare} f_arg5) ∗ (arg11.view.loc (c : Thread nD τ) ↦[arg11.view.set]{fullShare} f_arg11))

/-- One trip at a symbolic `k`: from any contents of arg5 and arg11 it ends with the found pieces written. -/
@[irreducible] def trip_k0_t2 (𝒱 : Variants) (c : Dev nD) (bd : Option 𝒱.V) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole) (arg0 : BitVec 32) (v77 : IVec S8x256 32) (v106 : IVec S64x128 32) (v108 : IVec S16x128 32) (v112 : IVec S16x128 1) (v116 : IVec S16x128 1) (v118 : IVec S16x128 32) (c0_i32_41 : BitVec 32) (X_arg3 : BufTy.Contents (Elt F) arg3.view.ty) (X_arg9 : BufTy.Contents (Elt F) arg9.view.ty) (X_arg10 : BufTy.Contents (Elt F) arg10.view.ty) (k : Fin k0_t2_loop.trips) :
    Σ' (L_arg5 : List (View.Piece (Elt F) S128x256 .f32)) , { L_arg11 : List (View.Piece (Elt F) S2x512x128 .f32) // ∀ (E : Set ℕ) (f_arg5 : BufTy.Contents (Elt F) arg5.view.ty) (f_arg11 : BufTy.Contents (Elt F) arg11.view.ty),
      Trip_k0_t2 (F := F) c arg3 arg9 arg10 arg5 arg11 X_arg3 X_arg9 X_arg10 f_arg5 f_arg11
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg0 v77 v106 v108 v112 v116 v118 c0_i32_41 k PUnit.unit)
          (fun _ => Trip_k0_t2 (F := F) c arg3 arg9 arg10 arg5 arg11 X_arg3 X_arg9 X_arg10 (arg5.view.writes (Elt F) f_arg5 L_arg5) (arg11.view.writes (Elt F) f_arg11 L_arg11)) } := by
  have hk : k.val < 8 := Nat.lt_of_lt_of_le k.isLt k0_t2_abs.2.1
  refine ⟨?_, ?_, fun E f_arg5 f_arg11 => ?run⟩
  case run =>
    unfold k0_t2_body
    iintro ⟨HR_arg3, HR_arg9, HR_arg10, HW_arg5, HW_arg11⟩
    sl_exec
    sl_step
    sl_close

/-- The trip's pieces. -/
abbrev tripL_k0_t2 (𝒱 : Variants) (c : Dev nD) (bd : Option 𝒱.V) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole) (arg0 : BitVec 32) (v77 : IVec S8x256 32) (v106 : IVec S64x128 32) (v108 : IVec S16x128 32) (v112 : IVec S16x128 1) (v116 : IVec S16x128 1) (v118 : IVec S16x128 32) (c0_i32_41 : BitVec 32) (X_arg3 : BufTy.Contents (Elt F) arg3.view.ty) (X_arg9 : BufTy.Contents (Elt F) arg9.view.ty) (X_arg10 : BufTy.Contents (Elt F) arg10.view.ty) (k : Fin k0_t2_loop.trips) : List (View.Piece (Elt F) S128x256 .f32) × List (View.Piece (Elt F) S2x512x128 .f32) :=
  ((trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v77 v106 v108 v112 v116 v118 c0_i32_41 X_arg3 X_arg9 X_arg10 k).1, (trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v77 v106 v108 v112 v116 v118 c0_i32_41 X_arg3 X_arg9 X_arg10 k).2.1)

/-- Trip `k`'s pieces in front of those before it. -/
@[irreducible] def pb_k0_t2Step (𝒱 : Variants) (c : Dev nD) (bd : Option 𝒱.V) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole) (arg0 : BitVec 32) (v77 : IVec S8x256 32) (v106 : IVec S64x128 32) (v108 : IVec S16x128 32) (v112 : IVec S16x128 1) (v116 : IVec S16x128 1) (v118 : IVec S16x128 32) (c0_i32_41 : BitVec 32) (X_arg3 : BufTy.Contents (Elt F) arg3.view.ty) (X_arg9 : BufTy.Contents (Elt F) arg9.view.ty) (X_arg10 : BufTy.Contents (Elt F) arg10.view.ty) (k : ℕ) (prev : List (View.Piece (Elt F) S128x256 .f32) × List (View.Piece (Elt F) S2x512x128 .f32)) : List (View.Piece (Elt F) S128x256 .f32) × List (View.Piece (Elt F) S2x512x128 .f32) :=
  if h : k < k0_t2_loop.trips then
    ((tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v77 v106 v108 v112 v116 v118 c0_i32_41 X_arg3 X_arg9 X_arg10 ⟨k, h⟩).1 ++ prev.1, (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v77 v106 v108 v112 v116 v118 c0_i32_41 X_arg3 X_arg9 X_arg10 ⟨k, h⟩).2 ++ prev.2)
  else prev

/-- The pieces of the trips before `k`, last first. -/
def pb_k0_t2 (𝒱 : Variants) (c : Dev nD) (bd : Option 𝒱.V) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole) (arg0 : BitVec 32) (v77 : IVec S8x256 32) (v106 : IVec S64x128 32) (v108 : IVec S16x128 32) (v112 : IVec S16x128 1) (v116 : IVec S16x128 1) (v118 : IVec S16x128 32) (c0_i32_41 : BitVec 32) (X_arg3 : BufTy.Contents (Elt F) arg3.view.ty) (X_arg9 : BufTy.Contents (Elt F) arg9.view.ty) (X_arg10 : BufTy.Contents (Elt F) arg10.view.ty) : ℕ → List (View.Piece (Elt F) S128x256 .f32) × List (View.Piece (Elt F) S2x512x128 .f32)
  | 0 => ([], [])
  | k + 1 => pb_k0_t2Step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v77 v106 v108 v112 v116 v118 c0_i32_41 X_arg3 X_arg9 X_arg10 k (pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v77 v106 v108 v112 v116 v118 c0_i32_41 X_arg3 X_arg9 X_arg10 k)

theorem pb_k0_t2_succ (𝒱 : Variants) (c : Dev nD) (bd : Option 𝒱.V) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole) (arg0 : BitVec 32) (v77 : IVec S8x256 32) (v106 : IVec S64x128 32) (v108 : IVec S16x128 32) (v112 : IVec S16x128 1) (v116 : IVec S16x128 1) (v118 : IVec S16x128 32) (c0_i32_41 : BitVec 32) (X_arg3 : BufTy.Contents (Elt F) arg3.view.ty) (X_arg9 : BufTy.Contents (Elt F) arg9.view.ty) (X_arg10 : BufTy.Contents (Elt F) arg10.view.ty) (k : Fin k0_t2_loop.trips) :
    pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v77 v106 v108 v112 v116 v118 c0_i32_41 X_arg3 X_arg9 X_arg10 (k.val + 1)
      = ((tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v77 v106 v108 v112 v116 v118 c0_i32_41 X_arg3 X_arg9 X_arg10 k).1 ++ (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v77 v106 v108 v112 v116 v118 c0_i32_41 X_arg3 X_arg9 X_arg10 k.val).1, (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v77 v106 v108 v112 v116 v118 c0_i32_41 X_arg3 X_arg9 X_arg10 k).2 ++ (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v77 v106 v108 v112 v116 v118 c0_i32_41 X_arg3 X_arg9 X_arg10 k.val).2) := by
  rw [pb_k0_t2.eq_2]; unfold pb_k0_t2Step; exact dif_pos k.isLt

/-- The invariant before trip `k`: what is read at its contents, what is written holding the pieces of the trips before
    `k` over the contents at loop entry. -/
abbrev inv_k0_t2 (𝒱 : Variants) (c : Dev nD) (bd : Option 𝒱.V) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole) (arg0 : BitVec 32) (v77 : IVec S8x256 32) (v106 : IVec S64x128 32) (v108 : IVec S16x128 32) (v112 : IVec S16x128 1) (v116 : IVec S16x128 1) (v118 : IVec S16x128 32) (c0_i32_41 : BitVec 32) (X_arg3 : BufTy.Contents (Elt F) arg3.view.ty) (X_arg9 : BufTy.Contents (Elt F) arg9.view.ty) (X_arg10 : BufTy.Contents (Elt F) arg10.view.ty) (G_arg5 : BufTy.Contents (Elt F) arg5.view.ty) (G_arg11 : BufTy.Contents (Elt F) arg11.view.ty) (k : ℕ) (_u : PUnit) : sProp 𝕄G :=
  iprop((arg3.view.loc (c : Thread nD τ) ↦[arg3.view.set]{fullShare} X_arg3) ∗ (arg9.view.loc (c : Thread nD τ) ↦[arg9.view.set]{fullShare} X_arg9) ∗ (arg10.view.loc (c : Thread nD τ) ↦[arg10.view.set]{fullShare} X_arg10) ∗ (∃ f, (arg5.view.loc (c : Thread nD τ) ↦[arg5.view.set]{fullShare} f) ∗ ⌜f = arg5.view.writes (Elt F) G_arg5 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v77 v106 v108 v112 v116 v118 c0_i32_41 X_arg3 X_arg9 X_arg10 k).1⌝) ∗ (∃ f, (arg11.view.loc (c : Thread nD τ) ↦[arg11.view.set]{fullShare} f) ∗ ⌜f = arg11.view.writes (Elt F) G_arg11 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v77 v106 v108 v112 v116 v118 c0_i32_41 X_arg3 X_arg9 X_arg10 k).2⌝))

set_option warn.classDefReducibility false in
/-- The loop by its invariant. -/
@[sl_loop] def loopInv_k0_t2 (𝒱 : Variants) (c : Dev nD) (bd : Option 𝒱.V) (E : Set ℕ) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole) (arg0 : BitVec 32) (v77 : IVec S8x256 32) (v106 : IVec S64x128 32) (v108 : IVec S16x128 32) (v112 : IVec S16x128 1) (v116 : IVec S16x128 1) (v118 : IVec S16x128 32) (c0_i32_41 : BitVec 32) (X_arg3 : BufTy.Contents (Elt F) arg3.view.ty) (X_arg9 : BufTy.Contents (Elt F) arg9.view.ty) (X_arg10 : BufTy.Contents (Elt F) arg10.view.ty) (G_arg5 : BufTy.Contents (Elt F) arg5.view.ty) (G_arg11 : BufTy.Contents (Elt F) arg11.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg0 v77 v106 v108 v112 v116 v118 c0_i32_41 where
  inv := inv_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v77 v106 v108 v112 v116 v118 c0_i32_41 X_arg3 X_arg9 X_arg10 G_arg5 G_arg11
  step k acc := by
    iintro ⟨HR_arg3, HR_arg9, HR_arg10, ⟨%f_arg5, HW_arg5, %h_arg5⟩, ⟨%f_arg11, HW_arg11, %h_arg11⟩⟩
    iapply (wp_wand_r Idealize.ShloMosaic.frame (wpE (defs₀ (F := F)) 𝒱 (c : Thread nD τ) bd) E)
    isplitl [HR_arg3 HR_arg9 HR_arg10 HW_arg5 HW_arg11]
    · iapply ((trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v77 v106 v108 v112 v116 v118 c0_i32_41 X_arg3 X_arg9 X_arg10 k).2.2 E f_arg5 f_arg11)
      isplitl [HR_arg3]; · iexact HR_arg3
      isplitl [HR_arg9]; · iexact HR_arg9
      isplitl [HR_arg10]; · iexact HR_arg10
      isplitl [HW_arg5]; · iexact HW_arg5
      iexact HW_arg11
    · iintro %_ ⟨HR_arg3, HR_arg9, HR_arg10, HW_arg5, HW_arg11⟩
      isplitl [HR_arg3]; · iexact HR_arg3
      isplitl [HR_arg9]; · iexact HR_arg9
      isplitl [HR_arg10]; · iexact HR_arg10
      rw [pb_k0_t2_succ]
      isplitl [HW_arg5]
      · iexists _; isplitl [HW_arg5]; · iexact HW_arg5
        ipureintro; rw [h_arg5, ← View.writes_append]
      iexists _; isplitl [HW_arg11]; · iexact HW_arg11
      ipureintro; rw [h_arg11, ← View.writes_append]

end Cert.Kernel.Hand

end
-- ==== Proof.Hand.KernelBody.lean ====
/- The body of `proofs.«01_k».proof.Kernel` gone through once, over whole memrefs: from its inputs at any contents
   and everything else at any contents it ends with the inputs as they were, the two results written with the pieces the
   run finds, and the scratch at some contents. -/
module

public import proofs.«01_k».proof.Proof.Hand.KernelGroups
public import Idealize.ShloMosaic.Lib.Pipeline.FrameBody
public import Idealize.ShloMosaic.Lib.Ring
public import Idealize.ShloMosaic.Lib.WordCmp

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The body's run. -/
@[irreducible] def kernelRun (c : Dev nD) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole)
    (X1 : BufTy.Contents (Elt F) arg1.view.ty) (X2 : BufTy.Contents (Elt F) arg2.view.ty) (X3 : BufTy.Contents (Elt F) arg3.view.ty) (X4 : BufTy.Contents (Elt F) arg4.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    Σ' (L5 : List (View.Piece (Elt F) S128x256 .f32)) , { L6 : List (View.Piece (Elt F) S96x128 .bf16) // ∀ (g5 : BufTy.Contents (Elt F) arg5.view.ty) (g6 : BufTy.Contents (Elt F) arg6.view.ty) (K : PUnit → sProp 𝕄G),
      iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} g5) ∗ (arg6.view.loc (c : Thread nD τ) ↦[arg6.view.set]{fullShare} g6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
        ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} (arg5.view.writes (Elt F) g5 L5)) ∗ (arg6.view.loc (c : Thread nD τ) ↦[arg6.view.set]{fullShare} (arg6.view.writes (Elt F) g6 L6)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f))) -∗ K ⟨⟩))
      ⊢ wp frame (wpE (defs₀ (F := F)) Variants.none (c : Thread nD τ) none) Set.univ (cc0_attend (F := F) i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun g5 g6 K => ?run⟩
  case run =>
    simp only [cc0_attend_eq_skeleton]; unfold cc0_attend_skel
    iintro ⟨H1, H2, H3, H4, H5, H6, H7, H8, H9, H10, H11, H12, H13, H14, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14

end Cert.Kernel.Hand

end
-- ==== Proof.Hand.KernelFrame.lean ====
/- `proofs.«01_k».proof.Kernel`'s frame: the program terminates without a fault, its argument arrays end as they began and
   every semaphore counter ends at zero. What the two results hold is not said here. -/
module

public import proofs.«01_k».proof.Proof.Hand.KernelBody
public import proofs.«01_k».proof.Proof.Gen.Kernel.Frame

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The class invariant, spelled out: the eight scratch buffers at some contents and the generator register. -/
theorem PhiA_eq (c : Dev nD) : (Pipeline.ΦA spec0 c : sProp 𝕄)
    = iprop(iprop((∃ d, owns (c : Thread nD τ) (Memref.whole cc0_scratch0 : Memref sig .tc .vmem S512x128 .f32) fullShare d) ∗ (∃ d, owns (c : Thread nD τ) (Memref.whole cc0_scratch1 : Memref sig .tc .vmem S3x128x128 .f32) fullShare d) ∗ (∃ d, owns (c : Thread nD τ) (Memref.whole cc0_scratch2 : Memref sig .tc .vmem S2x512x128 .f32) fullShare d) ∗ (∃ d, owns (c : Thread nD τ) (Memref.whole cc0_scratch3 : Memref sig .tc .vmem S128x128 .i32) fullShare d) ∗ (∃ d, owns (c : Thread nD τ) (Memref.whole cc0_scratch4 : Memref sig .tc .vmem S2x512x128 .f32) fullShare d) ∗ (∃ d, owns (c : Thread nD τ) (Memref.whole cc0_scratch5 : Memref sig .tc .vmem S3x2x256x128 .f32) fullShare d) ∗ (∃ d, owns (c : Thread nD τ) (Memref.whole cc0_scratch6 : Memref sig .tc .vmem S128x128 .f32) fullShare d) ∗ (∃ d, owns (c : Thread nD τ) (Memref.whole cc0_scratch7 : Memref sig .tc .vmem S96x128 .f32) fullShare d)) ∗ (∃ r, prngReg c r)) := by
  unfold Pipeline.ΦA
  rw [scopedRest0_eq]
  simp only [owns_whole]; try rfl

/-- A memref owned at some contents is owned reading something. -/
theorem someOwns (c : Dev nD) {sp : Space} {S : Shape} {e : EltTy} (M : Memref sig .tc sp S e) (f : Buf (Elt F) (M.view.loc (c : Thread nD τ))) :
    ((M.view.loc (c : Thread nD τ) ↦[M.view.set]{fullShare} f) : sProp 𝕄)
      ⊢ iprop(∃ X, owns (c : Thread nD τ) M fullShare X) := by
  unfold owns
  iintro H
  iexists (M.view.read (Elt F) f); iexists f
  isplitr
  · ipureintro; rfl
  iexact H

/-- The two result windows, whose contents the frame does not name. -/
def forgets0 : Fin 6 → Bool := ![false, false, false, false, true, true]

/-- The proof data: the arrays as launched, the input blocks left in place, the results unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d

def bodyPre (c : Dev nD) (t : Fin cfg0.N) : sProp 𝕄 :=
  iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ X, owns (c : Thread nD τ) (win0_4.stage (cfg0.slots t 4)) fullShare X) ∗ (∃ X, owns (c : Thread nD τ) (win0_5.stage (cfg0.slots t 5)) fullShare X))
def bodyPost (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ (∃ X, owns (c : Thread nD τ) (win0_4.stage (cfg0.slots t 4)) fullShare X) ∗ (∃ X, owns (c : Thread nD τ) (win0_5.stage (cfg0.slots t 5)) fullShare X))

/-- The body at a point: from the input blocks and anything in the results and the scratch, to the same. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl, show (dats m 0 c).Φ t.castSucc = Pipeline.ΦA spec0 c from rfl, PhiA_eq,
    show (dats m 0 c).owesAt () t.succ = (dats m 0 c).owesAt () t.castSucc from rfl]
  simp only [before0_0, before0_1, before0_2, before0_3, after0_0, after0_1, after0_2, after0_3]
  unfold owns
  iintro ⟨⟨⟨⟨%d7, %f7, -, S7⟩, ⟨%d8, %f8, -, S8⟩, ⟨%d9, %f9, -, S9⟩, ⟨%d10, %f10, -, S10⟩, ⟨%d11, %f11, -, S11⟩, ⟨%d12, %f12, -, S12⟩, ⟨%d13, %f13, -, S13⟩, ⟨%d14, %f14, -, S14⟩⟩, Hg⟩, HW, ⟨%d1, %X1, %hX1, H1⟩, ⟨%d2, %X2, %hX2, H2⟩, ⟨%d3, %X3, %hX3, H3⟩, ⟨%d4, %X4, %hX4, H4⟩, ⟨%d5, %X5, %hX5, H5⟩, ⟨%d6, %X6, %hX6, H6⟩⟩
  iapply (kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (X1 := X1) (X2 := X2) (X3 := X3) (X4 := X4) (f7 := f7) (f8 := f8) (f9 := f9) (f10 := f10) (f11 := f11) (f12 := f12) (f13 := f13) (f14 := f14)).2.2 X5 X6 _
  isplitl [H1]; · iexact H1
  isplitl [H2]; · iexact H2
  isplitl [H3]; · iexact H3
  isplitl [H4]; · iexact H4
  isplitl [H5]; · iexact H5
  isplitl [H6]; · iexact H6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  iintro ⟨I1, I2, I3, I4, I5, I6, ⟨%e7, T7⟩, ⟨%e8, T8⟩, ⟨%e9, T9⟩, ⟨%e10, T10⟩, ⟨%e11, T11⟩, ⟨%e12, T12⟩, ⟨%e13, T13⟩, ⟨%e14, T14⟩⟩
  isplitl [T7 T8 T9 T10 T11 T12 T13 T14 Hg]
  · isplitl [T7 T8 T9 T10 T11 T12 T13 T14]
    · skip
      isplitl [T7]
      · iapply (someOwns c (Memref.whole cc0_scratch0) _); iexact T7
      isplitl [T8]
      · iapply (someOwns c (Memref.whole cc0_scratch1) _); iexact T8
      isplitl [T9]
      · iapply (someOwns c (Memref.whole cc0_scratch2) _); iexact T9
      isplitl [T10]
      · iapply (someOwns c (Memref.whole cc0_scratch3) _); iexact T10
      isplitl [T11]
      · iapply (someOwns c (Memref.whole cc0_scratch4) _); iexact T11
      isplitl [T12]
      · iapply (someOwns c (Memref.whole cc0_scratch5) _); iexact T12
      isplitl [T13]
      · iapply (someOwns c (Memref.whole cc0_scratch6) _); iexact T13
      iapply (someOwns c (Memref.whole cc0_scratch7) _); iexact T14
    iexact Hg
  isplitl [HW]; · iexact HW
  isplitl [I1]
  · iexists _; isplitr; · ipureintro; exact hX1
    iexact I1
  isplitl [I2]
  · iexists _; isplitr; · ipureintro; exact hX2
    iexact I2
  isplitl [I3]
  · iexists _; isplitr; · ipureintro; exact hX3
    iexact I3
  isplitl [I4]
  · iexists _; isplitr; · ipureintro; exact hX4
    iexact I4
  isplitl [I5]
  · iapply (someOwns c (win0_4.stage (cfg0.slots t 4)) _)
    iexact I5
  iapply (someOwns c (win0_5.stage (cfg0.slots t 5)) _)
  iexact I6

theorem defs₀_row (t : Fin cfg0.N) :
    defs₀ (F := F) .tc cfg0.body (cfg0.bodyArgs t (cfg0.slots t)) = bodyAt0 t := by
  unfold defs₀; rw [Defs.onTc_tc]

/-- The pipeline's obligation of the body. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run of @main. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- The frame: the arguments end as launched, the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1.arr_in c 0 rfl).trans (A_eq m c 0), (h.1.arr_in c 1 rfl).trans (A_eq m c 1),
    (h.1.arr_in c 2 rfl).trans (A_eq m c 2), (h.1.arr_in c 3 rfl).trans (A_eq m c 3)⟩, h.2⟩) (run_main m ρ)

end Cert.Kernel.Hand

end
-- ==== Proof.Hand.KernelIdealGroups.lean ====
/- The counted loop over groups of sixteen users of `proofs.«01_k».proof.KernelIdeal`: one trip's run, the pieces
   that the trips before `k` wrote, and the loop's invariant stated by them. -/
module

public import proofs.«01_k».proof.Proof.Gen.KernelIdeal.Loops

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- One trip's resources: what the region reads (arg3, arg9, arg10) at its contents, what it writes (arg5, arg11) at
    any. -/
abbrev Trip_k0_t2 (c : Dev nD) (arg3 : Memref sig .tc .vmem S128x256 .i32) (arg9 : Memref sig .tc .vmem S2x512x128 .f32) (arg10 : Memref sig .tc .vmem S128x128 .i32) (arg5 : Memref sig .tc .vmem S128x256 .f32) (arg11 : Memref sig .tc .vmem S2x512x128 .f32) (X_arg3 : BufTy.Contents (Elt F) arg3.view.ty) (X_arg9 : BufTy.Contents (Elt F) arg9.view.ty) (X_arg10 : BufTy.Contents (Elt F) arg10.view.ty) (f_arg5 : BufTy.Contents (Elt F) arg5.view.ty) (f_arg11 : BufTy.Contents (Elt F) arg11.view.ty) : sProp 𝕄G :=
  iprop((arg3.view.loc (c : Thread nD τ) ↦[arg3.view.set]{fullShare} X_arg3) ∗ (arg9.view.loc (c : Thread nD τ) ↦[arg9.view.set]{fullShare} X_arg9) ∗ (arg10.view.loc (c : Thread nD τ) ↦[arg10.view.set]{fullShare} X_arg10) ∗ (arg5.view.loc (c : Thread nD τ) ↦[arg5.view.set]{fullShare} f_arg5) ∗ (arg11.view.loc (c : Thread nD τ) ↦[arg11.view.set]{fullShare} f_arg11))

/-- One trip at a symbolic `k`: from any contents of arg5 and arg11 it ends with the found pieces written. -/
@[irreducible] def trip_k0_t2 (𝒱 : Variants) (c : Dev nD) (bd : Option 𝒱.V) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole) (arg0 : BitVec 32) (v77 : IVec S8x256 32) (v106 : IVec S64x128 32) (v108 : IVec S16x128 32) (v112 : IVec S16x128 1) (v116 : IVec S16x128 1) (v118 : IVec S16x128 32) (c0_i32_41 : BitVec 32) (X_arg3 : BufTy.Contents (Elt F) arg3.view.ty) (X_arg9 : BufTy.Contents (Elt F) arg9.view.ty) (X_arg10 : BufTy.Contents (Elt F) arg10.view.ty) (k : Fin k0_t2_loop.trips) :
    Σ' (L_arg5 : List (View.Piece (Elt F) S128x256 .f32)) , { L_arg11 : List (View.Piece (Elt F) S2x512x128 .f32) // ∀ (E : Set ℕ) (f_arg5 : BufTy.Contents (Elt F) arg5.view.ty) (f_arg11 : BufTy.Contents (Elt F) arg11.view.ty),
      Trip_k0_t2 (F := F) c arg3 arg9 arg10 arg5 arg11 X_arg3 X_arg9 X_arg10 f_arg5 f_arg11
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg0 v77 v106 v108 v112 v116 v118 c0_i32_41 k PUnit.unit)
          (fun _ => Trip_k0_t2 (F := F) c arg3 arg9 arg10 arg5 arg11 X_arg3 X_arg9 X_arg10 (arg5.view.writes (Elt F) f_arg5 L_arg5) (arg11.view.writes (Elt F) f_arg11 L_arg11)) } := by
  have hk : k.val < 8 := Nat.lt_of_lt_of_le k.isLt k0_t2_abs.2.1
  refine ⟨?_, ?_, fun E f_arg5 f_arg11 => ?run⟩
  case run =>
    unfold k0_t2_body
    iintro ⟨HR_arg3, HR_arg9, HR_arg10, HW_arg5, HW_arg11⟩
    sl_exec
    sl_step
    sl_close

/-- The trip's pieces. -/
abbrev tripL_k0_t2 (𝒱 : Variants) (c : Dev nD) (bd : Option 𝒱.V) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole) (arg0 : BitVec 32) (v77 : IVec S8x256 32) (v106 : IVec S64x128 32) (v108 : IVec S16x128 32) (v112 : IVec S16x128 1) (v116 : IVec S16x128 1) (v118 : IVec S16x128 32) (c0_i32_41 : BitVec 32) (X_arg3 : BufTy.Contents (Elt F) arg3.view.ty) (X_arg9 : BufTy.Contents (Elt F) arg9.view.ty) (X_arg10 : BufTy.Contents (Elt F) arg10.view.ty) (k : Fin k0_t2_loop.trips) : List (View.Piece (Elt F) S128x256 .f32) × List (View.Piece (Elt F) S2x512x128 .f32) :=
  ((trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v77 v106 v108 v112 v116 v118 c0_i32_41 X_arg3 X_arg9 X_arg10 k).1, (trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v77 v106 v108 v112 v116 v118 c0_i32_41 X_arg3 X_arg9 X_arg10 k).2.1)

/-- Trip `k`'s pieces in front of those before it. -/
@[irreducible] def pb_k0_t2Step (𝒱 : Variants) (c : Dev nD) (bd : Option 𝒱.V) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole) (arg0 : BitVec 32) (v77 : IVec S8x256 32) (v106 : IVec S64x128 32) (v108 : IVec S16x128 32) (v112 : IVec S16x128 1) (v116 : IVec S16x128 1) (v118 : IVec S16x128 32) (c0_i32_41 : BitVec 32) (X_arg3 : BufTy.Contents (Elt F) arg3.view.ty) (X_arg9 : BufTy.Contents (Elt F) arg9.view.ty) (X_arg10 : BufTy.Contents (Elt F) arg10.view.ty) (k : ℕ) (prev : List (View.Piece (Elt F) S128x256 .f32) × List (View.Piece (Elt F) S2x512x128 .f32)) : List (View.Piece (Elt F) S128x256 .f32) × List (View.Piece (Elt F) S2x512x128 .f32) :=
  if h : k < k0_t2_loop.trips then
    ((tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v77 v106 v108 v112 v116 v118 c0_i32_41 X_arg3 X_arg9 X_arg10 ⟨k, h⟩).1 ++ prev.1, (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v77 v106 v108 v112 v116 v118 c0_i32_41 X_arg3 X_arg9 X_arg10 ⟨k, h⟩).2 ++ prev.2)
  else prev

/-- The pieces of the trips before `k`, last first. -/
def pb_k0_t2 (𝒱 : Variants) (c : Dev nD) (bd : Option 𝒱.V) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole) (arg0 : BitVec 32) (v77 : IVec S8x256 32) (v106 : IVec S64x128 32) (v108 : IVec S16x128 32) (v112 : IVec S16x128 1) (v116 : IVec S16x128 1) (v118 : IVec S16x128 32) (c0_i32_41 : BitVec 32) (X_arg3 : BufTy.Contents (Elt F) arg3.view.ty) (X_arg9 : BufTy.Contents (Elt F) arg9.view.ty) (X_arg10 : BufTy.Contents (Elt F) arg10.view.ty) : ℕ → List (View.Piece (Elt F) S128x256 .f32) × List (View.Piece (Elt F) S2x512x128 .f32)
  | 0 => ([], [])
  | k + 1 => pb_k0_t2Step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v77 v106 v108 v112 v116 v118 c0_i32_41 X_arg3 X_arg9 X_arg10 k (pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v77 v106 v108 v112 v116 v118 c0_i32_41 X_arg3 X_arg9 X_arg10 k)

theorem pb_k0_t2_succ (𝒱 : Variants) (c : Dev nD) (bd : Option 𝒱.V) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole) (arg0 : BitVec 32) (v77 : IVec S8x256 32) (v106 : IVec S64x128 32) (v108 : IVec S16x128 32) (v112 : IVec S16x128 1) (v116 : IVec S16x128 1) (v118 : IVec S16x128 32) (c0_i32_41 : BitVec 32) (X_arg3 : BufTy.Contents (Elt F) arg3.view.ty) (X_arg9 : BufTy.Contents (Elt F) arg9.view.ty) (X_arg10 : BufTy.Contents (Elt F) arg10.view.ty) (k : Fin k0_t2_loop.trips) :
    pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v77 v106 v108 v112 v116 v118 c0_i32_41 X_arg3 X_arg9 X_arg10 (k.val + 1)
      = ((tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v77 v106 v108 v112 v116 v118 c0_i32_41 X_arg3 X_arg9 X_arg10 k).1 ++ (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v77 v106 v108 v112 v116 v118 c0_i32_41 X_arg3 X_arg9 X_arg10 k.val).1, (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v77 v106 v108 v112 v116 v118 c0_i32_41 X_arg3 X_arg9 X_arg10 k).2 ++ (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v77 v106 v108 v112 v116 v118 c0_i32_41 X_arg3 X_arg9 X_arg10 k.val).2) := by
  rw [pb_k0_t2.eq_2]; unfold pb_k0_t2Step; exact dif_pos k.isLt

/-- The invariant before trip `k`: what is read at its contents, what is written holding the pieces of the trips before
    `k` over the contents at loop entry. -/
abbrev inv_k0_t2 (𝒱 : Variants) (c : Dev nD) (bd : Option 𝒱.V) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole) (arg0 : BitVec 32) (v77 : IVec S8x256 32) (v106 : IVec S64x128 32) (v108 : IVec S16x128 32) (v112 : IVec S16x128 1) (v116 : IVec S16x128 1) (v118 : IVec S16x128 32) (c0_i32_41 : BitVec 32) (X_arg3 : BufTy.Contents (Elt F) arg3.view.ty) (X_arg9 : BufTy.Contents (Elt F) arg9.view.ty) (X_arg10 : BufTy.Contents (Elt F) arg10.view.ty) (G_arg5 : BufTy.Contents (Elt F) arg5.view.ty) (G_arg11 : BufTy.Contents (Elt F) arg11.view.ty) (k : ℕ) (_u : PUnit) : sProp 𝕄G :=
  iprop((arg3.view.loc (c : Thread nD τ) ↦[arg3.view.set]{fullShare} X_arg3) ∗ (arg9.view.loc (c : Thread nD τ) ↦[arg9.view.set]{fullShare} X_arg9) ∗ (arg10.view.loc (c : Thread nD τ) ↦[arg10.view.set]{fullShare} X_arg10) ∗ (∃ f, (arg5.view.loc (c : Thread nD τ) ↦[arg5.view.set]{fullShare} f) ∗ ⌜f = arg5.view.writes (Elt F) G_arg5 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v77 v106 v108 v112 v116 v118 c0_i32_41 X_arg3 X_arg9 X_arg10 k).1⌝) ∗ (∃ f, (arg11.view.loc (c : Thread nD τ) ↦[arg11.view.set]{fullShare} f) ∗ ⌜f = arg11.view.writes (Elt F) G_arg11 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v77 v106 v108 v112 v116 v118 c0_i32_41 X_arg3 X_arg9 X_arg10 k).2⌝))

set_option warn.classDefReducibility false in
/-- The loop by its invariant. -/
@[sl_loop] def loopInv_k0_t2 (𝒱 : Variants) (c : Dev nD) (bd : Option 𝒱.V) (E : Set ℕ) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole) (arg0 : BitVec 32) (v77 : IVec S8x256 32) (v106 : IVec S64x128 32) (v108 : IVec S16x128 32) (v112 : IVec S16x128 1) (v116 : IVec S16x128 1) (v118 : IVec S16x128 32) (c0_i32_41 : BitVec 32) (X_arg3 : BufTy.Contents (Elt F) arg3.view.ty) (X_arg9 : BufTy.Contents (Elt F) arg9.view.ty) (X_arg10 : BufTy.Contents (Elt F) arg10.view.ty) (G_arg5 : BufTy.Contents (Elt F) arg5.view.ty) (G_arg11 : BufTy.Contents (Elt F) arg11.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg0 v77 v106 v108 v112 v116 v118 c0_i32_41 where
  inv := inv_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v77 v106 v108 v112 v116 v118 c0_i32_41 X_arg3 X_arg9 X_arg10 G_arg5 G_arg11
  step k acc := by
    iintro ⟨HR_arg3, HR_arg9, HR_arg10, ⟨%f_arg5, HW_arg5, %h_arg5⟩, ⟨%f_arg11, HW_arg11, %h_arg11⟩⟩
    iapply (wp_wand_r Idealize.ShloMosaic.frame (wpE (defs₀ (F := F)) 𝒱 (c : Thread nD τ) bd) E)
    isplitl [HR_arg3 HR_arg9 HR_arg10 HW_arg5 HW_arg11]
    · iapply ((trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v77 v106 v108 v112 v116 v118 c0_i32_41 X_arg3 X_arg9 X_arg10 k).2.2 E f_arg5 f_arg11)
      isplitl [HR_arg3]; · iexact HR_arg3
      isplitl [HR_arg9]; · iexact HR_arg9
      isplitl [HR_arg10]; · iexact HR_arg10
      isplitl [HW_arg5]; · iexact HW_arg5
      iexact HW_arg11
    · iintro %_ ⟨HR_arg3, HR_arg9, HR_arg10, HW_arg5, HW_arg11⟩
      isplitl [HR_arg3]; · iexact HR_arg3
      isplitl [HR_arg9]; · iexact HR_arg9
      isplitl [HR_arg10]; · iexact HR_arg10
      rw [pb_k0_t2_succ]
      isplitl [HW_arg5]
      · iexists _; isplitl [HW_arg5]; · iexact HW_arg5
        ipureintro; rw [h_arg5, ← View.writes_append]
      iexists _; isplitl [HW_arg11]; · iexact HW_arg11
      ipureintro; rw [h_arg11, ← View.writes_append]

end Cert.KernelIdeal.Hand

end
-- ==== Proof.Hand.KernelIdealBody.lean ====
/- The body of `proofs.«01_k».proof.KernelIdeal` gone through once, over whole memrefs: from its inputs at any contents
   and everything else at any contents it ends with the inputs as they were, the two results written with the pieces the
   run finds, and the scratch at some contents. -/
module

public import proofs.«01_k».proof.Proof.Hand.KernelIdealGroups
public import Idealize.ShloMosaic.Lib.Pipeline.FrameBody
public import Idealize.ShloMosaic.Lib.Ring
public import Idealize.ShloMosaic.Lib.WordCmp

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The body's run. -/
@[irreducible] def kernelRun (c : Dev nD) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole)
    (X1 : BufTy.Contents (Elt F) arg1.view.ty) (X2 : BufTy.Contents (Elt F) arg2.view.ty) (X3 : BufTy.Contents (Elt F) arg3.view.ty) (X4 : BufTy.Contents (Elt F) arg4.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) :
    Σ' (L5 : List (View.Piece (Elt F) S128x256 .f32)) , { L6 : List (View.Piece (Elt F) S96x128 .bf16) // ∀ (g5 : BufTy.Contents (Elt F) arg5.view.ty) (g6 : BufTy.Contents (Elt F) arg6.view.ty) (K : PUnit → sProp 𝕄G),
      iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} g5) ∗ (arg6.view.loc (c : Thread nD τ) ↦[arg6.view.set]{fullShare} g6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14)
        ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} (arg5.view.writes (Elt F) g5 L5)) ∗ (arg6.view.loc (c : Thread nD τ) ↦[arg6.view.set]{fullShare} (arg6.view.writes (Elt F) g6 L6)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ f, (arg14.view.loc (c : Thread nD τ) ↦[arg14.view.set]{fullShare} f))) -∗ K ⟨⟩))
      ⊢ wp frame (wpE (defs₀ (F := F)) Variants.none (c : Thread nD τ) none) Set.univ (cc0_attend (F := F) i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun g5 g6 K => ?run⟩
  case run =>
    simp only [cc0_attend_eq_skeleton]; unfold cc0_attend_skel
    iintro ⟨H1, H2, H3, H4, H5, H6, H7, H8, H9, H10, H11, H12, H13, H14, Hk⟩
    sl_exec
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iexists _; iexact H14

end Cert.KernelIdeal.Hand

end
-- ==== Proof.Hand.KernelIdealFrame.lean ====
/- `proofs.«01_k».proof.KernelIdeal`'s frame: the program terminates without a fault, its argument arrays end as they began and
   every semaphore counter ends at zero. What the two results hold is not said here. -/
module

public import proofs.«01_k».proof.Proof.Hand.KernelIdealBody
public import proofs.«01_k».proof.Proof.Gen.KernelIdeal.Frame

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The class invariant, spelled out: the eight scratch buffers at some contents and the generator register. -/
theorem PhiA_eq (c : Dev nD) : (Pipeline.ΦA spec0 c : sProp 𝕄)
    = iprop(iprop((∃ d, owns (c : Thread nD τ) (Memref.whole cc0_scratch0 : Memref sig .tc .vmem S512x128 .f32) fullShare d) ∗ (∃ d, owns (c : Thread nD τ) (Memref.whole cc0_scratch1 : Memref sig .tc .vmem S3x128x128 .f32) fullShare d) ∗ (∃ d, owns (c : Thread nD τ) (Memref.whole cc0_scratch2 : Memref sig .tc .vmem S2x512x128 .f32) fullShare d) ∗ (∃ d, owns (c : Thread nD τ) (Memref.whole cc0_scratch3 : Memref sig .tc .vmem S128x128 .i32) fullShare d) ∗ (∃ d, owns (c : Thread nD τ) (Memref.whole cc0_scratch4 : Memref sig .tc .vmem S2x512x128 .f32) fullShare d) ∗ (∃ d, owns (c : Thread nD τ) (Memref.whole cc0_scratch5 : Memref sig .tc .vmem S3x2x256x128 .f32) fullShare d) ∗ (∃ d, owns (c : Thread nD τ) (Memref.whole cc0_scratch6 : Memref sig .tc .vmem S128x128 .f32) fullShare d) ∗ (∃ d, owns (c : Thread nD τ) (Memref.whole cc0_scratch7 : Memref sig .tc .vmem S96x128 .f32) fullShare d)) ∗ (∃ r, prngReg c r)) := by
  unfold Pipeline.ΦA
  rw [scopedRest0_eq]
  simp only [owns_whole]; try rfl

/-- A memref owned at some contents is owned reading something. -/
theorem someOwns (c : Dev nD) {sp : Space} {S : Shape} {e : EltTy} (M : Memref sig .tc sp S e) (f : Buf (Elt F) (M.view.loc (c : Thread nD τ))) :
    ((M.view.loc (c : Thread nD τ) ↦[M.view.set]{fullShare} f) : sProp 𝕄)
      ⊢ iprop(∃ X, owns (c : Thread nD τ) M fullShare X) := by
  unfold owns
  iintro H
  iexists (M.view.read (Elt F) f); iexists f
  isplitr
  · ipureintro; rfl
  iexact H

/-- The two result windows, whose contents the frame does not name. -/
def forgets0 : Fin 6 → Bool := ![false, false, false, false, true, true]

/-- The proof data: the arrays as launched, the input blocks left in place, the results unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d

def bodyPre (c : Dev nD) (t : Fin cfg0.N) : sProp 𝕄 :=
  iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ X, owns (c : Thread nD τ) (win0_4.stage (cfg0.slots t 4)) fullShare X) ∗ (∃ X, owns (c : Thread nD τ) (win0_5.stage (cfg0.slots t 5)) fullShare X))
def bodyPost (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ (∃ X, owns (c : Thread nD τ) (win0_4.stage (cfg0.slots t 4)) fullShare X) ∗ (∃ X, owns (c : Thread nD τ) (win0_5.stage (cfg0.slots t 5)) fullShare X))

/-- The body at a point: from the input blocks and anything in the results and the scratch, to the same. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = Pipeline.ΦA spec0 c from rfl, show (dats m 0 c).Φ t.castSucc = Pipeline.ΦA spec0 c from rfl, PhiA_eq,
    show (dats m 0 c).owesAt () t.succ = (dats m 0 c).owesAt () t.castSucc from rfl]
  simp only [before0_0, before0_1, before0_2, before0_3, after0_0, after0_1, after0_2, after0_3]
  unfold owns
  iintro ⟨⟨⟨⟨%d7, %f7, -, S7⟩, ⟨%d8, %f8, -, S8⟩, ⟨%d9, %f9, -, S9⟩, ⟨%d10, %f10, -, S10⟩, ⟨%d11, %f11, -, S11⟩, ⟨%d12, %f12, -, S12⟩, ⟨%d13, %f13, -, S13⟩, ⟨%d14, %f14, -, S14⟩⟩, Hg⟩, HW, ⟨%d1, %X1, %hX1, H1⟩, ⟨%d2, %X2, %hX2, H2⟩, ⟨%d3, %X3, %hX3, H3⟩, ⟨%d4, %X4, %hX4, H4⟩, ⟨%d5, %X5, %hX5, H5⟩, ⟨%d6, %X6, %hX6, H6⟩⟩
  iapply (kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (X1 := X1) (X2 := X2) (X3 := X3) (X4 := X4) (f7 := f7) (f8 := f8) (f9 := f9) (f10 := f10) (f11 := f11) (f12 := f12) (f13 := f13) (f14 := f14)).2.2 X5 X6 _
  isplitl [H1]; · iexact H1
  isplitl [H2]; · iexact H2
  isplitl [H3]; · iexact H3
  isplitl [H4]; · iexact H4
  isplitl [H5]; · iexact H5
  isplitl [H6]; · iexact H6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  iintro ⟨I1, I2, I3, I4, I5, I6, ⟨%e7, T7⟩, ⟨%e8, T8⟩, ⟨%e9, T9⟩, ⟨%e10, T10⟩, ⟨%e11, T11⟩, ⟨%e12, T12⟩, ⟨%e13, T13⟩, ⟨%e14, T14⟩⟩
  isplitl [T7 T8 T9 T10 T11 T12 T13 T14 Hg]
  · isplitl [T7 T8 T9 T10 T11 T12 T13 T14]
    · skip
      isplitl [T7]
      · iapply (someOwns c (Memref.whole cc0_scratch0) _); iexact T7
      isplitl [T8]
      · iapply (someOwns c (Memref.whole cc0_scratch1) _); iexact T8
      isplitl [T9]
      · iapply (someOwns c (Memref.whole cc0_scratch2) _); iexact T9
      isplitl [T10]
      · iapply (someOwns c (Memref.whole cc0_scratch3) _); iexact T10
      isplitl [T11]
      · iapply (someOwns c (Memref.whole cc0_scratch4) _); iexact T11
      isplitl [T12]
      · iapply (someOwns c (Memref.whole cc0_scratch5) _); iexact T12
      isplitl [T13]
      · iapply (someOwns c (Memref.whole cc0_scratch6) _); iexact T13
      iapply (someOwns c (Memref.whole cc0_scratch7) _); iexact T14
    iexact Hg
  isplitl [HW]; · iexact HW
  isplitl [I1]
  · iexists _; isplitr; · ipureintro; exact hX1
    iexact I1
  isplitl [I2]
  · iexists _; isplitr; · ipureintro; exact hX2
    iexact I2
  isplitl [I3]
  · iexists _; isplitr; · ipureintro; exact hX3
    iexact I3
  isplitl [I4]
  · iexists _; isplitr; · ipureintro; exact hX4
    iexact I4
  isplitl [I5]
  · iapply (someOwns c (win0_4.stage (cfg0.slots t 4)) _)
    iexact I5
  iapply (someOwns c (win0_5.stage (cfg0.slots t 5)) _)
  iexact I6

theorem defs₀_row (t : Fin cfg0.N) :
    defs₀ (F := F) .tc cfg0.body (cfg0.bodyArgs t (cfg0.slots t)) = bodyAt0 t := by
  unfold defs₀; rw [Defs.onTc_tc]

/-- The pipeline's obligation of the body. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run of @main. -/
theorem run_main : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- The frame: the arguments end as launched, the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1.arr_in c 0 rfl).trans (A_eq m c 0), (h.1.arr_in c 1 rfl).trans (A_eq m c 1),
    (h.1.arr_in c 2 rfl).trans (A_eq m c 2), (h.1.arr_in c 3 rfl).trans (A_eq m c 3)⟩, h.2⟩) (run_main m ρ)

end Cert.KernelIdeal.Hand

end
-- ==== Proof.Hand.ValuePure.lean ====
/- Values of the payloads of `proofs.«01_k».proof.KernelIdeal` at an index, in exact arithmetic. -/
module

public import proofs.«01_k».proof.Proof.Gen.KernelIdeal.Skeleton
public import Idealize.ShloMosaic.Lib.Pointwise
public import Idealize.ShloMosaic.Lib.BitcastFour

@[expose] public section

set_option maxRecDepth 8192
set_option maxHeartbeats 1000000

noncomputable section

namespace Cert.KernelIdeal.Hand

open Cert.KernelIdeal Cert.KernelIdeal.Gen
open Idealize.ShloMosaic Idealize.ShloMosaic.TcCoe

/-- Byte `n` of a word. -/
def byteOf (x : BitVec 32) (n : ℕ) : BitVec 8 := x.extractLsb' (8 * n) 8

/-- Thirty-two-bit words read at eight bits: result row `4r + n` of a column is byte `n` of source row `r`. -/
theorem bitcast_32_8 {R r n : ℕ} (x : (⟨2, ![r, n]⟩ : Shape).Idx → BitVec 32)
    (h : (⟨2, ![r, n]⟩ : Shape).Bitcasts 32 ⟨2, ![R, n]⟩ 8) (a : Fin R) (l : Fin n) (ha : a.val / 4 < r) :
    bitcast ⟨2, ![R, n]⟩ 8 x h (ix2 a l) = byteOf (x (ix2 ⟨a.val / 4, ha⟩ l)) (a.val % 4) := by
  apply BitVec.eq_of_getLsbD_eq
  intro i hi
  rw [bitcast_getLsbD x h _ i hi (by decide), byteOf, BitVec.getLsbD_extractLsb']
  have er : (⟨2, ![R, n]⟩ : Shape).row (ix2 a l) = a.val := rfl
  have ep : ((⟨2, ![R, n]⟩ : Shape).row (ix2 a l) * 8 + i) / 32 = a.val / 4 := by rw [er]; omega
  have eq : ((⟨2, ![R, n]⟩ : Shape).row (ix2 a l) * 8 + i) % 32 = 8 * (a.val % 4) + i := by rw [er]; omega
  rw [eq]
  simp only [hi, decide_true, Bool.true_and]
  congr 2
  funext c
  match c with
  | ⟨0, _⟩ => exact Fin.ext ((h.srcIdx_row _ _ _ ⟨0, Nat.zero_lt_two⟩ rfl).trans ep)
  | ⟨1, _⟩ => exact Fin.ext (h.srcIdx_other _ _ _ ⟨1, Nat.one_lt_two⟩ (by show ¬ 1 + 2 = 2; omega))

/-- A word of the keys with the part that does not count cleared. -/
def keepWord (x n : BitVec 32) (j : ℕ) : BitVec 32 := x &&& (if (BitVec.ofNat 32 j).slt n then 16777215#32 else 0#32)

/-- How the kernel writes that word. -/
theorem keepWord_eq (x n : BitVec 32) (j : ℕ) :
    IntOp.andi x (Scalar.select (IntOp.cmpi .slt (BitVec.ofNat 32 j) n) 16777215#32 0#32) = keepWord x n j := by
  unfold keepWord IntOp.andi Scalar.select IntOp.cmpi
  cases (BitVec.ofNat 32 j).slt n <;> rfl

theorem k0_pay83_apply (r : Fin 8) (l : Fin 256) : k0_pay83 (ix2 r l) = BitVec.ofBool (decide (l.val / 32 = r.val)) := by
  pointwise [k0_pay83]
  revert r l
  decide +kernel

theorem k0_pay84_apply (r : Fin 8) (l : Fin 256) : k0_pay84 (ix2 r l) = BitVec.ofNat 32 (l.val % 4) := by
  pointwise [k0_pay84]
  revert l
  decide +kernel

theorem k0_pay85_apply (r : Fin 64) (l : Fin 128) : k0_pay85 (ix2 r l) = BitVec.ofNat 32 (4 * r.val + l.val / 32) := by
  pointwise [k0_pay85]
  revert r l
  decide +kernel

/-- The code in byte `b` of word `l` of line `g` of user `u` of the block, cleared if its key does not count. -/
def codeOf (cnt : S24576.Idx → BitVec 32) (kb : S8192x128.Idx → BitVec 32) (i : Fin 192) (u : Fin 128) (g : Fin 64) (l : Fin 128) (b : ℕ) : EReal :=
  Ideal.ofBits .fp8e4m3 (byteOf (keepWord (kb (ix2 ⟨64 * u.val + g.val, by omega⟩ l)) (cnt (ix1 ⟨128 * i.val + u.val, by omega⟩)) (4 * g.val + l.val / 32)) b)

/-- The block of channels that byte `b` of a word belongs to, the last one standing for the unused byte too. -/
def planeN (b : ℕ) : Fin 3 := ⟨min b 2, by omega⟩

/-- The words of a pair of users' keys, masked and cut into bytes: column `l` is word `l % 128` of user `l / 128`. -/
theorem k0_pay2_apply (x0 x1 : IVec S64x128 32) (n0 n1 : BitVec 32) (r l : Fin 256) :
    k0_pay2 (F := Ideal) k0_pay85 x0 n0 x1 n1 (ix2 r l)
      = Ideal.ofBits .fp8e4m3 (byteOf (keepWord ((if l.val < 128 then x0 else x1) (ix2 ⟨r.val / 4, by omega⟩ ⟨l.val % 128, by omega⟩))
          (if l.val < 128 then n0 else n1) (4 * (r.val / 4) + l.val % 128 / 32)) (r.val % 4)) := by
  have hr : r.val / 4 < 64 := by omega
  pointwise [k0_pay2]
  split
  · rename_i h
    rw [bitcast_32_8 (R := 256) (r := 64) (n := 128) _ _ _ _ hr]
    have e : (⟨l.val % 128, by omega⟩ : Fin 128) = ⟨l.val, h⟩ := Fin.ext (Nat.mod_eq_of_lt h)
    have e' : l.val % 128 = l.val := Nat.mod_eq_of_lt h
    pointwise [k0_pay85_apply]
    simp only [e', h, if_true, keepWord_eq]
  · rename_i h
    rw [bitcast_32_8 (R := 256) (r := 64) (n := 128) _ _ _ _ hr]
    have e' : l.val % 128 = l.val - 128 := by omega
    pointwise [k0_pay85_apply]
    simp only [e', h, if_false, keepWord_eq]

/-- A pair of users' rows side by side, kept where lane group `l / 32` is row `r`. -/
theorem k0_pay3_apply (a b : Vec Ideal S1x1x128 .f32) (r : Fin 8) (l : Fin 256) :
    k0_pay3 (F := Ideal) k0_pay83 a b (ix2 r l) = if l.val / 32 = r.val then (if l.val < 128 then a else b) (ix3 0 0 ⟨l.val % 128, by omega⟩) else 0 := by
  pointwise [k0_pay3]
  rw [k0_pay83_apply]
  by_cases h : l.val / 32 = r.val
  · simp only [h, decide_true, BitVec.ofBool_true, Scalar.select, if_true]
    by_cases h' : l.val < 128
    · simp only [h', dif_pos, if_true, Nat.mod_eq_of_lt h']
    · have e' : l.val % 128 = l.val - 128 := by omega
      simp only [h', dif_neg, if_false, not_false_eq_true, e']
  · simp only [h, decide_false, BitVec.ofBool_false, Scalar.select, if_false]; rfl

/-- The same payload, stated of its other two copies. -/
theorem k0_pay4_eq (v61 : IVec S8x256 1) (a b : Vec Ideal S1x1x128 .f32) : k0_pay4 (F := Ideal) v61 a b = k0_pay3 v61 a b := rfl

/-- The product of three stacked left sides with the keys' bytes, and the choice of one of them by the byte. -/
def pay5Of (v77 : IVec S8x256 32) (v381 : FVec Ideal S256x256 .fp8e4m3) (a b c : FVec Ideal S8x256 .bf16) : FVec Ideal S8x256 .f32 :=
  have v436 : FVec Ideal S24x256 .bf16 := concatenate S24x256 0 [⟨S8x256, a⟩, ⟨S8x256, b⟩, ⟨S8x256, c⟩] concatenates_S8x256_S8x256_S8x256_S24x256_d0
  have v437 : FVec Ideal S24x256 .f32 := matmul dot_S24x256_S256x256_S24x256_1_1_0_0_n_n none v436 v381 (constant S24x256 .f32 0x00000000#32)
  select (cmpi .eq v77 (broadcast S8x256 0#32)) (extractStridedSlice S8x256 ![0, 0] v437 slices_S24x256_o0_0_S8x256)
    (select (cmpi .eq v77 (broadcast S8x256 1#32)) (extractStridedSlice S8x256 ![8, 0] v437 slices_S24x256_o8_0_S8x256)
      (extractStridedSlice S8x256 ![16, 0] v437 slices_S24x256_o16_0_S8x256))

theorem k0_pay5_eq (v61 : IVec S8x256 1) (v77 : IVec S8x256 32) (v381 : FVec Ideal S256x256 .fp8e4m3) (a b : FVec Ideal S8x256 .bf16) (c0 c1 : Vec Ideal S1x1x128 .f32) :
    k0_pay5 (F := Ideal) v61 v77 v381 a b c0 c1 = pay5Of v77 v381 a b (k0_pay3 v61 c0 c1) := rfl

theorem pay5Of_apply (v381 : FVec Ideal S256x256 .fp8e4m3) (a b c : FVec Ideal S8x256 .bf16) (r : Fin 8) (l : Fin 256) :
    pay5Of k0_pay84 v381 a b c (ix2 r l)
      = ∑ x : Fin 256, (if l.val % 4 = 0 then a else if l.val % 4 = 1 then b else c) (ix2 r x) * v381 (ix2 l x) := by
  have h4 : l.val % 4 < 4 := by omega
  pointwise [pay5Of]
  rw [k0_pay84_apply]
  generalize l.val % 4 = m at h4
  have e1 : ¬ 16 + r.val < 8 := by omega
  have e2 : ¬ 16 + r.val - 8 < 8 := by omega
  have e3 : 16 + r.val - 8 - 8 = r.val := by omega
  interval_cases m <;> simp [IntOp.cmpi, Scalar.select, e1, e2, e3]

/-- A sum over two users' lanes in which one row of one user is kept. -/
theorem sum_kept (r : Fin 8) (f g : Fin 256 → EReal) :
    ∑ x : Fin 256, (if x.val / 32 = r.val then f x else 0) * g x
      = ∑ w : Fin 32, f ⟨32 * r.val + w.val, by omega⟩ * g ⟨32 * r.val + w.val, by omega⟩ := by
  symm
  refine Finset.sum_of_injOn (fun w : Fin 32 => (⟨32 * r.val + w.val, by omega⟩ : Fin 256)) ?_ ?_ ?_ ?_
  · intro a _ b _ h
    exact Fin.ext (by have := congrArg Fin.val h; simp only at this; omega)
  · intro a _; exact Finset.mem_univ _
  · intro x _ hx
    rw [if_neg, zero_mul]
    intro h
    exact hx ⟨⟨x.val - 32 * r.val, by omega⟩, Finset.mem_univ _, Fin.ext (by show 32 * r.val + (x.val - 32 * r.val) = x.val; omega)⟩
  · intro w _
    rw [if_pos (by show (32 * r.val + w.val) / 32 = r.val; omega)]

/-- The three partial products of a pair: row `r` (user `r / 4`, key `r % 4` of a line) at byte column `l`. -/
theorem k0_pay5_apply (v381 : FVec Ideal S256x256 .fp8e4m3) (a0 a1 b0 b1 c0 c1 : Vec Ideal S1x1x128 .f32) (r : Fin 8) (l : Fin 256) :
    k0_pay5 (F := Ideal) k0_pay83 k0_pay84 v381 (k0_pay3 k0_pay83 a0 a1) (k0_pay4 k0_pay83 b0 b1) c0 c1 (ix2 r l)
      = ∑ w : Fin 32, (if l.val % 4 = 0 then (if r.val < 4 then a0 else a1) else if l.val % 4 = 1 then (if r.val < 4 then b0 else b1) else (if r.val < 4 then c0 else c1))
          (ix3 0 0 ⟨32 * (r.val % 4) + w.val, by omega⟩) * v381 (ix2 l ⟨32 * r.val + w.val, by omega⟩) := by
  rw [k0_pay5_eq, k0_pay4_eq, pay5Of_apply]
  have key : ∀ (x y : Vec Ideal S1x1x128 .f32), ∑ z : Fin 256, k0_pay3 (F := Ideal) k0_pay83 x y (ix2 r z) * v381 (ix2 l z)
      = ∑ w : Fin 32, (if r.val < 4 then x else y) (ix3 0 0 ⟨32 * (r.val % 4) + w.val, by omega⟩) * v381 (ix2 l ⟨32 * r.val + w.val, by omega⟩) := by
    intro x y
    simp only [k0_pay3_apply]
    rw [sum_kept r (fun z => (if z.val < 128 then x else y) (ix3 0 0 ⟨z.val % 128, by omega⟩)) (fun z => v381 (ix2 l z))]
    refine Finset.sum_congr rfl fun w _ => ?_
    have e : (32 * r.val + w.val) % 128 = 32 * (r.val % 4) + w.val := by omega
    have e' : (32 * r.val + w.val < 128) ↔ r.val < 4 := by omega
    simp only [e, e']
  split
  · exact key a0 a1
  · split
    · exact key b0 b1
    · exact key c0 c1

/-- What the first loop leaves in its scratch: plane `h`, row `r` (user `r / 4`, key `r % 4` of a line), byte column `l`:
    the target's row times the codes of one key in the block that the byte belongs to. -/
def partOf (qn : S3x128x128.Idx → EReal) (code : Fin 128 → Fin 64 → Fin 128 → ℕ → EReal) (j : S2x512x128.Idx) : EReal :=
  ∑ w : Fin 32, qn (ix3 (planeN ((j 2).val % 4)) ⟨(j 1).val / 4, by have : (j 1).val < 512 := (j 1).isLt; omega⟩ ⟨32 * ((j 1).val % 4) + w.val, by omega⟩)
    * code ⟨(j 1).val / 4, by have : (j 1).val < 512 := (j 1).isLt; omega⟩
        ⟨32 * (j 0).val + (j 2).val / 4, by have : (j 0).val < 2 := (j 0).isLt; have : (j 2).val < 128 := (j 2).isLt; omega⟩
        ⟨32 * ((j 1).val % 4) + w.val, by omega⟩ ((j 2).val % 4)

/-- A sum over the columns of a group-of-four layout in which one column of each group is kept. -/
theorem sum_kept_col (n : Fin 4) (f g : Fin 256 → EReal) :
    ∑ x : Fin 256, (if x.val % 4 = n.val then f x else 0) * g x
      = ∑ w : Fin 64, f ⟨4 * w.val + n.val, by omega⟩ * g ⟨4 * w.val + n.val, by omega⟩ := by
  symm
  refine Finset.sum_of_injOn (fun w : Fin 64 => (⟨4 * w.val + n.val, by omega⟩ : Fin 256)) ?_ ?_ ?_ ?_
  · intro a _ b _ h
    exact Fin.ext (by have := congrArg Fin.val h; simp only at this; omega)
  · intro a _; exact Finset.mem_univ _
  · intro x _ hx
    rw [if_neg, zero_mul]
    intro h
    exact hx ⟨⟨x.val / 4, by omega⟩, Finset.mem_univ _, Fin.ext (by show 4 * (x.val / 4) + n.val = x.val; omega)⟩
  · intro w _
    rw [if_pos (by show (4 * w.val + n.val) % 4 = n.val; omega)]

/-- Three stacked left sides times the keys' bytes. -/
def stackDot (v381 : FVec Ideal S256x256 .fp8e4m3) (a b c : FVec Ideal S8x256 .f32) : FVec Ideal S24x256 .f32 :=
  matmul dot_S24x256_S256x256_S24x256_1_0_0_1_n_n none (concatenate S24x256 0 [⟨S8x256, truncf .bf16 a bitsLt_bf16_f32⟩, ⟨S8x256, truncf .bf16 b bitsLt_bf16_f32⟩, ⟨S8x256, truncf .bf16 c bitsLt_bf16_f32⟩] concatenates_S8x256_S8x256_S8x256_S24x256_d0) v381
    (constant S24x256 .f32 0x00000000#32)

/-- The weights of a pair side by side, kept where the mask is `m`. -/
def keptWeights (v77 : IVec S8x256 32) (m : BitVec 32) (a b : Vec Ideal S1x8x128 .f32) : FVec Ideal S8x256 .f32 :=
  select (cmpi .eq v77 (broadcast S8x256 m))
    (concatenate S8x256 1 [⟨S8x128, shapeCast S8x128 a shapeCasts_S1x8x128_S8x128⟩, ⟨S8x128, shapeCast S8x128 b shapeCasts_S1x8x128_S8x128⟩] concatenates_S8x128_S8x128_S8x256_d1)
    (broadcast S8x256 (Scalar.ofBits .f32 0x00000000#32))

theorem k0_pay74_eq (v77 : IVec S8x256 32) (v381 : FVec Ideal S256x256 .fp8e4m3) (a b : Vec Ideal S1x8x128 .f32) :
    k0_pay74 (F := Ideal) v77 v381 a b = stackDot v381 (keptWeights v77 0#32 a b) (keptWeights v77 1#32 a b) (keptWeights v77 2#32 a b) := rfl

theorem stackDot_apply (v381 : FVec Ideal S256x256 .fp8e4m3) (a b c : FVec Ideal S8x256 .f32) (n : Fin 3) (r : Fin 8) (l : Fin 256) :
    stackDot v381 a b c (ix2 ⟨8 * n.val + r.val, by omega⟩ l)
      = ∑ x : Fin 256, (if n.val = 0 then a else if n.val = 1 then b else c) (ix2 r x) * v381 (ix2 x l) := by
  pointwise [stackDot]
  have e0 : 8 * 0 + r.val < 8 := by omega
  have e1 : ¬ 8 * 1 + r.val < 8 := by omega
  have e2 : 8 * 1 + r.val - 8 < 8 := by omega
  have e3 : 8 * 1 + r.val - 8 = r.val := by omega
  have e4 : ¬ 8 * 2 + r.val < 8 := by omega
  have e5 : ¬ 8 * 2 + r.val - 8 < 8 := by omega
  have e6 : 8 * 2 + r.val - 8 - 8 = r.val := by omega
  have e7 : 8 * 0 + r.val = r.val := by omega
  obtain ⟨n, hn⟩ := n
  interval_cases n
  · simp only [e0, dif_pos, if_true, e7, r.isLt]
  · simp only [e1, e2, e3, dif_pos, dif_neg, not_false_eq_true, if_true, if_false, one_ne_zero, r.isLt]
  · simp only [e4, e5, e6, dif_neg, not_false_eq_true, if_false]
    norm_num

theorem keptWeights_apply (m : ℕ) (hm : m < 4) (a b : Vec Ideal S1x8x128 .f32) (r : Fin 8) (x : Fin 256) :
    keptWeights k0_pay84 (BitVec.ofNat 32 m) a b (ix2 r x)
      = if x.val % 4 = m then (if x.val < 128 then a else b) (ix3 0 r ⟨x.val % 128, by omega⟩) else 0 := by
  pointwise [keptWeights]
  rw [k0_pay84_apply]
  have hx : x.val % 4 < 4 := by omega
  have e : IntOp.cmpi .eq (BitVec.ofNat 32 (x.val % 4)) (BitVec.ofNat 32 m) = BitVec.ofBool (decide (x.val % 4 = m)) := by
    generalize x.val % 4 = y at hx
    interval_cases y <;> interval_cases m <;> decide
  rw [e]
  by_cases h : x.val % 4 = m
  · simp only [h, decide_true, BitVec.ofBool_true, Scalar.select, if_true]
    by_cases h' : x.val < 128
    · simp only [h', dif_pos, if_true, Nat.mod_eq_of_lt h']
    · have e' : x.val % 128 = x.val - 128 := by omega
      simp only [h', dif_neg, if_false, not_false_eq_true, e']
  · simp only [h, decide_false, BitVec.ofBool_false, Scalar.select, if_false]; rfl

/-- The weights of a pair, kept where the byte column belongs to block `n`, times the keys' bytes. -/
theorem k0_pay74_apply (v381 : FVec Ideal S256x256 .fp8e4m3) (a b : Vec Ideal S1x8x128 .f32) (n : Fin 3) (r : Fin 8) (l : Fin 256) :
    k0_pay74 (F := Ideal) k0_pay84 v381 a b (ix2 ⟨8 * n.val + r.val, by omega⟩ l)
      = ∑ g : Fin 64, (if g.val < 32 then a else b) (ix3 0 r ⟨4 * (g.val % 32) + n.val, by omega⟩) * v381 (ix2 ⟨4 * g.val + n.val, by omega⟩ l) := by
  have key : ∀ m : Fin 4, ∑ x : Fin 256, (if x.val % 4 = m.val then (if x.val < 128 then a else b) (ix3 0 r ⟨x.val % 128, by omega⟩) else 0) * v381 (ix2 x l)
      = ∑ g : Fin 64, (if g.val < 32 then a else b) (ix3 0 r ⟨4 * (g.val % 32) + m.val, by omega⟩) * v381 (ix2 ⟨4 * g.val + m.val, by omega⟩ l) := by
    intro m
    rw [sum_kept_col m (fun x => (if x.val < 128 then a else b) (ix3 0 r ⟨x.val % 128, by omega⟩)) (fun x => v381 (ix2 x l))]
    refine Finset.sum_congr rfl fun g _ => ?_
    have e : (4 * g.val + m.val) % 128 = 4 * (g.val % 32) + m.val := by omega
    have e' : (4 * g.val + m.val < 128) ↔ g.val < 32 := by omega
    simp only [e, e']
  rw [k0_pay74_eq, stackDot_apply, ← key ⟨n.val, by omega⟩]
  refine Finset.sum_congr rfl fun x _ => ?_
  congr 1
  obtain ⟨n, hn⟩ := n
  interval_cases n
  · exact keptWeights_apply 0 (by omega) a b r x
  · exact keptWeights_apply 1 (by omega) a b r x
  · exact keptWeights_apply 2 (by omega) a b r x

/-- What the third loop leaves in its scratch: block `n`, user `u` of a pair, row `4p + k` (pair `p`, key `k` of a line), lane
    `l`: the weights of the keys of that place times their codes in word `l` of the line. -/
def pooledOf (wk : S2x512x128.Idx → EReal) (code : Fin 128 → Fin 64 → Fin 128 → ℕ → EReal) (j : S3x2x256x128.Idx) : EReal :=
  ∑ g : Fin 64, wk (ix3 ⟨g.val / 32, by omega⟩ ⟨8 * ((j 2).val / 4) + 4 * (j 1).val + (j 2).val % 4, by
      have : (j 1).val < 2 := (j 1).isLt; have : (j 2).val < 256 := (j 2).isLt; omega⟩
      ⟨4 * (g.val % 32) + (j 0).val, by have : (j 0).val < 3 := (j 0).isLt; omega⟩)
    * code ⟨2 * ((j 2).val / 4) + (j 1).val, by have : (j 1).val < 2 := (j 1).isLt; have : (j 2).val < 256 := (j 2).isLt; omega⟩ g (j 3) (j 0).val

/-- Pieces collected trip by trip: one is there exactly when some trip made it. -/
theorem mem_pieces {α : Type} {n : ℕ} (pb : ℕ → List α) (trip : Fin n → List α) (h0 : pb 0 = []) (hs : ∀ k : Fin n, pb (k.val + 1) = trip k ++ pb k.val)
    (p : α) : ∀ m : ℕ, m ≤ n → (p ∈ pb m ↔ ∃ k : Fin n, k.val < m ∧ p ∈ trip k)
  | 0, _ => by rw [h0]; simp
  | m + 1, h => by
    rw [hs ⟨m, h⟩, List.mem_append, mem_pieces pb trip h0 hs p m (Nat.le_of_succ_le h)]
    constructor
    · rintro (hp | ⟨k, hk, hp⟩)
      · exact ⟨⟨m, h⟩, Nat.lt_succ_self m, hp⟩
      · exact ⟨k, Nat.lt_succ_of_lt hk, hp⟩
    · rintro ⟨k, hk, hp⟩
      rcases Nat.lt_succ_iff_lt_or_eq.mp hk with hk | hk
      · exact Or.inr ⟨k, hk, hp⟩
      · left
        have : k = ⟨m, h⟩ := Fin.ext hk
        rw [← this]; exact hp

/-- A buffer after a loop whose trips' pieces all agree with one function and together cover an index. -/
theorem read_loop {sig : RefSig} {κ : Kind} {sp : Space} {s : Shape} {e : EltTy} {Val : EltTy → Type} {n : ℕ} (v : View sig κ sp s e) (f : v.ty.Contents Val)
    (pb : ℕ → List (View.Piece Val s e)) (trip : Fin n → List (View.Piece Val s e)) (h0 : pb 0 = []) (hs : ∀ k : Fin n, pb (k.val + 1) = trip k ++ pb k.val)
    (G : s.Idx → Val e) (hG : ∀ k, ∀ p ∈ trip k, ∀ x : p.1.shape.Idx, p.2 x = G (p.1.emb x))
    (y : s.Idx) (k : Fin n) (hy : ∃ p ∈ trip k, y ∈ p.1.set) : v.read Val (v.writes Val f (pb n)) y = G y := by
  refine View.read_writes_apply_of_pieces v f G (pb n) ?_ y ?_
  · intro p hp
    obtain ⟨k, _, hk⟩ := (mem_pieces pb trip h0 hs p n (le_refl n)).mp hp
    exact hG k p hk
  · obtain ⟨p, hp, hm⟩ := hy
    exact ⟨p, (mem_pieces pb trip h0 hs p n (le_refl n)).mpr ⟨k, k.isLt, hp⟩, hm⟩

/-- A load of a block at an index is the buffer's reading at the index the block's offsets shift it to. -/
theorem load_at {sig : RefSig} {κ : Kind} {sp : Space} {s : Shape} {e : EltTy} {Val : EltTy → Type} (v : View sig κ sp s e) (X : v.ty.Contents Val)
    (r : LoadRect s) (x : r.shape.Idx) (y : s.Idx) (h : ∀ a, (y a : ℕ) = r.off a + r.stride a * x a) :
    v.readAt Val r X x = v.read Val X y := by
  rw [View.readAt_apply]
  exact congrArg _ (funext fun a => Fin.ext (h a).symm)

/-- A point of a block is the point its offsets shift it to. -/
theorem emb_at {s : Shape} (r : Rect s) (x : r.shape.Idx) (y : s.Idx) (h : ∀ a, (y a : ℕ) = r.off a + r.stride a * x a) : r.emb x = y :=
  funext fun a => Fin.ext (h a).symm

/-- `load_at` for a block of adjacent elements whose offsets have a closed form. -/
theorem load_unit {sig : RefSig} {κ : Kind} {sp : Space} {s : Shape} {e : EltTy} {Val : EltTy → Type} (v : View sig κ sp s e) (X : v.ty.Contents Val)
    {off size : Fin s.rank → ℕ} {inb} (off' : Fin s.rank → ℕ) (ho : off = off') (x : (Rect.unit off size inb).toLoadRect.shape.Idx) (y : s.Idx)
    (h : ∀ a, (y a : ℕ) = off' a + x a) : v.readAt Val (Rect.unit off size inb).toLoadRect X x = v.read Val X y := by
  subst ho
  refine load_at v X _ x y fun a => ?_
  rw [h a]
  show _ = off a + 1 * (x a : ℕ)
  omega

/-- `emb_at` for a block of adjacent elements whose offsets have a closed form. -/
theorem emb_unit {s : Shape} {off size : Fin s.rank → ℕ} {inb} (off' : Fin s.rank → ℕ) (ho : off = off') (x : (Rect.unit off size inb).shape.Idx) (y : s.Idx)
    (h : ∀ a, (y a : ℕ) = off' a + x a) : (Rect.unit off size inb).emb x = y := by
  subst ho
  refine emb_at _ x y fun a => ?_
  rw [h a]
  show _ = off a + 1 * (x a : ℕ)
  omega

/-- An index lies in a block whose offsets have a closed form. -/
theorem mem_unit {s : Shape} {off size : Fin s.rank → ℕ} {inb} (off' : Fin s.rank → ℕ) (ho : off = off') (y : s.Idx)
    (h : ∀ a, off' a ≤ (y a : ℕ) ∧ (y a : ℕ) < off' a + size a) : y ∈ (Rect.unit off size inb).set := by
  subst ho
  exact Rect.mem_set_unit.mpr h

/-- The partial products of a pair of users, from what the loads of its trip hold. -/
theorem pairPart (cnt : S24576.Idx → BitVec 32) (kb : S8192x128.Idx → BitVec 32) (qn : S3x128x128.Idx → EReal) (i : Fin 192) (k : Fin 64)
    (K0 K1 : Vec Ideal S64x128 .i32) (c0 c1 : BitVec 32) (a0 a1 b0 b1 d0 d1 : Vec Ideal S1x1x128 .f32)
    (hK0 : ∀ (g : Fin 64) (l : Fin 128), K0 (ix2 g l) = kb (ix2 ⟨128 * k.val + g.val, by omega⟩ l))
    (hK1 : ∀ (g : Fin 64) (l : Fin 128), K1 (ix2 g l) = kb (ix2 ⟨128 * k.val + 64 + g.val, by omega⟩ l))
    (hc0 : c0 = cnt (ix1 ⟨128 * i.val + 2 * k.val, by omega⟩)) (hc1 : c1 = cnt (ix1 ⟨128 * i.val + 2 * k.val + 1, by omega⟩))
    (ha0 : ∀ l : Fin 128, a0 (ix3 0 0 l) = qn (ix3 0 ⟨2 * k.val, by omega⟩ l)) (ha1 : ∀ l : Fin 128, a1 (ix3 0 0 l) = qn (ix3 0 ⟨2 * k.val + 1, by omega⟩ l))
    (hb0 : ∀ l : Fin 128, b0 (ix3 0 0 l) = qn (ix3 1 ⟨2 * k.val, by omega⟩ l)) (hb1 : ∀ l : Fin 128, b1 (ix3 0 0 l) = qn (ix3 1 ⟨2 * k.val + 1, by omega⟩ l))
    (hd0 : ∀ l : Fin 128, d0 (ix3 0 0 l) = qn (ix3 2 ⟨2 * k.val, by omega⟩ l)) (hd1 : ∀ l : Fin 128, d1 (ix3 0 0 l) = qn (ix3 2 ⟨2 * k.val + 1, by omega⟩ l))
    (h : Fin 2) (r : Fin 8) (l : Fin 128) :
    k0_pay5 (F := Ideal) k0_pay83 k0_pay84 (k0_pay2 (F := Ideal) k0_pay85 K0 c0 K1 c1) (k0_pay3 k0_pay83 a0 a1) (k0_pay4 k0_pay83 b0 b1) d0 d1
        (ix2 r ⟨128 * h.val + l.val, by omega⟩)
      = partOf qn (codeOf cnt kb i) (ix3 h ⟨8 * k.val + r.val, by omega⟩ l) := by
  rw [k0_pay5_apply]
  refine Finset.sum_congr rfl fun w _ => ?_
  have hm : (128 * h.val + l.val) % 4 = l.val % 4 := by omega
  have hlt : l.val % 4 < 4 := by omega
  have hrd : (8 * k.val + r.val) % 4 = r.val % 4 := by omega
  congr 1
  · simp only [hm]
    show _ = qn (ix3 (planeN (l.val % 4)) ⟨(8 * k.val + r.val) / 4, _⟩ ⟨32 * ((8 * k.val + r.val) % 4) + w.val, _⟩)
    simp only [hrd]
    by_cases hr : r.val < 4
    · have e : (8 * k.val + r.val) / 4 = 2 * k.val := by omega
      simp only [hr, if_true, e]
      generalize l.val % 4 = b at hlt
      interval_cases b
      · exact ha0 _
      · exact hb0 _
      · exact hd0 _
      · exact hd0 _
    · have e : (8 * k.val + r.val) / 4 = 2 * k.val + 1 := by omega
      simp only [hr, if_false, e]
      generalize l.val % 4 = b at hlt
      interval_cases b
      · exact ha1 _
      · exact hb1 _
      · exact hd1 _
      · exact hd1 _
  · rw [k0_pay2_apply]
    show _ = codeOf cnt kb i ⟨(8 * k.val + r.val) / 4, _⟩ ⟨32 * h.val + l.val / 4, _⟩ ⟨32 * ((8 * k.val + r.val) % 4) + w.val, _⟩ (l.val % 4)
    unfold codeOf
    have e1 : (128 * h.val + l.val) / 4 = 32 * h.val + l.val / 4 := by omega
    have e2 : (32 * r.val + w.val) % 128 = 32 * (r.val % 4) + w.val := by omega
    simp only [hm, hrd, e1, e2]
    by_cases hr : r.val < 4
    · have h1 : 32 * r.val + w.val < 128 := by omega
      have e : (8 * k.val + r.val) / 4 = 2 * k.val := by omega
      simp only [h1, if_true, e, hK0, hc0]
      have e3 : 64 * (2 * k.val) + (32 * h.val + l.val / 4) = 128 * k.val + (32 * h.val + l.val / 4) := by omega
      simp only [e3]
    · have h1 : ¬ 32 * r.val + w.val < 128 := by omega
      have e : (8 * k.val + r.val) / 4 = 2 * k.val + 1 := by omega
      simp only [h1, if_false, e, hK1, hc1]
      have e3 : 64 * (2 * k.val + 1) + (32 * h.val + l.val / 4) = 128 * k.val + 64 + (32 * h.val + l.val / 4) := by omega
      have e4 : 128 * i.val + (2 * k.val + 1) = 128 * i.val + 2 * k.val + 1 := by omega
      simp only [e3, e4]

theorem k0_pay6_apply (v61 : IVec S8x256 1) (v77 : IVec S8x256 32) (v381 : FVec Ideal S256x256 .fp8e4m3) (a b : FVec Ideal S8x256 .bf16) (c0 c1 : Vec Ideal S1x1x128 .f32)
    (r : Fin 8) (l : Fin 128) : k0_pay6 (F := Ideal) v61 v77 v381 a b c0 c1 (ix3 0 r l) = k0_pay5 v61 v77 v381 a b c0 c1 (ix2 r ⟨128 * (0 : Fin 2).val + l.val, by simp; omega⟩) := by
  unfold k0_pay6
  generalize k0_pay5 v61 v77 v381 a b c0 c1 = z
  pointwise

theorem k0_pay7_apply (v61 : IVec S8x256 1) (v77 : IVec S8x256 32) (v381 : FVec Ideal S256x256 .fp8e4m3) (a b : FVec Ideal S8x256 .bf16) (c0 c1 : Vec Ideal S1x1x128 .f32)
    (r : Fin 8) (l : Fin 128) : k0_pay7 (F := Ideal) v61 v77 v381 a b c0 c1 (ix3 0 r l) = k0_pay5 v61 v77 v381 a b c0 c1 (ix2 r ⟨128 * (1 : Fin 2).val + l.val, by simp; omega⟩) := by
  unfold k0_pay7
  generalize k0_pay5 v61 v77 v381 a b c0 c1 = z
  pointwise

/-- The counts of the block's users, one to a row. -/
def countOf (cnt : S24576.Idx → BitVec 32) (i : Fin 192) (j : S128x128.Idx) : BitVec 32 :=
  cnt (ix1 ⟨128 * i.val + (j 0).val, by have : (j 0).val < 128 := (j 0).isLt; omega⟩)

theorem k0_pay73_eq (m : IVec S64x128 32) (K0 K1 : Vec Ideal S64x128 .i32) (c0 c1 : BitVec 32) : k0_pay73 (F := Ideal) m K0 c0 K1 c1 = k0_pay2 m K0 c0 K1 c1 := rfl

/-- The pooled products of a pair of users, from what the loads of its trip hold. -/
theorem pairPooled (cnt : S24576.Idx → BitVec 32) (kb : S8192x128.Idx → BitVec 32) (wk : S2x512x128.Idx → EReal) (i : Fin 192) (k : Fin 64)
    (K0 K1 : Vec Ideal S64x128 .i32) (c0 c1 : BitVec 32) (a b : Vec Ideal S1x8x128 .f32)
    (hK0 : ∀ (g : Fin 64) (l : Fin 128), K0 (ix2 g l) = kb (ix2 ⟨128 * k.val + g.val, by omega⟩ l))
    (hK1 : ∀ (g : Fin 64) (l : Fin 128), K1 (ix2 g l) = kb (ix2 ⟨128 * k.val + 64 + g.val, by omega⟩ l))
    (hc0 : c0 = cnt (ix1 ⟨128 * i.val + 2 * k.val, by omega⟩)) (hc1 : c1 = cnt (ix1 ⟨128 * i.val + 2 * k.val + 1, by omega⟩))
    (ha : ∀ (r : Fin 8) (l : Fin 128), a (ix3 0 r l) = wk (ix3 0 ⟨8 * k.val + r.val, by omega⟩ l))
    (hb : ∀ (r : Fin 8) (l : Fin 128), b (ix3 0 r l) = wk (ix3 1 ⟨8 * k.val + r.val, by omega⟩ l))
    (n : Fin 3) (h : Fin 2) (r : Fin 4) (l : Fin 128) :
    k0_pay74 (F := Ideal) k0_pay84 (k0_pay73 (F := Ideal) k0_pay85 K0 c0 K1 c1) a b
        (ix2 ⟨8 * n.val + (4 * h.val + r.val), by omega⟩ ⟨128 * h.val + l.val, by omega⟩)
      = pooledOf wk (codeOf cnt kb i) (ix4 n h ⟨4 * k.val + r.val, by omega⟩ l) := by
  rw [k0_pay73_eq]
  refine (k0_pay74_apply _ a b n ⟨4 * h.val + r.val, by omega⟩ _).trans ?_
  refine Finset.sum_congr rfl fun g _ => ?_
  show _ = wk (ix3 ⟨g.val / 32, _⟩ ⟨8 * ((4 * k.val + r.val) / 4) + 4 * h.val + (4 * k.val + r.val) % 4, _⟩ ⟨4 * (g.val % 32) + n.val, _⟩)
    * codeOf cnt kb i ⟨2 * ((4 * k.val + r.val) / 4) + h.val, _⟩ g l n.val
  have e1 : (4 * k.val + r.val) / 4 = k.val := by omega
  have e2 : (4 * k.val + r.val) % 4 = r.val := by omega
  have e3 : 8 * k.val + 4 * h.val + r.val = 8 * k.val + (4 * h.val + r.val) := by omega
  simp only [e1, e2, e3]
  congr 1
  · by_cases hg : g.val < 32
    · have e4 : (⟨g.val / 32, by omega⟩ : Fin 2) = 0 := Fin.ext (by show g.val / 32 = 0; omega)
      simp only [hg, if_true, e4]; exact ha _ _
    · have e4 : (⟨g.val / 32, by omega⟩ : Fin 2) = 1 := Fin.ext (by show g.val / 32 = 1; omega)
      simp only [hg, if_false, e4]; exact hb _ _
  · rw [k0_pay2_apply]
    unfold codeOf
    have e5 : (128 * h.val + l.val) % 128 = l.val := by omega
    have e6 : (4 * g.val + n.val) / 4 = g.val := by omega
    have e7 : (4 * g.val + n.val) % 4 = n.val := by omega
    simp only [e5, e6, e7]
    obtain ⟨h, hh⟩ := h
    interval_cases h
    · have h1 : 128 * 0 + l.val < 128 := by omega
      have e8 : 64 * (2 * k.val) + g.val = 128 * k.val + g.val := by omega
      simp only [h1, if_true, hK0, hc0, Nat.add_zero, e8]
    · have h1 : ¬ 128 * 1 + l.val < 128 := by omega
      have e8 : 64 * (2 * k.val + 1) + g.val = 128 * k.val + 64 + g.val := by omega
      have e9 : 128 * i.val + (2 * k.val + 1) = 128 * i.val + 2 * k.val + 1 := by omega
      simp only [h1, if_false, hK1, hc1, e8, e9]

end Cert.KernelIdeal.Hand
-- ==== Proof.Hand.ValueLoop1.lean ====
/- The first loop of `proofs.«01_k».proof.KernelIdeal`: what its scratch buffers hold after it, in exact arithmetic. -/
module

public import proofs.«01_k».proof.Proof.Gen.KernelIdeal.Loops
public import proofs.«01_k».proof.Proof.Hand.ValuePure

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.Sem

/-- The grid coordinate as a number. -/
def stepOf (i : grid0.Coords) : Fin 192 := ⟨(i 0).val, (i 0).isLt⟩

/-- Every piece of a trip that goes to the scratch of partial products agrees with `partOf`. -/
theorem t1_part (𝒱 : Variants) (c : Dev nD) (bd : Option 𝒱.V) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole) (arg0 : BitVec 32)
    (X1 : BufTy.Contents (Elt Ideal) arg1.view.ty) (X2 : BufTy.Contents (Elt Ideal) arg2.view.ty) (X8 : BufTy.Contents (Elt Ideal) arg8.view.ty) (k : Fin k0_t1_loop.trips) :
    ∀ p ∈ (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 k0_pay83 k0_pay84 X1 X2 X8 k).1, ∀ x : p.1.shape.Idx,
      p.2 x = partOf (arg8.view.read (Elt Ideal) X8) (codeOf (arg1.view.read (Elt Ideal) X1) (arg2.view.read (Elt Ideal) X2) (stepOf i)) (p.1.emb x) := by
  unfold tripL_k0_t1 trip_k0_t1
  dsimp only
  sl_unfold_run_names
  intro p hp
  simp only [List.mem_cons, List.not_mem_nil, or_false] at hp
  have hk : k.val < 64 := Nat.lt_of_lt_of_le k.isLt k0_t1_abs.2.1
  rcases hp with rfl | rfl
  · intro x
    revert x
    show ∀ x : S1x8x128.Idx, _
    intro x
    idx_vars x
    have ex0 : x0 = 0 := Subsingleton.elim _ _
    subst ex0
    have e : (Rect.unit (s := S2x512x128) (k0_off7 k) S1x8x128.size (k0_off7_inb k)).emb (ix3 0 x1 x2) = ix3 (1 : Fin 2) ⟨8 * k.val + x1.val, by omega⟩ x2 :=
      emb_unit _ (k0_off7_eq k) _ _ (by show ∀ a : Fin 3, _; intro a; fin_cases a <;> simp [ix3])
    refine Eq.trans ?_ (congrArg _ e.symm)
    rw [k0_pay7_apply]
    refine pairPart _ _ _ (stepOf i) ⟨k.val, hk⟩ _ _ _ _ _ _ _ _ _ _ ?_ ?_ ?_ ?_ ?_ ?_ ?_ ?_ ?_ ?_ 1 x1 x2
    · intro g l; exact load_unit _ _ _ (k0_off1_eq k 0) _ _ (by show ∀ a : Fin 2, _; intro a; fin_cases a <;> simp [ix2])
    · intro g l; exact load_unit _ _ _ (k0_off1_eq k 1) _ _ (by show ∀ a : Fin 2, _; intro a; fin_cases a <;> simp [ix2])
    · exact load_unit _ _ _ (k0_off2_eq i k 0) _ _ (by show ∀ a : Fin 1, _; intro a; fin_cases a; simp [ix1, stepOf]; exact Nat.lt_one_iff.mp (Shape.Idx.first _ 0).isLt)
    · exact load_unit _ _ _ (k0_off2_eq i k 1) _ _ (by show ∀ a : Fin 1, _; intro a; fin_cases a; simp [ix1, stepOf]; exact Nat.lt_one_iff.mp (Shape.Idx.first _ 0).isLt)
    · intro l; exact load_unit _ _ _ (k0_off3_eq k 0) _ _ (by show ∀ a : Fin 3, _; intro a; fin_cases a <;> simp [ix3])
    · intro l; exact load_unit _ _ _ (k0_off3_eq k 1) _ _ (by show ∀ a : Fin 3, _; intro a; fin_cases a <;> simp [ix3])
    · intro l; exact load_unit _ _ _ (k0_off4_eq k 0) _ _ (by show ∀ a : Fin 3, _; intro a; fin_cases a <;> simp [ix3])
    · intro l; exact load_unit _ _ _ (k0_off4_eq k 1) _ _ (by show ∀ a : Fin 3, _; intro a; fin_cases a <;> simp [ix3])
    · intro l; exact load_unit _ _ _ (k0_off5_eq k 0) _ _ (by show ∀ a : Fin 3, _; intro a; fin_cases a <;> simp [ix3])
    · intro l; exact load_unit _ _ _ (k0_off5_eq k 1) _ _ (by show ∀ a : Fin 3, _; intro a; fin_cases a <;> simp [ix3])
  · intro x
    revert x
    show ∀ x : S1x8x128.Idx, _
    intro x
    idx_vars x
    have ex0 : x0 = 0 := Subsingleton.elim _ _
    subst ex0
    have e : (Rect.unit (s := S2x512x128) (k0_off6 k) S1x8x128.size (k0_off6_inb k)).emb (ix3 0 x1 x2) = ix3 (0 : Fin 2) ⟨8 * k.val + x1.val, by omega⟩ x2 :=
      emb_unit _ (k0_off6_eq k) _ _ (by show ∀ a : Fin 3, _; intro a; fin_cases a <;> simp [ix3])
    refine Eq.trans ?_ (congrArg _ e.symm)
    rw [k0_pay6_apply]
    refine pairPart _ _ _ (stepOf i) ⟨k.val, hk⟩ _ _ _ _ _ _ _ _ _ _ ?_ ?_ ?_ ?_ ?_ ?_ ?_ ?_ ?_ ?_ 0 x1 x2
    · intro g l; exact load_unit _ _ _ (k0_off1_eq k 0) _ _ (by show ∀ a : Fin 2, _; intro a; fin_cases a <;> simp [ix2])
    · intro g l; exact load_unit _ _ _ (k0_off1_eq k 1) _ _ (by show ∀ a : Fin 2, _; intro a; fin_cases a <;> simp [ix2])
    · exact load_unit _ _ _ (k0_off2_eq i k 0) _ _ (by show ∀ a : Fin 1, _; intro a; fin_cases a; simp [ix1, stepOf]; exact Nat.lt_one_iff.mp (Shape.Idx.first _ 0).isLt)
    · exact load_unit _ _ _ (k0_off2_eq i k 1) _ _ (by show ∀ a : Fin 1, _; intro a; fin_cases a; simp [ix1, stepOf]; exact Nat.lt_one_iff.mp (Shape.Idx.first _ 0).isLt)
    · intro l; exact load_unit _ _ _ (k0_off3_eq k 0) _ _ (by show ∀ a : Fin 3, _; intro a; fin_cases a <;> simp [ix3])
    · intro l; exact load_unit _ _ _ (k0_off3_eq k 1) _ _ (by show ∀ a : Fin 3, _; intro a; fin_cases a <;> simp [ix3])
    · intro l; exact load_unit _ _ _ (k0_off4_eq k 0) _ _ (by show ∀ a : Fin 3, _; intro a; fin_cases a <;> simp [ix3])
    · intro l; exact load_unit _ _ _ (k0_off4_eq k 1) _ _ (by show ∀ a : Fin 3, _; intro a; fin_cases a <;> simp [ix3])
    · intro l; exact load_unit _ _ _ (k0_off5_eq k 0) _ _ (by show ∀ a : Fin 3, _; intro a; fin_cases a <;> simp [ix3])
    · intro l; exact load_unit _ _ _ (k0_off5_eq k 1) _ _ (by show ∀ a : Fin 3, _; intro a; fin_cases a <;> simp [ix3])

/-- Every piece of a trip that goes to the scratch of counts agrees with the counts of the block. -/
theorem t1_count (𝒱 : Variants) (c : Dev nD) (bd : Option 𝒱.V) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole) (arg0 : BitVec 32) (v61 : IVec S8x256 1) (v77 : IVec S8x256 32)
    (X1 : BufTy.Contents (Elt Ideal) arg1.view.ty) (X2 : BufTy.Contents (Elt Ideal) arg2.view.ty) (X8 : BufTy.Contents (Elt Ideal) arg8.view.ty) (k : Fin k0_t1_loop.trips) :
    ∀ p ∈ (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v61 v77 X1 X2 X8 k).2, ∀ x : p.1.shape.Idx,
      p.2 x = countOf (arg1.view.read (Elt Ideal) X1) (stepOf i) (p.1.emb x) := by
  unfold tripL_k0_t1 trip_k0_t1
  dsimp only
  sl_unfold_run_names
  intro p hp
  simp only [List.mem_cons, List.not_mem_nil, or_false] at hp
  have hk : k.val < 64 := Nat.lt_of_lt_of_le k.isLt k0_t1_abs.2.1
  rcases hp with rfl | rfl
  · intro x
    revert x
    show ∀ x : S1x128.Idx, _
    intro x
    idx_vars x
    have ex0 : x0 = 0 := Subsingleton.elim _ _
    subst ex0
    have e : (Rect.unit (s := S128x128) (k0_off8 k 1#32) S1x128.size (k0_off8_inb k (1 : Fin 2))).emb (ix2 0 x1) = ix2 (⟨2 * k.val + 1, by omega⟩ : Fin 128) x1 :=
      emb_unit _ (k0_off8_eq k 1) _ _ (by show ∀ a : Fin 2, _; intro a; fin_cases a <;> simp [ix2])
    refine Eq.trans ?_ (congrArg (countOf (arg1.view.read (Elt Ideal) X1) (stepOf i)) e.symm)
    unfold countOf
    pointwise [k0_pay87]
    exact load_unit _ _ _ (k0_off2_eq i k 1) _ _ (by show ∀ a : Fin 1, _; intro a; fin_cases a; simp [ix1, ix2, stepOf]; have := Nat.lt_one_iff.mp (Shape.Idx.first (s := S1) (by decide) 0).isLt; omega)
  · intro x
    revert x
    show ∀ x : S1x128.Idx, _
    intro x
    idx_vars x
    have ex0 : x0 = 0 := Subsingleton.elim _ _
    subst ex0
    have e : (Rect.unit (s := S128x128) (k0_off8 k 0#32) S1x128.size (k0_off8_inb k (0 : Fin 2))).emb (ix2 0 x1) = ix2 (⟨2 * k.val + 0, by omega⟩ : Fin 128) x1 :=
      emb_unit _ (k0_off8_eq k 0) _ _ (by show ∀ a : Fin 2, _; intro a; fin_cases a <;> simp [ix2])
    refine Eq.trans ?_ (congrArg (countOf (arg1.view.read (Elt Ideal) X1) (stepOf i)) e.symm)
    unfold countOf
    pointwise [k0_pay86]
    exact load_unit _ _ _ (k0_off2_eq i k 0) _ _ (by show ∀ a : Fin 1, _; intro a; fin_cases a; simp [ix1, ix2, stepOf]; have := Nat.lt_one_iff.mp (Shape.Idx.first (s := S1) (by decide) 0).isLt; omega)

/-- The scratch of partial products after the first loop. -/
theorem loop1_part (𝒱 : Variants) (c : Dev nD) (bd : Option 𝒱.V) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole) (arg0 : BitVec 32)
    (X1 : BufTy.Contents (Elt Ideal) arg1.view.ty) (X2 : BufTy.Contents (Elt Ideal) arg2.view.ty) (X8 : BufTy.Contents (Elt Ideal) arg8.view.ty)
    (f : BufTy.Contents (Elt Ideal) arg9.view.ty) (y : S2x512x128.Idx) :
    arg9.view.read (Elt Ideal) (arg9.view.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 k0_pay83 k0_pay84 X1 X2 X8 k0_t1_loop.trips).1) y
      = partOf (arg8.view.read (Elt Ideal) X8) (codeOf (arg1.view.read (Elt Ideal) X1) (arg2.view.read (Elt Ideal) X2) (stepOf i)) y := by
  have hy : (y 1).val < 512 := (y 1).isLt
  have hk : (y 1).val / 8 < k0_t1_loop.trips := by have : k0_t1_loop.trips = 64 := by decide +kernel
                                                   omega
  refine read_loop arg9.view f (fun m => (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 k0_pay83 k0_pay84 X1 X2 X8 m).1)
    (fun k => (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 k0_pay83 k0_pay84 X1 X2 X8 k).1) rfl (fun k => by
      show (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 k0_pay83 k0_pay84 X1 X2 X8 (k.val + 1)).1 = _
      rw [pb_k0_t1_succ]) _
    (fun k => t1_part 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X1 X2 X8 k) y ⟨(y 1).val / 8, hk⟩ ?_
  unfold tripL_k0_t1 trip_k0_t1
  dsimp only
  idx_vars y
  by_cases h0 : y0.val = 0
  · refine ⟨_, List.mem_cons_of_mem _ List.mem_cons_self, ?_⟩
    refine mem_unit (inb := k0_off6_inb _) _ (k0_off6_eq _) _ ?_
    show ∀ a : Fin 3, _; intro a; fin_cases a <;> simp [ix3] <;> omega
  · refine ⟨_, List.mem_cons_self, ?_⟩
    refine mem_unit (inb := k0_off7_inb _) _ (k0_off7_eq _) _ ?_
    show ∀ a : Fin 3, _; intro a; fin_cases a <;> simp [ix3] <;> omega

/-- The scratch of counts after the first loop. -/
theorem loop1_count (𝒱 : Variants) (c : Dev nD) (bd : Option 𝒱.V) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole) (arg0 : BitVec 32) (v61 : IVec S8x256 1) (v77 : IVec S8x256 32)
    (X1 : BufTy.Contents (Elt Ideal) arg1.view.ty) (X2 : BufTy.Contents (Elt Ideal) arg2.view.ty) (X8 : BufTy.Contents (Elt Ideal) arg8.view.ty)
    (f : BufTy.Contents (Elt Ideal) arg10.view.ty) (u l : Fin 128) :
    arg10.view.read (Elt Ideal) (arg10.view.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v61 v77 X1 X2 X8 k0_t1_loop.trips).2) (ix2 u l)
      = arg1.view.read (Elt Ideal) X1 (ix1 ⟨128 * (stepOf i).val + u.val, by omega⟩) := by
  have hk : u.val / 2 < k0_t1_loop.trips := by have : k0_t1_loop.trips = 64 := by decide +kernel
                                               omega
  refine read_loop arg10.view f (fun m => (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v61 v77 X1 X2 X8 m).2)
    (fun k => (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v61 v77 X1 X2 X8 k).2) rfl (fun k => by
      show (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v61 v77 X1 X2 X8 (k.val + 1)).2 = _
      rw [pb_k0_t1_succ])
    (countOf (arg1.view.read (Elt Ideal) X1) (stepOf i))
    (fun k => t1_count 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v61 v77 X1 X2 X8 k) (ix2 u l) ⟨u.val / 2, hk⟩ ?_
  unfold tripL_k0_t1 trip_k0_t1
  dsimp only
  by_cases h0 : u.val % 2 = 0
  · refine ⟨_, List.mem_cons_of_mem _ List.mem_cons_self, ?_⟩
    refine mem_unit (inb := k0_off8_inb _ 0) _ (k0_off8_eq _ 0) _ ?_
    show ∀ a : Fin 2, _; intro a; fin_cases a <;> simp [ix2] <;> omega
  · refine ⟨_, List.mem_cons_self, ?_⟩
    refine mem_unit (inb := k0_off8_inb _ 1) _ (k0_off8_eq _ 1) _ ?_
    show ∀ a : Fin 2, _; intro a; fin_cases a <;> simp [ix2] <;> omega

end Cert.KernelIdeal.Hand
-- ==== Proof.Hand.ValueSoft.lean ====
/- The second loop of `proofs.«01_k».proof.KernelIdeal` as mathematics: scores, softmax and weights of a group of users. -/
module

public import proofs.«01_k».proof.Proof.Hand.ValuePure

@[expose] public section

set_option maxRecDepth 8192
set_option maxHeartbeats 4000000

noncomputable section

namespace Cert.KernelIdeal.Hand

open Cert.KernelIdeal Cert.KernelIdeal.Gen
open Idealize.ShloMosaic Idealize.ShloMosaic.TcCoe

/-- The lane number. -/
def lanesV : IVec S16x128 32 := iota .tc S16x128 32 [1] iota_S16x128_d1_w32

/-- Whether the key of plane `(h, k)` at each lane counts. -/
def okV (h k : BitVec 32) (cnt : IVec S16x128 32) : IVec S16x128 1 :=
  cmpi .slt (addi (addi (broadcast S16x128 h) (andi lanesV (broadcast S16x128 4294967292#32))) (broadcast S16x128 k)) cnt

/-- The scales of the keys of a plane, from their exponent words already shifted. -/
def scaleV (ok : IVec S16x128 1) (w : IVec S16x128 32) : FVec Ideal S16x128 .f32 :=
  select ok (bitcastToFloat .f32 (andi (shli w (broadcast S16x128 23#32)) (broadcast S16x128 2139095040#32))) (broadcast S16x128 (Scalar.ofBits .f32 0x00000000#32))

/-- The sum over each group of four lanes, by two rotations. -/
def groupV (x : FVec Ideal S16x128 .f32) : FVec Ideal S16x128 .f32 :=
  have y : FVec Ideal S16x128 .f32 := addf x (select k0_pay88 (dynamicRotate 1 1#32 none x rotates_S16x128_d1) (dynamicRotate 1 127#32 none x rotates_S16x128_d1))
  addf y (select k0_pay89 (dynamicRotate 1 2#32 none y rotates_S16x128_d1) (dynamicRotate 1 126#32 none y rotates_S16x128_d1))

/-- The scores of a plane. -/
def scoreV (ok : IVec S16x128 1) (s : FVec Ideal S16x128 .f32) (p : Vec Ideal S1x16x128 .f32) : FVec Ideal S16x128 .f32 :=
  select ok (mulf (groupV (mulf (shapeCast S16x128 p shapeCasts_S1x16x128_S16x128) s)) (broadcast S16x128 (Scalar.ofBits .f32 0x3DD105EC#32)))
    (broadcast S16x128 (Scalar.ofBits .f32 0xFF800000#32))

/-- The greatest score of each user, 0 if there is none. -/
def topV (s0 s1 s2 s3 s4 s5 s6 s7 : FVec Ideal S16x128 .f32) : FVec Ideal S16x1 .f32 :=
  have m : FVec Ideal S16x1 .f32 := shapeCast S16x1 (multiReduction .maximumf [1] S16
    (maximumf (maximumf (maximumf s0 s1) (maximumf s2 s3)) (maximumf (maximumf s4 s5) (maximumf s6 s7))) 0xFF800000#32 reduces_S16x128_S16 (.inl rfl) rfl) shapeCasts_S16_S16x1
  select (cmpf .oeq m (broadcast S16x1 (Scalar.ofBits .f32 0xFF800000#32))) (broadcast S16x1 (Scalar.ofBits .f32 0x00000000#32)) m

/-- The exponential of the scores less the top. -/
def expV (s : FVec Ideal S16x128 .f32) (t : FVec Ideal S16x1 .f32) : FVec Ideal S16x128 .f32 :=
  exp (subf s (broadcastTo S16x128 t broadcasts_S16x1_S16x128))

/-- The sum of the exponentials over the keys, 1 if it is 0. -/
def zV (e0 e1 e2 e3 e4 e5 e6 e7 : FVec Ideal S16x128 .f32) : FVec Ideal S16x1 .f32 :=
  have z : FVec Ideal S16x1 .f32 := mulf (shapeCast S16x1 (multiReduction .add [1] S16
    (addf (addf (addf e0 e1) (addf e2 e3)) (addf (addf e4 e5) (addf e6 e7))) 0x00000000#32 reduces_S16x128_S16 (.inl rfl) rfl) shapeCasts_S16_S16x1)
    (broadcast S16x1 (Scalar.ofBits .f32 0x3E800000#32))
  select (cmpf .oeq z (broadcast S16x1 (Scalar.ofBits .f32 0x00000000#32))) (broadcast S16x1 (Scalar.ofBits .f32 0x3F800000#32)) z

/-- The weights of a plane. -/
def wV (e : FVec Ideal S16x128 .f32) (z : FVec Ideal S16x1 .f32) : FVec Ideal S16x128 .f32 :=
  divf e (broadcastTo S16x128 z broadcasts_S16x1_S16x128)

/-- Of the four planes of a half, the one that the lane's number picks. -/
def pickV (w0 w1 w2 w3 : FVec Ideal S16x128 .f32) : FVec Ideal S16x128 .f32 :=
  select (cmpi .eq k0_pay90 (broadcast S16x128 0#32)) w0 (select (cmpi .eq k0_pay90 (broadcast S16x128 1#32)) w1
    (select (cmpi .eq k0_pay90 (broadcast S16x128 2#32)) w2 w3))

/-- The weights of a plane times its scales. -/
def wkV (w s : FVec Ideal S16x128 .f32) : FVec Ideal S1x16x128 .f32 :=
  shapeCast S1x16x128 (mulf (extf .f32 (truncf .bf16 w bitsLt_bf16_f32) bitsLt_bf16_f32) s) shapeCasts_S16x128_S1x16x128

theorem k0_pay88_apply (r : Fin 16) (l : Fin 128) : k0_pay88 (ix2 r l) = BitVec.ofBool (decide (l.val % 2 = 1)) := by
  pointwise [k0_pay88]
  revert r l
  decide +kernel

theorem k0_pay89_apply (r : Fin 16) (l : Fin 128) : k0_pay89 (ix2 r l) = BitVec.ofBool (decide (l.val % 4 / 2 = 1)) := by
  pointwise [k0_pay89]
  revert r l
  decide +kernel

theorem k0_pay90_apply (r : Fin 16) (l : Fin 128) : k0_pay90 (ix2 r l) = BitVec.ofNat 32 (l.val % 4) := by
  pointwise [k0_pay90]
  revert l
  decide +kernel

/-- The key of plane `(h, k)` at lane `l`. -/
def keyOf (h : Fin 2) (k : Fin 4) (l : Fin 128) : Fin 256 := ⟨128 * h.val + 4 * (l.val / 4) + k.val, by omega⟩

theorem okV_apply (h : Fin 2) (k : Fin 4) (cnt : IVec S16x128 32) (r : Fin 16) (l : Fin 128) :
    okV (BitVec.ofNat 32 (128 * h.val)) (BitVec.ofNat 32 k.val) cnt (ix2 r l) = BitVec.ofBool ((BitVec.ofNat 32 (keyOf h k l).val).slt (cnt (ix2 r l))) := by
  pointwise [okV, lanesV]
  have e : IntOp.addi (IntOp.addi (BitVec.ofNat 32 (128 * h.val)) (IntOp.andi (BitVec.ofNat 32 l.val) 4294967292#32)) (BitVec.ofNat 32 k.val) = BitVec.ofNat 32 (keyOf h k l).val := by
    unfold keyOf
    revert h k l
    decide +kernel
  rw [e]
  rfl

theorem scaleV_apply (ok : IVec S16x128 1) (w : IVec S16x128 32) (r : Fin 16) (l : Fin 128) :
    scaleV ok w (ix2 r l) = if ok (ix2 r l) = 1#1 then Ideal.ofBits .f32 ((w (ix2 r l) <<< 23) &&& 2139095040#32) else 0 := by
  pointwise [scaleV]
  have e : IntOp.andi (IntOp.shli .vector (w (ix2 r l)) 23#32) 2139095040#32 = (w (ix2 r l) <<< 23) &&& 2139095040#32 := rfl
  rw [e]
  unfold Scalar.select
  by_cases h : ok (ix2 r l) = 1#1
  · exact (if_pos h).trans (if_pos h).symm
  · exact (if_neg h).trans (if_neg h).symm

theorem groupV_apply (x : FVec Ideal S16x128 .f32) (r : Fin 16) (l : Fin 128) :
    groupV x (ix2 r l) = ∑ b : Fin 4, x (ix2 r ⟨4 * (l.val / 4) + b.val, by omega⟩) := by
  pointwise [groupV, k0_pay88_apply, k0_pay89_apply]
  rw [Fin.sum_univ_four]
  obtain ⟨q, b, rfl⟩ : ∃ (q : Fin 32) (b : Fin 4), l = ⟨4 * q.val + b.val, by omega⟩ :=
    ⟨⟨l.val / 4, by omega⟩, ⟨l.val % 4, by omega⟩, Fin.ext (by show l.val = 4 * (l.val / 4) + l.val % 4; omega)⟩
  have hd : ∀ c : ℕ, c < 4 → (4 * q.val + c) / 4 = q.val := fun c hc => by omega
  obtain ⟨b, hb⟩ := b
  have m0 : (4 * q.val + b) % 2 = b % 2 := by omega
  have m1 : (4 * q.val + b) % 4 = b := by omega
  simp only [m0, m1, hd b hb]
  have i0 : 4 * q.val + 0 = 4 * q.val := rfl
  interval_cases b
  · have j0 : (4 * q.val + 0 + 128 - 127) % 128 = 4 * q.val + 1 := by omega
    have j1 : (4 * q.val + 0 + 128 - 126) % 128 = 4 * q.val + 2 := by omega
    have j2 : (4 * q.val + 2) % 2 = 0 := by omega
    have j3 : (4 * q.val + 2 + 128 - 127) % 128 = 4 * q.val + 3 := by omega
    simp only [j0, j1, j2, j3]
    simp
    abel
  · have j0 : (4 * q.val + 1 + 128 - 1) % 128 = 4 * q.val + 0 := by omega
    have j1 : (4 * q.val + 1 + 128 - 126) % 128 = 4 * q.val + 3 := by omega
    have j2 : (4 * q.val + 3) % 2 = 1 := by omega
    have j3 : (4 * q.val + 3 + 128 - 1) % 128 = 4 * q.val + 2 := by omega
    simp only [j0, j1, j2, j3]
    simp
    abel
  · have j0 : (4 * q.val + 2 + 128 - 127) % 128 = 4 * q.val + 3 := by omega
    have j1 : (4 * q.val + 2 + 128 - 2) % 128 = 4 * q.val + 0 := by omega
    have j2 : (4 * q.val + 0) % 2 = 0 := by omega
    have j3 : (4 * q.val + 0 + 128 - 127) % 128 = 4 * q.val + 1 := by omega
    simp only [j0, j1, j2, j3]
    simp
    abel
  · have j0 : (4 * q.val + 3 + 128 - 1) % 128 = 4 * q.val + 2 := by omega
    have j1 : (4 * q.val + 3 + 128 - 2) % 128 = 4 * q.val + 1 := by omega
    have j2 : (4 * q.val + 1) % 2 = 1 := by omega
    have j3 : (4 * q.val + 1 + 128 - 1) % 128 = 4 * q.val + 0 := by omega
    simp only [j0, j1, j2, j3]
    simp
    abel

theorem negInf_eq : Ideal.ofBits .f32 4286578688#32 = ⊥ := by
  simp [Ideal.ofBits, Ideal.ieee]

theorem exp_nonneg (x : EReal) : 0 ≤ Ideal.exp x := by
  induction x with
  | bot => exact le_refl _
  | top => exact le_top
  | coe x => exact EReal.coe_nonneg.mpr (Real.exp_pos x).le

/-- Every key is a lane of one plane. -/
theorem keyOf_surj (key : Fin 256) : ∃ h k l, key = keyOf h k l :=
  ⟨⟨key.val / 128, by omega⟩, ⟨key.val % 4, by omega⟩, ⟨4 * (key.val % 128 / 4), by omega⟩, Fin.ext (by show key.val = 128 * (key.val / 128) + 4 * (4 * (key.val % 128 / 4) / 4) + key.val % 4; omega)⟩

/-- The greatest of a user's scores, 0 if all are `⊥`. -/
def topK (s : Fin 256 → EReal) : EReal := if Finset.univ.sup s = ⊥ then 0 else Finset.univ.sup s

/-- The sum over a user's keys, 1 if it is 0. -/
def zK (e : Fin 256 → EReal) : EReal := if ∑ key, e key = 0 then 1 else ∑ key, e key

theorem topV_apply (s : Fin 256 → EReal) (s0 s1 s2 s3 s4 s5 s6 s7 : FVec Ideal S16x128 .f32) (r : Fin 16)
    (h0 : ∀ l, s0 (ix2 r l) = s (keyOf 0 0 l)) (h1 : ∀ l, s1 (ix2 r l) = s (keyOf 0 1 l)) (h2 : ∀ l, s2 (ix2 r l) = s (keyOf 0 2 l)) (h3 : ∀ l, s3 (ix2 r l) = s (keyOf 0 3 l))
    (h4 : ∀ l, s4 (ix2 r l) = s (keyOf 1 0 l)) (h5 : ∀ l, s5 (ix2 r l) = s (keyOf 1 1 l)) (h6 : ∀ l, s6 (ix2 r l) = s (keyOf 1 2 l)) (h7 : ∀ l, s7 (ix2 r l) = s (keyOf 1 3 l)) :
    topV s0 s1 s2 s3 s4 s5 s6 s7 (ix2 r 0) = topK s := by
  pointwise [topV]
  simp only [negInf_eq, h0, h1, h2, h3, h4, h5, h6, h7]
  have e : Finset.fold max (⊥ : EReal) (fun x : Fin 128 => max (max (max (s (keyOf 0 0 x)) (s (keyOf 0 1 x))) (max (s (keyOf 0 2 x)) (s (keyOf 0 3 x))))
      (max (max (s (keyOf 1 0 x)) (s (keyOf 1 1 x))) (max (s (keyOf 1 2 x)) (s (keyOf 1 3 x))))) Finset.univ = Finset.univ.sup s := by
    have hle : ∀ key, s key ≤ Finset.univ.sup s := fun key => Finset.le_sup (Finset.mem_univ key)
    refine le_antisymm ((Finset.fold_max_le _).mpr ⟨bot_le, fun x _ => ?_⟩) (Finset.sup_le fun key _ => (Finset.le_fold_max _).mpr (Or.inr ?_))
    · simp only [max_le_iff]
      exact ⟨⟨⟨hle _, hle _⟩, hle _, hle _⟩, ⟨hle _, hle _⟩, hle _, hle _⟩
    · obtain ⟨h, k, l, rfl⟩ := keyOf_surj key
      refine ⟨l, Finset.mem_univ _, ?_⟩
      fin_cases h <;> fin_cases k <;> simp
  rw [e]
  rfl

/-- A sum over the keys, from the sums over the lanes of the eight planes, where each key occurs four times. -/
theorem sum_planes (e : Fin 256 → EReal) (he : ∀ key, 0 ≤ e key) :
    (∑ x : Fin 128, (e (keyOf 0 0 x) + e (keyOf 0 1 x) + (e (keyOf 0 2 x) + e (keyOf 0 3 x)) + (e (keyOf 1 0 x) + e (keyOf 1 1 x) + (e (keyOf 1 2 x) + e (keyOf 1 3 x)))))
      * Ideal.ofBits .f32 1048576000#32 = ∑ key, e key := by
  have hc : Ideal.ofBits .f32 1048576000#32 = ((1 / 4 : ℝ) : EReal) := by
    simp [Ideal.ofBits, Ideal.ieee]
    rw [← EReal.coe_mul]
    norm_num
  have h1 : ∀ F : Fin 32 → EReal, ∑ x : Fin 128, F ⟨x.val / 4, by omega⟩ = ∑ q, (F q + F q + F q + F q) := by
    intro F
    rw [← (finProdFinEquiv (m := 32) (n := 4)).sum_comp, Fintype.sum_prod_type]
    refine Finset.sum_congr rfl fun q _ => ?_
    rw [Fin.sum_univ_four]
    have hq : ∀ b : Fin 4, (⟨((finProdFinEquiv (q, b) : Fin (32 * 4)) : ℕ) / 4, by have := (finProdFinEquiv (q, b) : Fin (32 * 4)).isLt; omega⟩ : Fin 32) = q :=
      fun b => Fin.ext (by show (b.val + 4 * q.val) / 4 = q.val; omega)
    have := hq 0
    simp only [hq]
  have h2 : ∑ key, e key = ∑ q : Fin 32, (e ⟨4 * q.val, by omega⟩ + e ⟨4 * q.val + 1, by omega⟩ + (e ⟨4 * q.val + 2, by omega⟩ + e ⟨4 * q.val + 3, by omega⟩)
      + (e ⟨128 + 4 * q.val, by omega⟩ + e ⟨128 + 4 * q.val + 1, by omega⟩ + (e ⟨128 + 4 * q.val + 2, by omega⟩ + e ⟨128 + 4 * q.val + 3, by omega⟩))) := by
    rw [← (finProdFinEquiv (m := 64) (n := 4)).sum_comp, Fintype.sum_prod_type, ← (finProdFinEquiv (m := 2) (n := 32)).sum_comp, Fintype.sum_prod_type, Fin.sum_univ_two,
      ← Finset.sum_add_distrib]
    refine Finset.sum_congr rfl fun q _ => ?_
    rw [Fin.sum_univ_four, Fin.sum_univ_four]
    have e0 : ∀ (h : Fin 2) (b : Fin 4), (finProdFinEquiv ((finProdFinEquiv (h, q) : Fin (2 * 32)), b) : Fin (64 * 4)) = (⟨128 * h.val + 4 * q.val + b.val, by omega⟩ : Fin 256) :=
      fun h b => Fin.ext (by show b.val + 4 * (q.val + 32 * h.val) = 128 * h.val + 4 * q.val + b.val; omega)
    simp only [e0]
    simp only [← add_assoc]
    simp
  rw [h2]
  have h3 := h1 (fun q => (e ⟨4 * q.val, by omega⟩ + e ⟨4 * q.val + 1, by omega⟩ + (e ⟨4 * q.val + 2, by omega⟩ + e ⟨4 * q.val + 3, by omega⟩)
      + (e ⟨128 + 4 * q.val, by omega⟩ + e ⟨128 + 4 * q.val + 1, by omega⟩ + (e ⟨128 + 4 * q.val + 2, by omega⟩ + e ⟨128 + 4 * q.val + 3, by omega⟩))))
  have h4 : ∀ x : Fin 128, (e (keyOf 0 0 x) + e (keyOf 0 1 x) + (e (keyOf 0 2 x) + e (keyOf 0 3 x)) + (e (keyOf 1 0 x) + e (keyOf 1 1 x) + (e (keyOf 1 2 x) + e (keyOf 1 3 x))))
      = (e ⟨4 * (x.val / 4), by omega⟩ + e ⟨4 * (x.val / 4) + 1, by omega⟩ + (e ⟨4 * (x.val / 4) + 2, by omega⟩ + e ⟨4 * (x.val / 4) + 3, by omega⟩)
      + (e ⟨128 + 4 * (x.val / 4), by omega⟩ + e ⟨128 + 4 * (x.val / 4) + 1, by omega⟩ + (e ⟨128 + 4 * (x.val / 4) + 2, by omega⟩ + e ⟨128 + 4 * (x.val / 4) + 3, by omega⟩))) := by
    intro x
    simp [keyOf]
  rw [Finset.sum_congr rfl fun x _ => h4 x, h3, Finset.sum_add_distrib, Finset.sum_add_distrib, Finset.sum_add_distrib, hc]
  generalize hS : ∑ q : Fin 32, (e ⟨4 * q.val, by omega⟩ + e ⟨4 * q.val + 1, by omega⟩ + (e ⟨4 * q.val + 2, by omega⟩ + e ⟨4 * q.val + 3, by omega⟩)
      + (e ⟨128 + 4 * q.val, by omega⟩ + e ⟨128 + 4 * q.val + 1, by omega⟩ + (e ⟨128 + 4 * q.val + 2, by omega⟩ + e ⟨128 + 4 * q.val + 3, by omega⟩))) = S
  have hS0 : 0 ≤ S := by
    rw [← hS]
    exact Finset.sum_nonneg fun q _ => by
      refine add_nonneg (add_nonneg (add_nonneg ?_ ?_) (add_nonneg ?_ ?_)) (add_nonneg (add_nonneg ?_ ?_) (add_nonneg ?_ ?_)) <;> exact he _
  induction S with
  | bot => simp at hS0
  | top =>
    rw [show (⊤ : EReal) + ⊤ + ⊤ + ⊤ = ⊤ by rfl]
    exact EReal.top_mul_coe_of_pos (by norm_num)
  | coe S =>
    norm_cast
    ring

theorem zV_apply (e : Fin 256 → EReal) (he : ∀ key, 0 ≤ e key) (s0 s1 s2 s3 s4 s5 s6 s7 : FVec Ideal S16x128 .f32) (r : Fin 16)
    (h0 : ∀ l, s0 (ix2 r l) = e (keyOf 0 0 l)) (h1 : ∀ l, s1 (ix2 r l) = e (keyOf 0 1 l)) (h2 : ∀ l, s2 (ix2 r l) = e (keyOf 0 2 l)) (h3 : ∀ l, s3 (ix2 r l) = e (keyOf 0 3 l))
    (h4 : ∀ l, s4 (ix2 r l) = e (keyOf 1 0 l)) (h5 : ∀ l, s5 (ix2 r l) = e (keyOf 1 1 l)) (h6 : ∀ l, s6 (ix2 r l) = e (keyOf 1 2 l)) (h7 : ∀ l, s7 (ix2 r l) = e (keyOf 1 3 l)) :
    zV s0 s1 s2 s3 s4 s5 s6 s7 (ix2 r 0) = zK e := by
  pointwise [zV]
  simp only [h0, h1, h2, h3, h4, h5, h6, h7]
  rw [sum_planes e he]
  rfl

theorem expV_apply (s : FVec Ideal S16x128 .f32) (t : FVec Ideal S16x1 .f32) (r : Fin 16) (l : Fin 128) : expV s t (ix2 r l) = Ideal.exp (s (ix2 r l) - t (ix2 r 0)) := by
  pointwise [expV]

theorem wV_apply (s : FVec Ideal S16x128 .f32) (t : FVec Ideal S16x1 .f32) (r : Fin 16) (l : Fin 128) : wV s t (ix2 r l) = Ideal.div (s (ix2 r l)) (t (ix2 r 0)) := by
  pointwise [wV]

theorem wkV_apply (w s : FVec Ideal S16x128 .f32) (r : Fin 16) (l : Fin 128) : wkV w s (ix3 0 r l) = w (ix2 r l) * s (ix2 r l) := by
  pointwise [wkV]

theorem pickV_apply (w0 w1 w2 w3 : FVec Ideal S16x128 .f32) (r : Fin 16) (l : Fin 128) :
    pickV w0 w1 w2 w3 (ix2 r l) = (if l.val % 4 = 0 then w0 else if l.val % 4 = 1 then w1 else if l.val % 4 = 2 then w2 else w3) (ix2 r l) := by
  pointwise [pickV]
  rw [k0_pay90_apply]
  have h4 : l.val % 4 < 4 := by omega
  generalize l.val % 4 = m at h4
  interval_cases m <;> simp [IntOp.cmpi, Scalar.select]

/-- The scale of block `b` of a key of user `u`, 0 if the key does not count. -/
def scaleK (cn : Fin 128 → BitVec 32) (eb : S128x256.Idx → BitVec 32) (u : Fin 128) (key : Fin 256) (b : Fin 4) : EReal :=
  if (BitVec.ofNat 32 key.val).slt (cn u) then
    Ideal.ofBits .f32 (((eb (ix2 u ⟨4 * (key.val / 4) + b.val, by omega⟩) >>> (8 * (key.val % 4))) <<< 23) &&& 2139095040#32) else 0

/-- The score of a key of user `u`, from the partial products of its blocks. -/
def scoreK (cn : Fin 128 → BitVec 32) (eb : S128x256.Idx → BitVec 32) (part : S2x512x128.Idx → EReal) (u : Fin 128) (key : Fin 256) : EReal :=
  if (BitVec.ofNat 32 key.val).slt (cn u) then
    (∑ b : Fin 4, part (ix3 ⟨key.val / 128, by omega⟩ ⟨4 * u.val + key.val % 4, by omega⟩ ⟨4 * (key.val % 128 / 4) + b.val, by omega⟩) * scaleK cn eb u key b)
      * Ideal.ofBits .f32 0x3DD105EC#32 else ⊥

/-- The exponential of a score less the greatest one. -/
def expK (s : Fin 256 → EReal) (key : Fin 256) : EReal := Ideal.exp (s key - topK s)

/-- The weight of a key. -/
def weightK (s : Fin 256 → EReal) (key : Fin 256) : EReal := Ideal.div (expK s key) (zK (expK s))

theorem keyOf_congr (h : Fin 2) (k : Fin 4) (l : Fin 128) (b : Fin 4) : keyOf h k ⟨4 * (l.val / 4) + b.val, by omega⟩ = keyOf h k l :=
  Fin.ext (by show 128 * h.val + 4 * ((4 * (l.val / 4) + b.val) / 4) + k.val = 128 * h.val + 4 * (l.val / 4) + k.val; omega)

theorem plane_scale (cn : Fin 128 → BitVec 32) (eb : S128x256.Idx → BitVec 32) (u : Fin 128) (h : Fin 2) (k : Fin 4) (cnt w : IVec S16x128 32) (r : Fin 16)
    (hc : ∀ l, cnt (ix2 r l) = cn u) (hw : ∀ l : Fin 128, w (ix2 r l) = eb (ix2 u ⟨128 * h.val + l.val, by omega⟩) >>> (8 * k.val)) (l : Fin 128) :
    scaleV (okV (BitVec.ofNat 32 (128 * h.val)) (BitVec.ofNat 32 k.val) cnt) w (ix2 r l) = scaleK cn eb u (keyOf h k l) ⟨l.val % 4, by omega⟩ := by
  rw [scaleV_apply, okV_apply, hc, hw]
  unfold scaleK
  have e1 : 4 * ((keyOf h k l).val / 4) + l.val % 4 = 128 * h.val + l.val := by unfold keyOf; simp only; omega
  have e2 : (keyOf h k l).val % 4 = k.val := by unfold keyOf; simp only; omega
  simp only [e1, e2]
  cases (BitVec.ofNat 32 (keyOf h k l).val).slt (cn u) <;> simp

theorem plane_score (cn : Fin 128 → BitVec 32) (eb : S128x256.Idx → BitVec 32) (part : S2x512x128.Idx → EReal) (u : Fin 128) (h : Fin 2) (k : Fin 4) (cnt : IVec S16x128 32)
    (s : FVec Ideal S16x128 .f32) (p : Vec Ideal S1x16x128 .f32) (r : Fin 16)
    (hc : ∀ l, cnt (ix2 r l) = cn u) (hs : ∀ l : Fin 128, s (ix2 r l) = scaleK cn eb u (keyOf h k l) ⟨l.val % 4, by omega⟩)
    (hp : ∀ l : Fin 128, p (ix3 0 r l) = part (ix3 h ⟨4 * u.val + k.val, by omega⟩ l)) (l : Fin 128) :
    scoreV (okV (BitVec.ofNat 32 (128 * h.val)) (BitVec.ofNat 32 k.val) cnt) s p (ix2 r l) = scoreK cn eb part u (keyOf h k l) := by
  have e : scoreV (okV (BitVec.ofNat 32 (128 * h.val)) (BitVec.ofNat 32 k.val) cnt) s p (ix2 r l)
      = Scalar.select (okV (BitVec.ofNat 32 (128 * h.val)) (BitVec.ofNat 32 k.val) cnt (ix2 r l))
          (groupV (mulf (shapeCast S16x128 p shapeCasts_S1x16x128_S16x128) s) (ix2 r l) * Ideal.ofBits .f32 0x3DD105EC#32) (Ideal.ofBits .f32 0xFF800000#32) := by
    unfold scoreV
    generalize okV (BitVec.ofNat 32 (128 * h.val)) (BitVec.ofNat 32 k.val) cnt = ok
    generalize groupV (mulf (shapeCast S16x128 p shapeCasts_S1x16x128_S16x128) s) = g
    rfl
  rw [e, okV_apply, hc, groupV_apply, negInf_eq]
  unfold scoreK
  have e1 : (keyOf h k l).val / 128 = h.val := by unfold keyOf; simp only; omega
  have e2 : (keyOf h k l).val % 4 = k.val := by unfold keyOf; simp only; omega
  have e3 : (keyOf h k l).val % 128 / 4 = l.val / 4 := by unfold keyOf; simp only; omega
  simp only [e1, e2, e3]
  have e4 : ∀ b : Fin 4, mulf (shapeCast S16x128 p shapeCasts_S1x16x128_S16x128) s (ix2 r ⟨4 * (l.val / 4) + b.val, by omega⟩)
      = part (ix3 h ⟨4 * u.val + k.val, by omega⟩ ⟨4 * (l.val / 4) + b.val, by omega⟩) * scaleK cn eb u (keyOf h k l) b := by
    intro b
    pointwise
    rw [hp, hs, keyOf_congr]
    congr 2
    exact Fin.ext (by show (4 * (l.val / 4) + b.val) % 4 = b.val; omega)
  simp only [e4]
  cases (BitVec.ofNat 32 (keyOf h k l).val).slt (cn u) <;> simp [Scalar.select]

/-- The exponent words of a half, byte `k` shifted to the end. -/
def shV (W : IVec S16x128 32) : Fin 4 → IVec S16x128 32
  | 0 => W
  | 1 => shrui W (broadcast S16x128 8#32)
  | 2 => shrui W (broadcast S16x128 16#32)
  | 3 => shrui W (broadcast S16x128 24#32)

theorem shV_apply (W : IVec S16x128 32) (k : Fin 4) (r : Fin 16) (l : Fin 128) : shV W k (ix2 r l) = W (ix2 r l) >>> (8 * k.val) := by
  fin_cases k
  · simp [shV]
  all_goals rfl

section

variable (C : IVec S16x128 32) (W : Fin 2 → IVec S16x128 32) (P : Fin 2 → Fin 4 → Vec Ideal S1x16x128 .f32)

/-- The scales of plane `(h, k)` of a group of users. -/
def gScale (h : Fin 2) (k : Fin 4) : FVec Ideal S16x128 .f32 := scaleV (okV (BitVec.ofNat 32 (128 * h.val)) (BitVec.ofNat 32 k.val) C) (shV (W h) k)

/-- The scores of plane `(h, k)`. -/
def gScore (h : Fin 2) (k : Fin 4) : FVec Ideal S16x128 .f32 := scoreV (okV (BitVec.ofNat 32 (128 * h.val)) (BitVec.ofNat 32 k.val) C) (gScale C W h k) (P h k)

/-- The top score of each user of the group. -/
def gTop : FVec Ideal S16x1 .f32 :=
  topV (gScore C W P 0 0) (gScore C W P 0 1) (gScore C W P 0 2) (gScore C W P 0 3) (gScore C W P 1 0) (gScore C W P 1 1) (gScore C W P 1 2) (gScore C W P 1 3)

/-- The exponentials of plane `(h, k)`. -/
def gExp (h : Fin 2) (k : Fin 4) : FVec Ideal S16x128 .f32 := expV (gScore C W P h k) (gTop C W P)

/-- The normaliser of each user of the group. -/
def gZ : FVec Ideal S16x1 .f32 :=
  zV (gExp C W P 0 0) (gExp C W P 0 1) (gExp C W P 0 2) (gExp C W P 0 3) (gExp C W P 1 0) (gExp C W P 1 1) (gExp C W P 1 2) (gExp C W P 1 3)

/-- The weights of plane `(h, k)`. -/
def gW (h : Fin 2) (k : Fin 4) : FVec Ideal S16x128 .f32 := wV (gExp C W P h k) (gZ C W P)

variable (cn : Fin 128 → BitVec 32) (eb : S128x256.Idx → BitVec 32) (part : S2x512x128.Idx → EReal) (u : Fin 128) (r : Fin 16)
  (hc : ∀ l, C (ix2 r l) = cn u) (hw : ∀ (h : Fin 2) (l : Fin 128), W h (ix2 r l) = eb (ix2 u ⟨128 * h.val + l.val, by omega⟩))
  (hp : ∀ (h : Fin 2) (k : Fin 4) (l : Fin 128), P h k (ix3 0 r l) = part (ix3 h ⟨4 * u.val + k.val, by omega⟩ l))

include hc hw in
theorem gScale_apply (h : Fin 2) (k : Fin 4) (l : Fin 128) : gScale C W h k (ix2 r l) = scaleK cn eb u (keyOf h k l) ⟨l.val % 4, by omega⟩ :=
  plane_scale cn eb u h k C (shV (W h) k) r hc (fun l => by rw [shV_apply, hw]) l

include hc hw hp in
theorem gScore_apply (h : Fin 2) (k : Fin 4) (l : Fin 128) : gScore C W P h k (ix2 r l) = scoreK cn eb part u (keyOf h k l) :=
  plane_score cn eb part u h k C _ (P h k) r hc (gScale_apply C W cn eb u r hc hw h k) (hp h k) l

include hc hw hp in
theorem gTop_apply : gTop C W P (ix2 r 0) = topK (scoreK cn eb part u) :=
  topV_apply (scoreK cn eb part u) _ _ _ _ _ _ _ _ r
    (gScore_apply C W P cn eb part u r hc hw hp 0 0) (gScore_apply C W P cn eb part u r hc hw hp 0 1) (gScore_apply C W P cn eb part u r hc hw hp 0 2) (gScore_apply C W P cn eb part u r hc hw hp 0 3)
    (gScore_apply C W P cn eb part u r hc hw hp 1 0) (gScore_apply C W P cn eb part u r hc hw hp 1 1) (gScore_apply C W P cn eb part u r hc hw hp 1 2) (gScore_apply C W P cn eb part u r hc hw hp 1 3)

include hc hw hp in
theorem gExp_apply (h : Fin 2) (k : Fin 4) (l : Fin 128) : gExp C W P h k (ix2 r l) = expK (scoreK cn eb part u) (keyOf h k l) := by
  unfold gExp
  rw [expV_apply, gScore_apply C W P cn eb part u r hc hw hp, gTop_apply C W P cn eb part u r hc hw hp]
  rfl

include hc hw hp in
theorem gZ_apply : gZ C W P (ix2 r 0) = zK (expK (scoreK cn eb part u)) :=
  zV_apply (expK (scoreK cn eb part u)) (fun _ => exp_nonneg _) _ _ _ _ _ _ _ _ r
    (gExp_apply C W P cn eb part u r hc hw hp 0 0) (gExp_apply C W P cn eb part u r hc hw hp 0 1) (gExp_apply C W P cn eb part u r hc hw hp 0 2) (gExp_apply C W P cn eb part u r hc hw hp 0 3)
    (gExp_apply C W P cn eb part u r hc hw hp 1 0) (gExp_apply C W P cn eb part u r hc hw hp 1 1) (gExp_apply C W P cn eb part u r hc hw hp 1 2) (gExp_apply C W P cn eb part u r hc hw hp 1 3)

include hc hw hp in
theorem gW_apply (h : Fin 2) (k : Fin 4) (l : Fin 128) : gW C W P h k (ix2 r l) = weightK (scoreK cn eb part u) (keyOf h k l) := by
  unfold gW
  rw [wV_apply, gExp_apply C W P cn eb part u r hc hw hp, gZ_apply C W P cn eb part u r hc hw hp]
  rfl

include hc hw hp in
/-- The weights of a half, each lane its own key. -/
theorem pick_apply (h : Fin 2) (l : Fin 128) : pickV (gW C W P h 0) (gW C W P h 1) (gW C W P h 2) (gW C W P h 3) (ix2 r l)
    = weightK (scoreK cn eb part u) ⟨128 * h.val + l.val, by omega⟩ := by
  rw [pickV_apply]
  have e : ∀ k : Fin 4, l.val % 4 = k.val → gW C W P h k (ix2 r l) = weightK (scoreK cn eb part u) ⟨128 * h.val + l.val, by omega⟩ := by
    intro k hk
    rw [gW_apply C W P cn eb part u r hc hw hp]
    congr 1
    exact Fin.ext (by show 128 * h.val + 4 * (l.val / 4) + k.val = 128 * h.val + l.val; omega)
  split
  · exact e 0 ‹_›
  · split
    · exact e 1 ‹_›
    · split
      · exact e 2 ‹_›
      · exact e 3 (by show l.val % 4 = 3; omega)

include hc hw hp in
/-- The weights times the scales of plane `(h, k)`. -/
theorem wk_apply (h : Fin 2) (k : Fin 4) (l : Fin 128) : wkV (gW C W P h k) (gScale C W h k) (ix3 0 r l)
    = weightK (scoreK cn eb part u) (keyOf h k l) * scaleK cn eb u (keyOf h k l) ⟨l.val % 4, by omega⟩ := by
  rw [wkV_apply, gW_apply C W P cn eb part u r hc hw hp, gScale_apply C W cn eb u r hc hw]

end

/-- What the second loop leaves as the weights of the block. -/
def weightOf (cn : Fin 128 → BitVec 32) (eb : S128x256.Idx → BitVec 32) (part : S2x512x128.Idx → EReal) (j : S128x256.Idx) : EReal :=
  weightK (scoreK cn eb part (j 0)) (j 1)

/-- What the second loop leaves in its scratch: plane `h`, row `4u + k`, lane `l`. -/
def wkOf (cn : Fin 128 → BitVec 32) (eb : S128x256.Idx → BitVec 32) (part : S2x512x128.Idx → EReal) (j : S2x512x128.Idx) : EReal :=
  have h1 : (j 1).val < 512 := (j 1).isLt
  weightK (scoreK cn eb part ⟨(j 1).val / 4, by omega⟩) (keyOf (j 0) ⟨(j 1).val % 4, by omega⟩ (j 2))
    * scaleK cn eb ⟨(j 1).val / 4, by omega⟩ (keyOf (j 0) ⟨(j 1).val % 4, by omega⟩ (j 2)) ⟨(j 2).val % 4, by omega⟩

end Cert.KernelIdeal.Hand
-- ==== Proof.Hand.ValueLoop2.lean ====
/- The second loop of `proofs.«01_k».proof.KernelIdeal`: what the weights and its scratch hold after it, in exact arithmetic. -/
module

public import proofs.«01_k».proof.Proof.Gen.KernelIdeal.Loops
public import proofs.«01_k».proof.Proof.Hand.ValueLoop1
public import proofs.«01_k».proof.Proof.Hand.ValueSoft
public import proofs.«01_k».proof.Proof.Hand.KernelIdealGroups

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.Sem

/-- `load_at` for a strided block whose offsets have a closed form. -/
theorem load_strided {sig : RefSig} {κ : Kind} {sp : Space} {s : Shape} {e : EltTy} {Val : EltTy → Type} (v : View sig κ sp s e) (X : v.ty.Contents Val)
    {off size stride : Fin s.rank → ℕ} {inb} (off' : Fin s.rank → ℕ) (ho : off = off') (x : (⟨off, size, stride, inb⟩ : LoadRect s).shape.Idx) (y : s.Idx)
    (h : ∀ a, (y a : ℕ) = off' a + stride a * x a) : v.readAt Val (⟨off, size, stride, inb⟩ : LoadRect s) X x = v.read Val X y := by
  subst ho
  exact load_at v X _ x y h

/-- `emb_at` for a strided block whose offsets have a closed form. -/
theorem emb_strided {s : Shape} {off size stride : Fin s.rank → ℕ} {inb sp} (off' : Fin s.rank → ℕ) (ho : off = off')
    (x : (⟨⟨off, size, stride, inb⟩, sp⟩ : Rect s).shape.Idx) (y : s.Idx)
    (h : ∀ a, (y a : ℕ) = off' a + stride a * x a) : (⟨⟨off, size, stride, inb⟩, sp⟩ : Rect s).emb x = y := by
  subst ho
  exact emb_at _ x y h

/-- An index lies in a strided block whose offsets have a closed form. -/
theorem mem_strided {s : Shape} {off size stride : Fin s.rank → ℕ} {inb sp} (off' : Fin s.rank → ℕ) (ho : off = off')
    (x : (⟨⟨off, size, stride, inb⟩, sp⟩ : Rect s).shape.Idx) (y : s.Idx)
    (h : ∀ a, (y a : ℕ) = off' a + stride a * x a) : y ∈ (⟨⟨off, size, stride, inb⟩, sp⟩ : Rect s).set := by
  subst ho
  exact (LoadRect.mem_set _).mpr fun a => ⟨x a, (x a).isLt, h a⟩

section

variable {arg3 : Memref sig .tc .vmem S128x256 .i32} {arg9 : Memref sig .tc .vmem S2x512x128 .f32} {arg10 : Memref sig .tc .vmem S128x128 .i32}
  (X3 : BufTy.Contents (Elt Ideal) arg3.view.ty) (X9 : BufTy.Contents (Elt Ideal) arg9.view.ty) (X10 : BufTy.Contents (Elt Ideal) arg10.view.ty) (k : Fin k0_t2_loop.trips)

/-- The counts that trip `k` loads. -/
def cntL : IVec S16x128 32 := arg10.view.readAt (Elt Ideal) (Rect.unit (s := S128x128) (k0_off9 k) S16x128.size (k0_off9_inb k)).toLoadRect X10

/-- The exponent words of each half that trip `k` loads. -/
def wordL : Fin 2 → IVec S16x128 32
  | 0 => arg3.view.readAt (Elt Ideal) (Rect.unit (s := S128x256) (k0_off10 k) S16x128.size (k0_off10_inb k)).toLoadRect X3
  | 1 => arg3.view.readAt (Elt Ideal) (Rect.unit (s := S128x256) (k0_off12 k) S16x128.size (k0_off12_inb k)).toLoadRect X3

/-- The partial products of each plane that trip `k` loads. -/
def partL : Fin 2 → Fin 4 → Vec Ideal S1x16x128 .f32
  | 0, 0 => arg9.view.readAt (Elt Ideal) (⟨k0_off11 k 0#32, S1x16x128.size, ![1, 4, 1], k0_off11_inb k 0⟩ : LoadRect S2x512x128) X9
  | 0, 1 => arg9.view.readAt (Elt Ideal) (⟨k0_off11 k 1#32, S1x16x128.size, ![1, 4, 1], k0_off11_inb k 1⟩ : LoadRect S2x512x128) X9
  | 0, 2 => arg9.view.readAt (Elt Ideal) (⟨k0_off11 k 2#32, S1x16x128.size, ![1, 4, 1], k0_off11_inb k 2⟩ : LoadRect S2x512x128) X9
  | 0, 3 => arg9.view.readAt (Elt Ideal) (⟨k0_off11 k 3#32, S1x16x128.size, ![1, 4, 1], k0_off11_inb k 3⟩ : LoadRect S2x512x128) X9
  | 1, 0 => arg9.view.readAt (Elt Ideal) (⟨k0_off13 k 0#32, S1x16x128.size, ![1, 4, 1], k0_off13_inb k 0⟩ : LoadRect S2x512x128) X9
  | 1, 1 => arg9.view.readAt (Elt Ideal) (⟨k0_off13 k 1#32, S1x16x128.size, ![1, 4, 1], k0_off13_inb k 1⟩ : LoadRect S2x512x128) X9
  | 1, 2 => arg9.view.readAt (Elt Ideal) (⟨k0_off13 k 2#32, S1x16x128.size, ![1, 4, 1], k0_off13_inb k 2⟩ : LoadRect S2x512x128) X9
  | 1, 3 => arg9.view.readAt (Elt Ideal) (⟨k0_off13 k 3#32, S1x16x128.size, ![1, 4, 1], k0_off13_inb k 3⟩ : LoadRect S2x512x128) X9

theorem cntL_apply (r : Fin 16) (l : Fin 128) (hk : k.val < 8) : cntL X10 k (ix2 r l) = arg10.view.read (Elt Ideal) X10 (ix2 ⟨16 * k.val + r.val, by omega⟩ l) :=
  load_unit _ _ _ (k0_off9_eq k) _ _ (by show ∀ a : Fin 2, _; intro a; fin_cases a <;> simp [ix2])

theorem wordL_apply (h : Fin 2) (r : Fin 16) (l : Fin 128) (hk : k.val < 8) :
    wordL X3 k h (ix2 r l) = arg3.view.read (Elt Ideal) X3 (ix2 ⟨16 * k.val + r.val, by omega⟩ ⟨128 * h.val + l.val, by omega⟩) := by
  fin_cases h
  · exact load_unit _ _ _ (k0_off10_eq k) _ _ (by show ∀ a : Fin 2, _; intro a; fin_cases a <;> simp [ix2])
  · exact load_unit _ _ _ (k0_off12_eq k) _ _ (by show ∀ a : Fin 2, _; intro a; fin_cases a <;> simp [ix2])

theorem partL_apply (h : Fin 2) (kk : Fin 4) (r : Fin 16) (l : Fin 128) (hk : k.val < 8) :
    partL X9 k h kk (ix3 0 r l) = arg9.view.read (Elt Ideal) X9 (ix3 h ⟨4 * (16 * k.val + r.val) + kk.val, by omega⟩ l) := by
  fin_cases h <;> fin_cases kk
  · exact load_strided _ _ _ (k0_off11_eq k 0) _ _ (by show ∀ a : Fin 3, _; intro a; fin_cases a <;> simp [ix3] <;> omega)
  · exact load_strided _ _ _ (k0_off11_eq k 1) _ _ (by show ∀ a : Fin 3, _; intro a; fin_cases a <;> simp [ix3] <;> omega)
  · exact load_strided _ _ _ (k0_off11_eq k 2) _ _ (by show ∀ a : Fin 3, _; intro a; fin_cases a <;> simp [ix3] <;> omega)
  · exact load_strided _ _ _ (k0_off11_eq k 3) _ _ (by show ∀ a : Fin 3, _; intro a; fin_cases a <;> simp [ix3] <;> omega)
  · exact load_strided _ _ _ (k0_off13_eq k 0) _ _ (by show ∀ a : Fin 3, _; intro a; fin_cases a <;> simp [ix3] <;> omega)
  · exact load_strided _ _ _ (k0_off13_eq k 1) _ _ (by show ∀ a : Fin 3, _; intro a; fin_cases a <;> simp [ix3] <;> omega)
  · exact load_strided _ _ _ (k0_off13_eq k 2) _ _ (by show ∀ a : Fin 3, _; intro a; fin_cases a <;> simp [ix3] <;> omega)
  · exact load_strided _ _ _ (k0_off13_eq k 3) _ _ (by show ∀ a : Fin 3, _; intro a; fin_cases a <;> simp [ix3] <;> omega)

end

/-- Every piece of a trip that goes to the weights agrees with `weightOf`. -/
theorem t2_weight (𝒱 : Variants) (c : Dev nD) (bd : Option 𝒱.V) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole) (arg0 : BitVec 32)
    (X3 : BufTy.Contents (Elt Ideal) arg3.view.ty) (X9 : BufTy.Contents (Elt Ideal) arg9.view.ty) (X10 : BufTy.Contents (Elt Ideal) arg10.view.ty) (cn : Fin 128 → BitVec 32) (hcn : ∀ u l : Fin 128, arg10.view.read (Elt Ideal) X10 (ix2 u l) = cn u) (k : Fin k0_t2_loop.trips) :
    ∀ p ∈ (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 k0_pay84 k0_pay85 lanesV k0_pay88 k0_pay89 k0_pay90 0#32 X3 X9 X10 k).1, ∀ x : p.1.shape.Idx, p.2 x = weightOf cn (arg3.view.read (Elt Ideal) X3) (arg9.view.read (Elt Ideal) X9) (p.1.emb x) := by
  unfold tripL_k0_t2 trip_k0_t2
  dsimp only
  sl_unfold_run_names
  intro p hp
  simp only [List.mem_cons, List.not_mem_nil, or_false] at hp
  have hk : k.val < 8 := Nat.lt_of_lt_of_le k.isLt k0_t2_abs.2.1
  rcases hp with rfl | rfl
  · intro x
    revert x
    show ∀ x : S16x128.Idx, _
    intro x
    idx_vars x
    have e : (Rect.unit (s := S128x256) (k0_off12 k) S16x128.size (k0_off12_inb k)).emb (ix2 x0 x1) = ix2 ⟨16 * k.val + x0.val, by omega⟩ ⟨128 * (1 : Fin 2).val + x1.val, by simp; omega⟩ :=
      emb_unit _ (k0_off12_eq k) _ _ (by show ∀ a : Fin 2, _; intro a; fin_cases a <;> simp [ix2])
    refine Eq.trans ?_ (congrArg (weightOf cn (arg3.view.read (Elt Ideal) X3) (arg9.view.read (Elt Ideal) X9)) e.symm)
    exact pick_apply (cntL X10 k) (wordL X3 k) (partL X9 k) cn _ _ ⟨16 * k.val + x0.val, by omega⟩ x0
      (fun l => by rw [cntL_apply X10 k x0 l hk, hcn]) (fun h l => wordL_apply X3 k h x0 l hk) (fun h kk l => partL_apply X9 k h kk x0 l hk) 1 x1
  · intro x
    revert x
    show ∀ x : S16x128.Idx, _
    intro x
    idx_vars x
    have e : (Rect.unit (s := S128x256) (k0_off10 k) S16x128.size (k0_off10_inb k)).emb (ix2 x0 x1) = ix2 ⟨16 * k.val + x0.val, by omega⟩ ⟨128 * (0 : Fin 2).val + x1.val, by simp; omega⟩ :=
      emb_unit _ (k0_off10_eq k) _ _ (by show ∀ a : Fin 2, _; intro a; fin_cases a <;> simp [ix2])
    refine Eq.trans ?_ (congrArg (weightOf cn (arg3.view.read (Elt Ideal) X3) (arg9.view.read (Elt Ideal) X9)) e.symm)
    exact pick_apply (cntL X10 k) (wordL X3 k) (partL X9 k) cn _ _ ⟨16 * k.val + x0.val, by omega⟩ x0
      (fun l => by rw [cntL_apply X10 k x0 l hk, hcn]) (fun h l => wordL_apply X3 k h x0 l hk) (fun h kk l => partL_apply X9 k h kk x0 l hk) 0 x1

/-- Every piece of a trip that goes to the scratch agrees with `wkOf`. -/
theorem t2_wk (𝒱 : Variants) (c : Dev nD) (bd : Option 𝒱.V) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole) (arg0 : BitVec 32)
    (X3 : BufTy.Contents (Elt Ideal) arg3.view.ty) (X9 : BufTy.Contents (Elt Ideal) arg9.view.ty) (X10 : BufTy.Contents (Elt Ideal) arg10.view.ty) (cn : Fin 128 → BitVec 32) (hcn : ∀ u l : Fin 128, arg10.view.read (Elt Ideal) X10 (ix2 u l) = cn u) (k : Fin k0_t2_loop.trips) :
    ∀ p ∈ (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 k0_pay84 k0_pay85 lanesV k0_pay88 k0_pay89 k0_pay90 0#32 X3 X9 X10 k).2, ∀ x : p.1.shape.Idx, p.2 x = wkOf cn (arg3.view.read (Elt Ideal) X3) (arg9.view.read (Elt Ideal) X9) (p.1.emb x) := by
  unfold tripL_k0_t2 trip_k0_t2
  dsimp only
  sl_unfold_run_names
  intro p hp
  simp only [List.mem_cons, List.not_mem_nil, or_false] at hp
  have hk : k.val < 8 := Nat.lt_of_lt_of_le k.isLt k0_t2_abs.2.1
  have key : ∀ (h : Fin 2) (kk : Fin 4) (x0 : Fin 16) (x1 : Fin 128), wkV (gW (cntL X10 k) (wordL X3 k) (partL X9 k) h kk) (gScale (cntL X10 k) (wordL X3 k) h kk) (ix3 0 x0 x1)
      = wkOf cn (arg3.view.read (Elt Ideal) X3) (arg9.view.read (Elt Ideal) X9) (ix3 h ⟨64 * k.val + 4 * x0.val + kk.val, by omega⟩ x1) := by
    intro h kk x0 x1
    refine (wk_apply (cntL X10 k) (wordL X3 k) (partL X9 k) cn _ _ ⟨16 * k.val + x0.val, by omega⟩ x0
      (fun l => by rw [cntL_apply X10 k x0 l hk, hcn]) (fun h l => wordL_apply X3 k h x0 l hk) (fun h kk l => partL_apply X9 k h kk x0 l hk) h kk x1).trans ?_
    have e1 : (⟨(64 * k.val + 4 * x0.val + kk.val) / 4, by omega⟩ : Fin 128) = ⟨16 * k.val + x0.val, by omega⟩ := Fin.ext (by show (64 * k.val + 4 * x0.val + kk.val) / 4 = 16 * k.val + x0.val; omega)
    have e2 : (⟨(64 * k.val + 4 * x0.val + kk.val) % 4, by omega⟩ : Fin 4) = kk := Fin.ext (by show (64 * k.val + 4 * x0.val + kk.val) % 4 = kk.val; omega)
    show _ = weightK (scoreK cn _ _ ⟨(64 * k.val + 4 * x0.val + kk.val) / 4, _⟩) (keyOf h ⟨(64 * k.val + 4 * x0.val + kk.val) % 4, _⟩ x1)
      * scaleK cn _ ⟨(64 * k.val + 4 * x0.val + kk.val) / 4, _⟩ (keyOf h ⟨(64 * k.val + 4 * x0.val + kk.val) % 4, _⟩ x1) ⟨x1.val % 4, _⟩
    rw [e1, e2]
  rcases hp with rfl | rfl | rfl | rfl | rfl | rfl | rfl | rfl
  · intro x
    revert x
    show ∀ x : S1x16x128.Idx, _
    intro x
    idx_vars x
    have ex0 : x0 = 0 := Subsingleton.elim _ _
    subst ex0
    have e : (⟨(⟨k0_off13 k 3#32, S1x16x128.size, ![1, 4, 1], k0_off13_inb k 3⟩ : LoadRect S2x512x128), spos_1_4_1⟩ : Rect S2x512x128).emb (ix3 0 x1 x2) = ix3 (1 : Fin 2) ⟨64 * k.val + 4 * x1.val + (3 : Fin 4).val, by simp; omega⟩ x2 :=
      emb_strided _ (k0_off13_eq k 3) _ _ (by show ∀ a : Fin 3, _; intro a; fin_cases a <;> simp [ix3] <;> omega)
    refine Eq.trans ?_ (congrArg (wkOf cn (arg3.view.read (Elt Ideal) X3) (arg9.view.read (Elt Ideal) X9)) e.symm)
    exact key 1 3 x1 x2
  · intro x
    revert x
    show ∀ x : S1x16x128.Idx, _
    intro x
    idx_vars x
    have ex0 : x0 = 0 := Subsingleton.elim _ _
    subst ex0
    have e : (⟨(⟨k0_off13 k 2#32, S1x16x128.size, ![1, 4, 1], k0_off13_inb k 2⟩ : LoadRect S2x512x128), spos_1_4_1⟩ : Rect S2x512x128).emb (ix3 0 x1 x2) = ix3 (1 : Fin 2) ⟨64 * k.val + 4 * x1.val + (2 : Fin 4).val, by simp; omega⟩ x2 :=
      emb_strided _ (k0_off13_eq k 2) _ _ (by show ∀ a : Fin 3, _; intro a; fin_cases a <;> simp [ix3] <;> omega)
    refine Eq.trans ?_ (congrArg (wkOf cn (arg3.view.read (Elt Ideal) X3) (arg9.view.read (Elt Ideal) X9)) e.symm)
    exact key 1 2 x1 x2
  · intro x
    revert x
    show ∀ x : S1x16x128.Idx, _
    intro x
    idx_vars x
    have ex0 : x0 = 0 := Subsingleton.elim _ _
    subst ex0
    have e : (⟨(⟨k0_off13 k 1#32, S1x16x128.size, ![1, 4, 1], k0_off13_inb k 1⟩ : LoadRect S2x512x128), spos_1_4_1⟩ : Rect S2x512x128).emb (ix3 0 x1 x2) = ix3 (1 : Fin 2) ⟨64 * k.val + 4 * x1.val + (1 : Fin 4).val, by simp; omega⟩ x2 :=
      emb_strided _ (k0_off13_eq k 1) _ _ (by show ∀ a : Fin 3, _; intro a; fin_cases a <;> simp [ix3] <;> omega)
    refine Eq.trans ?_ (congrArg (wkOf cn (arg3.view.read (Elt Ideal) X3) (arg9.view.read (Elt Ideal) X9)) e.symm)
    exact key 1 1 x1 x2
  · intro x
    revert x
    show ∀ x : S1x16x128.Idx, _
    intro x
    idx_vars x
    have ex0 : x0 = 0 := Subsingleton.elim _ _
    subst ex0
    have e : (⟨(⟨k0_off13 k 0#32, S1x16x128.size, ![1, 4, 1], k0_off13_inb k 0⟩ : LoadRect S2x512x128), spos_1_4_1⟩ : Rect S2x512x128).emb (ix3 0 x1 x2) = ix3 (1 : Fin 2) ⟨64 * k.val + 4 * x1.val + (0 : Fin 4).val, by simp; omega⟩ x2 :=
      emb_strided _ (k0_off13_eq k 0) _ _ (by show ∀ a : Fin 3, _; intro a; fin_cases a <;> simp [ix3] <;> omega)
    refine Eq.trans ?_ (congrArg (wkOf cn (arg3.view.read (Elt Ideal) X3) (arg9.view.read (Elt Ideal) X9)) e.symm)
    exact key 1 0 x1 x2
  · intro x
    revert x
    show ∀ x : S1x16x128.Idx, _
    intro x
    idx_vars x
    have ex0 : x0 = 0 := Subsingleton.elim _ _
    subst ex0
    have e : (⟨(⟨k0_off11 k 3#32, S1x16x128.size, ![1, 4, 1], k0_off11_inb k 3⟩ : LoadRect S2x512x128), spos_1_4_1⟩ : Rect S2x512x128).emb (ix3 0 x1 x2) = ix3 (0 : Fin 2) ⟨64 * k.val + 4 * x1.val + (3 : Fin 4).val, by simp; omega⟩ x2 :=
      emb_strided _ (k0_off11_eq k 3) _ _ (by show ∀ a : Fin 3, _; intro a; fin_cases a <;> simp [ix3] <;> omega)
    refine Eq.trans ?_ (congrArg (wkOf cn (arg3.view.read (Elt Ideal) X3) (arg9.view.read (Elt Ideal) X9)) e.symm)
    exact key 0 3 x1 x2
  · intro x
    revert x
    show ∀ x : S1x16x128.Idx, _
    intro x
    idx_vars x
    have ex0 : x0 = 0 := Subsingleton.elim _ _
    subst ex0
    have e : (⟨(⟨k0_off11 k 2#32, S1x16x128.size, ![1, 4, 1], k0_off11_inb k 2⟩ : LoadRect S2x512x128), spos_1_4_1⟩ : Rect S2x512x128).emb (ix3 0 x1 x2) = ix3 (0 : Fin 2) ⟨64 * k.val + 4 * x1.val + (2 : Fin 4).val, by simp; omega⟩ x2 :=
      emb_strided _ (k0_off11_eq k 2) _ _ (by show ∀ a : Fin 3, _; intro a; fin_cases a <;> simp [ix3] <;> omega)
    refine Eq.trans ?_ (congrArg (wkOf cn (arg3.view.read (Elt Ideal) X3) (arg9.view.read (Elt Ideal) X9)) e.symm)
    exact key 0 2 x1 x2
  · intro x
    revert x
    show ∀ x : S1x16x128.Idx, _
    intro x
    idx_vars x
    have ex0 : x0 = 0 := Subsingleton.elim _ _
    subst ex0
    have e : (⟨(⟨k0_off11 k 1#32, S1x16x128.size, ![1, 4, 1], k0_off11_inb k 1⟩ : LoadRect S2x512x128), spos_1_4_1⟩ : Rect S2x512x128).emb (ix3 0 x1 x2) = ix3 (0 : Fin 2) ⟨64 * k.val + 4 * x1.val + (1 : Fin 4).val, by simp; omega⟩ x2 :=
      emb_strided _ (k0_off11_eq k 1) _ _ (by show ∀ a : Fin 3, _; intro a; fin_cases a <;> simp [ix3] <;> omega)
    refine Eq.trans ?_ (congrArg (wkOf cn (arg3.view.read (Elt Ideal) X3) (arg9.view.read (Elt Ideal) X9)) e.symm)
    exact key 0 1 x1 x2
  · intro x
    revert x
    show ∀ x : S1x16x128.Idx, _
    intro x
    idx_vars x
    have ex0 : x0 = 0 := Subsingleton.elim _ _
    subst ex0
    have e : (⟨(⟨k0_off11 k 0#32, S1x16x128.size, ![1, 4, 1], k0_off11_inb k 0⟩ : LoadRect S2x512x128), spos_1_4_1⟩ : Rect S2x512x128).emb (ix3 0 x1 x2) = ix3 (0 : Fin 2) ⟨64 * k.val + 4 * x1.val + (0 : Fin 4).val, by simp; omega⟩ x2 :=
      emb_strided _ (k0_off11_eq k 0) _ _ (by show ∀ a : Fin 3, _; intro a; fin_cases a <;> simp [ix3] <;> omega)
    refine Eq.trans ?_ (congrArg (wkOf cn (arg3.view.read (Elt Ideal) X3) (arg9.view.read (Elt Ideal) X9)) e.symm)
    exact key 0 0 x1 x2

/-- What the second loop leaves: the weights. -/
theorem loop2_weight (𝒱 : Variants) (c : Dev nD) (bd : Option 𝒱.V) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole) (arg0 : BitVec 32)
    (X3 : BufTy.Contents (Elt Ideal) arg3.view.ty) (X9 : BufTy.Contents (Elt Ideal) arg9.view.ty) (X10 : BufTy.Contents (Elt Ideal) arg10.view.ty) (cn : Fin 128 → BitVec 32) (hcn : ∀ u l : Fin 128, arg10.view.read (Elt Ideal) X10 (ix2 u l) = cn u) (f : BufTy.Contents (Elt Ideal) arg5.view.ty) (y : S128x256.Idx) :
    arg5.view.read (Elt Ideal) (arg5.view.writes (Elt Ideal) f (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 k0_pay84 k0_pay85 lanesV k0_pay88 k0_pay89 k0_pay90 0#32 X3 X9 X10 k0_t2_loop.trips).1) y = weightOf cn (arg3.view.read (Elt Ideal) X3) (arg9.view.read (Elt Ideal) X9) y := by
  have hy : (y 0).val < 128 := (y 0).isLt
  have ht : k0_t2_loop.trips = 8 := by decide +kernel
  have hk : (y 0).val / 16 < k0_t2_loop.trips := by omega
  refine read_loop arg5.view f (fun m => (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 k0_pay84 k0_pay85 lanesV k0_pay88 k0_pay89 k0_pay90 0#32 X3 X9 X10 m).1)
    (fun k => (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 k0_pay84 k0_pay85 lanesV k0_pay88 k0_pay89 k0_pay90 0#32 X3 X9 X10 k).1) rfl (fun k => by
      show (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 k0_pay84 k0_pay85 lanesV k0_pay88 k0_pay89 k0_pay90 0#32 X3 X9 X10 (k.val + 1)).1 = _
      rw [pb_k0_t2_succ]) _
    (fun k => t2_weight 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X3 X9 X10 cn hcn k) y ⟨(y 0).val / 16, hk⟩ ?_
  unfold tripL_k0_t2 trip_k0_t2
  dsimp only
  idx_vars y
  by_cases h0 : y1.val < 128
  · refine ⟨_, List.mem_cons_of_mem _ List.mem_cons_self, ?_⟩
    refine mem_unit (inb := k0_off10_inb _) _ (k0_off10_eq _) _ ?_
    show ∀ a : Fin 2, _; intro a; fin_cases a <;> simp [ix2] <;> omega
  · refine ⟨_, List.mem_cons_self, ?_⟩
    refine mem_unit (inb := k0_off12_inb _) _ (k0_off12_eq _) _ ?_
    show ∀ a : Fin 2, _; intro a; fin_cases a <;> simp [ix2] <;> omega

/-- What the second loop leaves: its scratch. -/
theorem loop2_wk (𝒱 : Variants) (c : Dev nD) (bd : Option 𝒱.V) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole) (arg0 : BitVec 32)
    (X3 : BufTy.Contents (Elt Ideal) arg3.view.ty) (X9 : BufTy.Contents (Elt Ideal) arg9.view.ty) (X10 : BufTy.Contents (Elt Ideal) arg10.view.ty) (cn : Fin 128 → BitVec 32) (hcn : ∀ u l : Fin 128, arg10.view.read (Elt Ideal) X10 (ix2 u l) = cn u) (f : BufTy.Contents (Elt Ideal) arg11.view.ty) (y : S2x512x128.Idx) :
    arg11.view.read (Elt Ideal) (arg11.view.writes (Elt Ideal) f (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 k0_pay84 k0_pay85 lanesV k0_pay88 k0_pay89 k0_pay90 0#32 X3 X9 X10 k0_t2_loop.trips).2) y = wkOf cn (arg3.view.read (Elt Ideal) X3) (arg9.view.read (Elt Ideal) X9) y := by
  have hy : (y 1).val < 512 := (y 1).isLt
  have ht : k0_t2_loop.trips = 8 := by decide +kernel
  have hk : (y 1).val / 64 < k0_t2_loop.trips := by omega
  refine read_loop arg11.view f (fun m => (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 k0_pay84 k0_pay85 lanesV k0_pay88 k0_pay89 k0_pay90 0#32 X3 X9 X10 m).2)
    (fun k => (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 k0_pay84 k0_pay85 lanesV k0_pay88 k0_pay89 k0_pay90 0#32 X3 X9 X10 k).2) rfl (fun k => by
      show (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 k0_pay84 k0_pay85 lanesV k0_pay88 k0_pay89 k0_pay90 0#32 X3 X9 X10 (k.val + 1)).2 = _
      rw [pb_k0_t2_succ]) _
    (fun k => t2_wk 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 X3 X9 X10 cn hcn k) y ⟨(y 1).val / 64, hk⟩ ?_
  unfold tripL_k0_t2 trip_k0_t2
  dsimp only
  idx_vars y
  obtain ⟨n, hn⟩ := y0
  have hj : y1.val % 4 < 4 := by omega
  obtain ⟨j, hj'⟩ : ∃ j, y1.val % 4 = j := ⟨_, rfl⟩
  rw [hj'] at hj
  simp only [List.exists_mem_cons_iff]
  interval_cases n <;> interval_cases j
  · right; right; right; right; right; right; right; left
    refine mem_strided (inb := k0_off11_inb _ 0) (sp := spos_1_4_1) _ (k0_off11_eq _ 0) (ix3 0 ⟨y1.val % 64 / 4, by omega⟩ y2) _ ?_
    show ∀ a : Fin 3, _; intro a; fin_cases a <;> simp [ix3] <;> omega
  · right; right; right; right; right; right; left
    refine mem_strided (inb := k0_off11_inb _ 1) (sp := spos_1_4_1) _ (k0_off11_eq _ 1) (ix3 0 ⟨y1.val % 64 / 4, by omega⟩ y2) _ ?_
    show ∀ a : Fin 3, _; intro a; fin_cases a <;> simp [ix3] <;> omega
  · right; right; right; right; right; left
    refine mem_strided (inb := k0_off11_inb _ 2) (sp := spos_1_4_1) _ (k0_off11_eq _ 2) (ix3 0 ⟨y1.val % 64 / 4, by omega⟩ y2) _ ?_
    show ∀ a : Fin 3, _; intro a; fin_cases a <;> simp [ix3] <;> omega
  · right; right; right; right; left
    refine mem_strided (inb := k0_off11_inb _ 3) (sp := spos_1_4_1) _ (k0_off11_eq _ 3) (ix3 0 ⟨y1.val % 64 / 4, by omega⟩ y2) _ ?_
    show ∀ a : Fin 3, _; intro a; fin_cases a <;> simp [ix3] <;> omega
  · right; right; right; left
    refine mem_strided (inb := k0_off13_inb _ 0) (sp := spos_1_4_1) _ (k0_off13_eq _ 0) (ix3 0 ⟨y1.val % 64 / 4, by omega⟩ y2) _ ?_
    show ∀ a : Fin 3, _; intro a; fin_cases a <;> simp [ix3] <;> omega
  · right; right; left
    refine mem_strided (inb := k0_off13_inb _ 1) (sp := spos_1_4_1) _ (k0_off13_eq _ 1) (ix3 0 ⟨y1.val % 64 / 4, by omega⟩ y2) _ ?_
    show ∀ a : Fin 3, _; intro a; fin_cases a <;> simp [ix3] <;> omega
  · right; left
    refine mem_strided (inb := k0_off13_inb _ 2) (sp := spos_1_4_1) _ (k0_off13_eq _ 2) (ix3 0 ⟨y1.val % 64 / 4, by omega⟩ y2) _ ?_
    show ∀ a : Fin 3, _; intro a; fin_cases a <;> simp [ix3] <;> omega
  · left
    refine mem_strided (inb := k0_off13_inb _ 3) (sp := spos_1_4_1) _ (k0_off13_eq _ 3) (ix3 0 ⟨y1.val % 64 / 4, by omega⟩ y2) _ ?_
    show ∀ a : Fin 3, _; intro a; fin_cases a <;> simp [ix3] <;> omega

end Cert.KernelIdeal.Hand
-- ==== Proof.Hand.ValueLoop3.lean ====
/- The third loop of `proofs.«01_k».proof.KernelIdeal`: what its scratch holds after it, in exact arithmetic. -/
module

public import proofs.«01_k».proof.Proof.Gen.KernelIdeal.Loops
public import proofs.«01_k».proof.Proof.Hand.ValueLoop1

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.Sem

/- The slices of the product that the trip stores. -/

theorem k0_pay95_apply (z : FVec Ideal S24x256 .f32) (r : Fin 4) (l : Fin 128) :
    k0_pay95 (F := Ideal) z (ix4 0 0 r l) = z (ix2 ⟨8 * (2 : Fin 3).val + (4 * (1 : Fin 2).val + r.val), by simp; omega⟩ ⟨128 * (1 : Fin 2).val + l.val, by simp; omega⟩) := by
  unfold k0_pay95
  pointwise
  refine congrArg z ?_
  refine funext fun a => Fin.ext ?_
  revert a
  show ∀ a : Fin 2, _
  intro a
  fin_cases a <;> simp [ix2] <;> omega

theorem k0_pay94_apply (z : FVec Ideal S24x256 .f32) (r : Fin 4) (l : Fin 128) :
    k0_pay94 (F := Ideal) z (ix4 0 0 r l) = z (ix2 ⟨8 * (2 : Fin 3).val + (4 * (0 : Fin 2).val + r.val), by simp; omega⟩ ⟨128 * (0 : Fin 2).val + l.val, by simp; omega⟩) := by
  unfold k0_pay94
  pointwise

theorem k0_pay93_apply (z : FVec Ideal S24x256 .f32) (r : Fin 4) (l : Fin 128) :
    k0_pay93 (F := Ideal) z (ix4 0 0 r l) = z (ix2 ⟨8 * (1 : Fin 3).val + (4 * (1 : Fin 2).val + r.val), by simp; omega⟩ ⟨128 * (1 : Fin 2).val + l.val, by simp; omega⟩) := by
  unfold k0_pay93
  pointwise
  refine congrArg z ?_
  refine funext fun a => Fin.ext ?_
  revert a
  show ∀ a : Fin 2, _
  intro a
  fin_cases a <;> simp [ix2] <;> omega

theorem k0_pay92_apply (z : FVec Ideal S24x256 .f32) (r : Fin 4) (l : Fin 128) :
    k0_pay92 (F := Ideal) z (ix4 0 0 r l) = z (ix2 ⟨8 * (1 : Fin 3).val + (4 * (0 : Fin 2).val + r.val), by simp; omega⟩ ⟨128 * (0 : Fin 2).val + l.val, by simp; omega⟩) := by
  unfold k0_pay92
  pointwise

theorem k0_pay76_apply (v77 : IVec S8x256 32) (v381 : FVec Ideal S256x256 .fp8e4m3) (a b : Vec Ideal S1x8x128 .f32) (r : Fin 4) (l : Fin 128) :
    k0_pay76 (F := Ideal) v77 v381 a b (ix4 0 0 r l) = (k0_pay74 v77 v381 a b) (ix2 ⟨8 * (0 : Fin 3).val + (4 * (1 : Fin 2).val + r.val), by simp; omega⟩ ⟨128 * (1 : Fin 2).val + l.val, by simp; omega⟩) := by
  unfold k0_pay76
  generalize k0_pay74 v77 v381 a b = z
  pointwise

theorem k0_pay75_apply (v77 : IVec S8x256 32) (v381 : FVec Ideal S256x256 .fp8e4m3) (a b : Vec Ideal S1x8x128 .f32) (r : Fin 4) (l : Fin 128) :
    k0_pay75 (F := Ideal) v77 v381 a b (ix4 0 0 r l) = (k0_pay74 v77 v381 a b) (ix2 ⟨8 * (0 : Fin 3).val + (4 * (0 : Fin 2).val + r.val), by simp; omega⟩ ⟨128 * (0 : Fin 2).val + l.val, by simp; omega⟩) := by
  unfold k0_pay75
  generalize k0_pay74 v77 v381 a b = z
  pointwise

/-- Every piece of a trip agrees with `pooledOf`. -/
theorem t3_pooled (𝒱 : Variants) (c : Dev nD) (bd : Option 𝒱.V) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole) (arg0 : BitVec 32) (v108 : IVec S16x128 32) (v112 : IVec S16x128 1) (v116 : IVec S16x128 1) (v118 : IVec S16x128 32) (c0 : BitVec 32)
    (X1 : BufTy.Contents (Elt Ideal) arg1.view.ty) (X2 : BufTy.Contents (Elt Ideal) arg2.view.ty) (X11 : BufTy.Contents (Elt Ideal) arg11.view.ty) (k : Fin k0_t3_loop.trips) :
    ∀ p ∈ tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 k0_pay84 k0_pay85 v108 v112 v116 v118 c0 X1 X2 X11 k, ∀ x : p.1.shape.Idx,
      p.2 x = pooledOf (arg11.view.read (Elt Ideal) X11) (codeOf (arg1.view.read (Elt Ideal) X1) (arg2.view.read (Elt Ideal) X2) (stepOf i)) (p.1.emb x) := by
  unfold tripL_k0_t3 trip_k0_t3
  dsimp only
  sl_unfold_run_names
  intro p hp
  simp only [List.mem_cons, List.not_mem_nil, or_false] at hp
  have hk : k.val < 64 := Nat.lt_of_lt_of_le k.isLt k0_t3_abs.2.1
  rcases hp with rfl | rfl | rfl | rfl | rfl | rfl
  · intro x
    revert x
    show ∀ x : S1x1x4x128.Idx, _
    intro x
    idx_vars x
    have ex0 : x0 = 0 := Subsingleton.elim _ _
    have ex1 : x1 = 0 := Subsingleton.elim _ _
    subst ex0 ex1
    have e : (Rect.unit (s := S3x2x256x128) (k0_off23 k) S1x1x4x128.size (k0_off23_inb k)).emb (ix4 0 0 x2 x3) = ix4 (2 : Fin 3) (1 : Fin 2) ⟨4 * k.val + x2.val, by omega⟩ x3 :=
      emb_unit _ (k0_off23_eq k) _ _ (by show ∀ a : Fin 4, _; intro a; fin_cases a <;> simp [ix4])
    refine Eq.trans ?_ (congrArg (pooledOf (arg11.view.read (Elt Ideal) X11) (codeOf (arg1.view.read (Elt Ideal) X1) (arg2.view.read (Elt Ideal) X2) (stepOf i))) e.symm)
    refine (k0_pay95_apply _ _ _).trans ?_
    refine (pairPooled _ _ _ (stepOf i) ⟨k.val, hk⟩ _ _ _ _ _ _ ?_ ?_ ?_ ?_ ?_ ?_ 2 1 x2 x3)
    · intro g l; exact load_unit _ _ _ (k0_off14_eq k 0) _ _ (by show ∀ a : Fin 2, _; intro a; fin_cases a <;> simp [ix2])
    · intro g l; exact load_unit _ _ _ (k0_off14_eq k 1) _ _ (by show ∀ a : Fin 2, _; intro a; fin_cases a <;> simp [ix2])
    · exact load_unit _ _ _ (k0_off15_eq i k 0) _ _ (by show ∀ a : Fin 1, _; intro a; fin_cases a; simp [ix1, stepOf]; exact Nat.lt_one_iff.mp (Shape.Idx.first _ 0).isLt)
    · exact load_unit _ _ _ (k0_off15_eq i k 1) _ _ (by show ∀ a : Fin 1, _; intro a; fin_cases a; simp [ix1, stepOf]; exact Nat.lt_one_iff.mp (Shape.Idx.first _ 0).isLt)
    · intro r l; exact load_unit _ _ _ (k0_off16_eq k) _ _ (by show ∀ a : Fin 3, _; intro a; fin_cases a <;> simp [ix3])
    · intro r l; exact load_unit _ _ _ (k0_off17_eq k) _ _ (by show ∀ a : Fin 3, _; intro a; fin_cases a <;> simp [ix3])
  · intro x
    revert x
    show ∀ x : S1x1x4x128.Idx, _
    intro x
    idx_vars x
    have ex0 : x0 = 0 := Subsingleton.elim _ _
    have ex1 : x1 = 0 := Subsingleton.elim _ _
    subst ex0 ex1
    have e : (Rect.unit (s := S3x2x256x128) (k0_off22 k) S1x1x4x128.size (k0_off22_inb k)).emb (ix4 0 0 x2 x3) = ix4 (2 : Fin 3) (0 : Fin 2) ⟨4 * k.val + x2.val, by omega⟩ x3 :=
      emb_unit _ (k0_off22_eq k) _ _ (by show ∀ a : Fin 4, _; intro a; fin_cases a <;> simp [ix4])
    refine Eq.trans ?_ (congrArg (pooledOf (arg11.view.read (Elt Ideal) X11) (codeOf (arg1.view.read (Elt Ideal) X1) (arg2.view.read (Elt Ideal) X2) (stepOf i))) e.symm)
    refine (k0_pay94_apply _ _ _).trans ?_
    refine (pairPooled _ _ _ (stepOf i) ⟨k.val, hk⟩ _ _ _ _ _ _ ?_ ?_ ?_ ?_ ?_ ?_ 2 0 x2 x3)
    · intro g l; exact load_unit _ _ _ (k0_off14_eq k 0) _ _ (by show ∀ a : Fin 2, _; intro a; fin_cases a <;> simp [ix2])
    · intro g l; exact load_unit _ _ _ (k0_off14_eq k 1) _ _ (by show ∀ a : Fin 2, _; intro a; fin_cases a <;> simp [ix2])
    · exact load_unit _ _ _ (k0_off15_eq i k 0) _ _ (by show ∀ a : Fin 1, _; intro a; fin_cases a; simp [ix1, stepOf]; exact Nat.lt_one_iff.mp (Shape.Idx.first _ 0).isLt)
    · exact load_unit _ _ _ (k0_off15_eq i k 1) _ _ (by show ∀ a : Fin 1, _; intro a; fin_cases a; simp [ix1, stepOf]; exact Nat.lt_one_iff.mp (Shape.Idx.first _ 0).isLt)
    · intro r l; exact load_unit _ _ _ (k0_off16_eq k) _ _ (by show ∀ a : Fin 3, _; intro a; fin_cases a <;> simp [ix3])
    · intro r l; exact load_unit _ _ _ (k0_off17_eq k) _ _ (by show ∀ a : Fin 3, _; intro a; fin_cases a <;> simp [ix3])
  · intro x
    revert x
    show ∀ x : S1x1x4x128.Idx, _
    intro x
    idx_vars x
    have ex0 : x0 = 0 := Subsingleton.elim _ _
    have ex1 : x1 = 0 := Subsingleton.elim _ _
    subst ex0 ex1
    have e : (Rect.unit (s := S3x2x256x128) (k0_off21 k) S1x1x4x128.size (k0_off21_inb k)).emb (ix4 0 0 x2 x3) = ix4 (1 : Fin 3) (1 : Fin 2) ⟨4 * k.val + x2.val, by omega⟩ x3 :=
      emb_unit _ (k0_off21_eq k) _ _ (by show ∀ a : Fin 4, _; intro a; fin_cases a <;> simp [ix4])
    refine Eq.trans ?_ (congrArg (pooledOf (arg11.view.read (Elt Ideal) X11) (codeOf (arg1.view.read (Elt Ideal) X1) (arg2.view.read (Elt Ideal) X2) (stepOf i))) e.symm)
    refine (k0_pay93_apply _ _ _).trans ?_
    refine (pairPooled _ _ _ (stepOf i) ⟨k.val, hk⟩ _ _ _ _ _ _ ?_ ?_ ?_ ?_ ?_ ?_ 1 1 x2 x3)
    · intro g l; exact load_unit _ _ _ (k0_off14_eq k 0) _ _ (by show ∀ a : Fin 2, _; intro a; fin_cases a <;> simp [ix2])
    · intro g l; exact load_unit _ _ _ (k0_off14_eq k 1) _ _ (by show ∀ a : Fin 2, _; intro a; fin_cases a <;> simp [ix2])
    · exact load_unit _ _ _ (k0_off15_eq i k 0) _ _ (by show ∀ a : Fin 1, _; intro a; fin_cases a; simp [ix1, stepOf]; exact Nat.lt_one_iff.mp (Shape.Idx.first _ 0).isLt)
    · exact load_unit _ _ _ (k0_off15_eq i k 1) _ _ (by show ∀ a : Fin 1, _; intro a; fin_cases a; simp [ix1, stepOf]; exact Nat.lt_one_iff.mp (Shape.Idx.first _ 0).isLt)
    · intro r l; exact load_unit _ _ _ (k0_off16_eq k) _ _ (by show ∀ a : Fin 3, _; intro a; fin_cases a <;> simp [ix3])
    · intro r l; exact load_unit _ _ _ (k0_off17_eq k) _ _ (by show ∀ a : Fin 3, _; intro a; fin_cases a <;> simp [ix3])
  · intro x
    revert x
    show ∀ x : S1x1x4x128.Idx, _
    intro x
    idx_vars x
    have ex0 : x0 = 0 := Subsingleton.elim _ _
    have ex1 : x1 = 0 := Subsingleton.elim _ _
    subst ex0 ex1
    have e : (Rect.unit (s := S3x2x256x128) (k0_off20 k) S1x1x4x128.size (k0_off20_inb k)).emb (ix4 0 0 x2 x3) = ix4 (1 : Fin 3) (0 : Fin 2) ⟨4 * k.val + x2.val, by omega⟩ x3 :=
      emb_unit _ (k0_off20_eq k) _ _ (by show ∀ a : Fin 4, _; intro a; fin_cases a <;> simp [ix4])
    refine Eq.trans ?_ (congrArg (pooledOf (arg11.view.read (Elt Ideal) X11) (codeOf (arg1.view.read (Elt Ideal) X1) (arg2.view.read (Elt Ideal) X2) (stepOf i))) e.symm)
    refine (k0_pay92_apply _ _ _).trans ?_
    refine (pairPooled _ _ _ (stepOf i) ⟨k.val, hk⟩ _ _ _ _ _ _ ?_ ?_ ?_ ?_ ?_ ?_ 1 0 x2 x3)
    · intro g l; exact load_unit _ _ _ (k0_off14_eq k 0) _ _ (by show ∀ a : Fin 2, _; intro a; fin_cases a <;> simp [ix2])
    · intro g l; exact load_unit _ _ _ (k0_off14_eq k 1) _ _ (by show ∀ a : Fin 2, _; intro a; fin_cases a <;> simp [ix2])
    · exact load_unit _ _ _ (k0_off15_eq i k 0) _ _ (by show ∀ a : Fin 1, _; intro a; fin_cases a; simp [ix1, stepOf]; exact Nat.lt_one_iff.mp (Shape.Idx.first _ 0).isLt)
    · exact load_unit _ _ _ (k0_off15_eq i k 1) _ _ (by show ∀ a : Fin 1, _; intro a; fin_cases a; simp [ix1, stepOf]; exact Nat.lt_one_iff.mp (Shape.Idx.first _ 0).isLt)
    · intro r l; exact load_unit _ _ _ (k0_off16_eq k) _ _ (by show ∀ a : Fin 3, _; intro a; fin_cases a <;> simp [ix3])
    · intro r l; exact load_unit _ _ _ (k0_off17_eq k) _ _ (by show ∀ a : Fin 3, _; intro a; fin_cases a <;> simp [ix3])
  · intro x
    revert x
    show ∀ x : S1x1x4x128.Idx, _
    intro x
    idx_vars x
    have ex0 : x0 = 0 := Subsingleton.elim _ _
    have ex1 : x1 = 0 := Subsingleton.elim _ _
    subst ex0 ex1
    have e : (Rect.unit (s := S3x2x256x128) (k0_off19 k) S1x1x4x128.size (k0_off19_inb k)).emb (ix4 0 0 x2 x3) = ix4 (0 : Fin 3) (1 : Fin 2) ⟨4 * k.val + x2.val, by omega⟩ x3 :=
      emb_unit _ (k0_off19_eq k) _ _ (by show ∀ a : Fin 4, _; intro a; fin_cases a <;> simp [ix4])
    refine Eq.trans ?_ (congrArg (pooledOf (arg11.view.read (Elt Ideal) X11) (codeOf (arg1.view.read (Elt Ideal) X1) (arg2.view.read (Elt Ideal) X2) (stepOf i))) e.symm)
    refine (k0_pay76_apply _ _ _ _ _ _).trans ?_
    refine (pairPooled _ _ _ (stepOf i) ⟨k.val, hk⟩ _ _ _ _ _ _ ?_ ?_ ?_ ?_ ?_ ?_ 0 1 x2 x3)
    · intro g l; exact load_unit _ _ _ (k0_off14_eq k 0) _ _ (by show ∀ a : Fin 2, _; intro a; fin_cases a <;> simp [ix2])
    · intro g l; exact load_unit _ _ _ (k0_off14_eq k 1) _ _ (by show ∀ a : Fin 2, _; intro a; fin_cases a <;> simp [ix2])
    · exact load_unit _ _ _ (k0_off15_eq i k 0) _ _ (by show ∀ a : Fin 1, _; intro a; fin_cases a; simp [ix1, stepOf]; exact Nat.lt_one_iff.mp (Shape.Idx.first _ 0).isLt)
    · exact load_unit _ _ _ (k0_off15_eq i k 1) _ _ (by show ∀ a : Fin 1, _; intro a; fin_cases a; simp [ix1, stepOf]; exact Nat.lt_one_iff.mp (Shape.Idx.first _ 0).isLt)
    · intro r l; exact load_unit _ _ _ (k0_off16_eq k) _ _ (by show ∀ a : Fin 3, _; intro a; fin_cases a <;> simp [ix3])
    · intro r l; exact load_unit _ _ _ (k0_off17_eq k) _ _ (by show ∀ a : Fin 3, _; intro a; fin_cases a <;> simp [ix3])
  · intro x
    revert x
    show ∀ x : S1x1x4x128.Idx, _
    intro x
    idx_vars x
    have ex0 : x0 = 0 := Subsingleton.elim _ _
    have ex1 : x1 = 0 := Subsingleton.elim _ _
    subst ex0 ex1
    have e : (Rect.unit (s := S3x2x256x128) (k0_off18 k) S1x1x4x128.size (k0_off18_inb k)).emb (ix4 0 0 x2 x3) = ix4 (0 : Fin 3) (0 : Fin 2) ⟨4 * k.val + x2.val, by omega⟩ x3 :=
      emb_unit _ (k0_off18_eq k) _ _ (by show ∀ a : Fin 4, _; intro a; fin_cases a <;> simp [ix4])
    refine Eq.trans ?_ (congrArg (pooledOf (arg11.view.read (Elt Ideal) X11) (codeOf (arg1.view.read (Elt Ideal) X1) (arg2.view.read (Elt Ideal) X2) (stepOf i))) e.symm)
    refine (k0_pay75_apply _ _ _ _ _ _).trans ?_
    refine (pairPooled _ _ _ (stepOf i) ⟨k.val, hk⟩ _ _ _ _ _ _ ?_ ?_ ?_ ?_ ?_ ?_ 0 0 x2 x3)
    · intro g l; exact load_unit _ _ _ (k0_off14_eq k 0) _ _ (by show ∀ a : Fin 2, _; intro a; fin_cases a <;> simp [ix2])
    · intro g l; exact load_unit _ _ _ (k0_off14_eq k 1) _ _ (by show ∀ a : Fin 2, _; intro a; fin_cases a <;> simp [ix2])
    · exact load_unit _ _ _ (k0_off15_eq i k 0) _ _ (by show ∀ a : Fin 1, _; intro a; fin_cases a; simp [ix1, stepOf]; exact Nat.lt_one_iff.mp (Shape.Idx.first _ 0).isLt)
    · exact load_unit _ _ _ (k0_off15_eq i k 1) _ _ (by show ∀ a : Fin 1, _; intro a; fin_cases a; simp [ix1, stepOf]; exact Nat.lt_one_iff.mp (Shape.Idx.first _ 0).isLt)
    · intro r l; exact load_unit _ _ _ (k0_off16_eq k) _ _ (by show ∀ a : Fin 3, _; intro a; fin_cases a <;> simp [ix3])
    · intro r l; exact load_unit _ _ _ (k0_off17_eq k) _ _ (by show ∀ a : Fin 3, _; intro a; fin_cases a <;> simp [ix3])

/-- The scratch of pooled products after the third loop. -/
theorem loop3_pooled (𝒱 : Variants) (c : Dev nD) (bd : Option 𝒱.V) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole) (arg0 : BitVec 32) (v108 : IVec S16x128 32) (v112 : IVec S16x128 1) (v116 : IVec S16x128 1) (v118 : IVec S16x128 32) (c0 : BitVec 32)
    (X1 : BufTy.Contents (Elt Ideal) arg1.view.ty) (X2 : BufTy.Contents (Elt Ideal) arg2.view.ty) (X11 : BufTy.Contents (Elt Ideal) arg11.view.ty)
    (f : BufTy.Contents (Elt Ideal) arg12.view.ty) (y : S3x2x256x128.Idx) :
    arg12.view.read (Elt Ideal) (arg12.view.writes (Elt Ideal) f (pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 k0_pay84 k0_pay85 v108 v112 v116 v118 c0 X1 X2 X11 k0_t3_loop.trips)) y
      = pooledOf (arg11.view.read (Elt Ideal) X11) (codeOf (arg1.view.read (Elt Ideal) X1) (arg2.view.read (Elt Ideal) X2) (stepOf i)) y := by
  have hy : (y 2).val < 256 := (y 2).isLt
  have hk : (y 2).val / 4 < k0_t3_loop.trips := by have : k0_t3_loop.trips = 64 := by decide +kernel
                                                   omega
  refine read_loop arg12.view f (fun m => pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 k0_pay84 k0_pay85 v108 v112 v116 v118 c0 X1 X2 X11 m)
    (fun k => tripL_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 k0_pay84 k0_pay85 v108 v112 v116 v118 c0 X1 X2 X11 k) rfl (fun k => by
      show pb_k0_t3 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 k0_pay84 k0_pay85 v108 v112 v116 v118 c0 X1 X2 X11 (k.val + 1) = _
      rw [pb_k0_t3_succ]) _
    (fun k => t3_pooled 𝒱 c bd i arg1 harg1 arg2 harg2 arg3 harg3 arg4 harg4 arg5 harg5 arg6 harg6 arg7 harg7 arg8 harg8 arg9 harg9 arg10 harg10 arg11 harg11 arg12 harg12 arg13 harg13 arg14 harg14 arg0 v108 v112 v116 v118 c0 X1 X2 X11 k) y ⟨(y 2).val / 4, hk⟩ ?_
  unfold tripL_k0_t3 trip_k0_t3
  dsimp only
  idx_vars y
  obtain ⟨n, hn⟩ := y0
  obtain ⟨h, hh⟩ := y1
  simp only [List.exists_mem_cons_iff]
  interval_cases n <;> interval_cases h
  · right; right; right; right; right; left
    refine mem_unit (inb := k0_off18_inb _) _ (k0_off18_eq _) _ ?_
    show ∀ a : Fin 4, _; intro a; fin_cases a <;> simp [ix4] <;> omega
  · right; right; right; right; left
    refine mem_unit (inb := k0_off19_inb _) _ (k0_off19_eq _) _ ?_
    show ∀ a : Fin 4, _; intro a; fin_cases a <;> simp [ix4] <;> omega
  · right; right; right; left
    refine mem_unit (inb := k0_off20_inb _) _ (k0_off20_eq _) _ ?_
    show ∀ a : Fin 4, _; intro a; fin_cases a <;> simp [ix4] <;> omega
  · right; right; left
    refine mem_unit (inb := k0_off21_inb _) _ (k0_off21_eq _) _ ?_
    show ∀ a : Fin 4, _; intro a; fin_cases a <;> simp [ix4] <;> omega
  · right; left
    refine mem_unit (inb := k0_off22_inb _) _ (k0_off22_eq _) _ ?_
    show ∀ a : Fin 4, _; intro a; fin_cases a <;> simp [ix4] <;> omega
  · left
    refine mem_unit (inb := k0_off23_inb _) _ (k0_off23_eq _) _ ?_
    show ∀ a : Fin 4, _; intro a; fin_cases a <;> simp [ix4] <;> omega

end Cert.KernelIdeal.Hand
-- ==== Proof.Hand.ValueEnds.lean ====
/- The two ends of `proofs.«01_k».proof.KernelIdeal`: what they leave, in exact arithmetic. -/
module

public import proofs.«01_k».proof.Proof.Gen.KernelIdeal.Loops
public import proofs.«01_k».proof.Proof.Hand.ValueLoop2
public import proofs.«01_k».proof.Proof.Hand.ValueLoop3
public import proofs.«01_k».proof.Proof.Hand.KernelIdealBody

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.Sem

/-- The target's channels of block `n` at user `u`: the code in byte `n` of each word times the block's scale. -/
def qnOf (q : S128x128.Idx → BitVec 32) (j : S3x128x128.Idx) : EReal :=
  have hj : (j 0).val < 3 := (j 0).isLt
  FloatOps.ofBits (F := Ideal) .fp8e4m3 (byteOf (q (ix2 (j 1) (j 2)) &&& 16777215#32) (j 0).val)
    * FloatOps.ofBits (F := Ideal) .f32 ((q (ix2 (j 1) ⟨(j 0).val, by omega⟩) >>> 24) <<< 23)

theorem k0_pay77_apply (v : Vec Ideal S128x128 .i32) (a : Fin 512) (l : Fin 128) :
    k0_pay77 (F := Ideal) v (ix2 a l) = FloatOps.ofBits (F := Ideal) .fp8e4m3 (byteOf (v (ix2 ⟨a.val / 4, by omega⟩ l) &&& 16777215#32) (a.val % 4)) := by
  unfold k0_pay77
  pointwise
  rw [bitcast_32_8 (R := 512) (r := 128) (n := 128) _ _ _ _ (by omega)]
  rfl

theorem k0_pay78_apply (v : Vec Ideal S128x128 .i32) (a : Fin 128) (l : Fin 128) :
    k0_pay78 (F := Ideal) v (ix2 a l) = FloatOps.ofBits (F := Ideal) .f32 ((v (ix2 a l) >>> 24) <<< 23) := by
  unfold k0_pay78
  pointwise
  try rfl

theorem k0_pay79_apply (v : Vec Ideal S128x128 .i32) (x : Vec Ideal S128x128 .f32) (a l : Fin 128) :
    k0_pay79 (F := Ideal) v x (ix3 0 a l) = x (ix2 a l) * FloatOps.ofBits (F := Ideal) .f32 ((v (ix2 a 0) >>> 24) <<< 23) := by
  unfold k0_pay79
  pointwise [k0_pay78_apply]

theorem k0_pay80_apply (v : Vec Ideal S128x128 .i32) (x : Vec Ideal S128x128 .f32) (a l : Fin 128) :
    k0_pay80 (F := Ideal) v x (ix3 0 a l) = x (ix2 a l) * FloatOps.ofBits (F := Ideal) .f32 ((v (ix2 a 1) >>> 24) <<< 23) := by
  unfold k0_pay80
  pointwise [k0_pay78_apply]

theorem k0_pay82_apply (v : Vec Ideal S128x128 .i32) (x : Vec Ideal S128x128 .f32) (a l : Fin 128) :
    k0_pay82 (F := Ideal) (k0_pay81 v x) (ix3 0 a l) = x (ix2 a l) * FloatOps.ofBits (F := Ideal) .f32 ((v (ix2 a 2) >>> 24) <<< 23) := by
  unfold k0_pay82 k0_pay81
  pointwise [k0_pay78_apply]

/-- The lane groups: lane `l` belongs to group `l / 32`. -/
theorem k0_pay96_apply (r : Fin 64) (l : Fin 128) : k0_pay96 (ix2 r l) = BitVec.ofNat 32 (l.val / 32) := by
  pointwise [k0_pay96]
  revert r l
  decide +kernel

/-- Of four stretches, lane `l` takes the one numbered `l / 32`. -/
def pick4V (a0 a1 a2 a3 : Vec Ideal S1x1x64x128 .f32) : FVec Ideal S64x128 .f32 :=
  select (cmpi .eq k0_pay96 (broadcast S64x128 3#32)) (shapeCast S64x128 a3 shapeCasts_S1x1x64x128_S64x128)
    (select (cmpi .eq k0_pay96 (broadcast S64x128 2#32)) (shapeCast S64x128 a2 shapeCasts_S1x1x64x128_S64x128)
      (select (cmpi .eq k0_pay96 (broadcast S64x128 1#32)) (shapeCast S64x128 a1 shapeCasts_S1x1x64x128_S64x128)
        (shapeCast S64x128 a0 shapeCasts_S1x1x64x128_S64x128)))

/-- The four lane groups summed, every lane getting its sum. -/
def sum4V (x : FVec Ideal S64x128 .f32) : FVec Ideal S64x128 .f32 :=
  addf (addf x (dynamicRotate 1 32#32 none x rotates_S64x128_d1))
    (dynamicRotate 1 64#32 none (addf x (dynamicRotate 1 32#32 none x rotates_S64x128_d1)) rotates_S64x128_d1)

/-- Of three sums, lane `l` takes the one numbered `l / 32`. -/
def glueV (x0 x1 x2 : FVec Ideal S64x128 .f32) : FVec Ideal S64x128 .f32 :=
  select (cmpi .eq k0_pay96 (broadcast S64x128 2#32)) x2 (select (cmpi .eq k0_pay96 (broadcast S64x128 1#32)) x1 x0)

/-- The choice by a lane's group. -/
theorem sel_group {α : Type} (n m : ℕ) (hm : m < 4) (hn : n < 4) (a b : α) :
    Scalar.select (IntOp.cmpi .eq (BitVec.ofNat 32 m) (BitVec.ofNat 32 n)) a b = if m = n then a else b := by
  interval_cases n <;> interval_cases m <;> rfl

theorem pick4V_apply (a : Fin 4 → Vec Ideal S1x1x64x128 .f32) (r : Fin 64) (l : Fin 128) :
    pick4V (a 0) (a 1) (a 2) (a 3) (ix2 r l) = a ⟨l.val / 32, by omega⟩ (ix4 0 0 r l) := by
  unfold pick4V
  pointwise
  have hl : l.val / 32 < 4 := by omega
  have e : ∀ k : Fin 4, l.val / 32 = k.val → a k (ix4 0 0 r l) = a ⟨l.val / 32, hl⟩ (ix4 0 0 r l) := fun k hk => by
    rw [show (⟨l.val / 32, hl⟩ : Fin 4) = k from Fin.ext hk]
  rw [k0_pay96_apply, sel_group 3 _ hl (by omega), sel_group 2 _ hl (by omega), sel_group 1 _ hl (by omega)]
  split
  · exact e 3 ‹_›
  · split
    · exact e 2 ‹_›
    · split
      · exact e 1 ‹_›
      · exact e 0 (by show l.val / 32 = 0; omega)

theorem sum4V_apply (x : FVec Ideal S64x128 .f32) (r : Fin 64) (l : Fin 128) :
    sum4V x (ix2 r l) = ∑ k : Fin 4, (show EReal from x (ix2 r ⟨32 * k.val + l.val % 32, by omega⟩)) := by
  unfold sum4V
  pointwise
  have e : ∀ (m : ℕ) (hm : m < 128) (k : Fin 4), m = 32 * k.val + l.val % 32 → x (ix2 r ⟨m, hm⟩) = x (ix2 r ⟨32 * k.val + l.val % 32, by omega⟩) := by
    intro m hm k h
    subst h
    rfl
  rw [Fin.sum_univ_four]
  have el : x (ix2 r l) = x (ix2 r ⟨l.val, l.isLt⟩) := rfl
  rw [el]
  have h : l.val / 32 = 0 ∨ l.val / 32 = 1 ∨ l.val / 32 = 2 ∨ l.val / 32 = 3 := by omega
  rcases h with h | h | h | h
  · rw [e l.val l.isLt 0 (by show _ = 32 * 0 + _; omega), e ((l.val + 128 - 32) % 128) _ 3 (by show _ = 32 * 3 + _; omega), e ((l.val + 128 - 64) % 128) _ 2 (by show _ = 32 * 2 + _; omega), e (((l.val + 128 - 64) % 128 + 128 - 32) % 128) _ 1 (by show _ = 32 * 1 + _; omega)]
    abel
  · rw [e l.val l.isLt 1 (by show _ = 32 * 1 + _; omega), e ((l.val + 128 - 32) % 128) _ 0 (by show _ = 32 * 0 + _; omega), e ((l.val + 128 - 64) % 128) _ 3 (by show _ = 32 * 3 + _; omega), e (((l.val + 128 - 64) % 128 + 128 - 32) % 128) _ 2 (by show _ = 32 * 2 + _; omega)]
    abel
  · rw [e l.val l.isLt 2 (by show _ = 32 * 2 + _; omega), e ((l.val + 128 - 32) % 128) _ 1 (by show _ = 32 * 1 + _; omega), e ((l.val + 128 - 64) % 128) _ 0 (by show _ = 32 * 0 + _; omega), e (((l.val + 128 - 64) % 128 + 128 - 32) % 128) _ 3 (by show _ = 32 * 3 + _; omega)]
    abel
  · rw [e l.val l.isLt 3 (by show _ = 32 * 3 + _; omega), e ((l.val + 128 - 32) % 128) _ 2 (by show _ = 32 * 2 + _; omega), e ((l.val + 128 - 64) % 128) _ 1 (by show _ = 32 * 1 + _; omega), e (((l.val + 128 - 64) % 128 + 128 - 32) % 128) _ 0 (by show _ = 32 * 0 + _; omega)]
    abel

/-- The block that lane `l` of the summed rows holds. -/
def laneBlock (l : ℕ) : Fin 3 := if l / 32 = 2 then 2 else if l / 32 = 1 then 1 else 0

theorem glueV_apply (x : Fin 3 → FVec Ideal S64x128 .f32) (r : Fin 64) (l : Fin 128) :
    glueV (x 0) (x 1) (x 2) (ix2 r l) = x (laneBlock l.val) (ix2 r l) := by
  unfold glueV
  pointwise
  have hl : l.val / 32 < 4 := by omega
  rw [k0_pay96_apply, sel_group 2 _ hl (by omega), sel_group 1 _ hl (by omega)]
  unfold laneBlock
  split
  · rfl
  · split <;> rfl

/-- The rows of summed products: user `2p + u`, lane `l`. -/
def rowsOf (o : S3x2x256x128.Idx → EReal) (j : S128x128.Idx) : EReal :=
  have h0 : (j 0).val < 128 := (j 0).isLt
  ∑ k : Fin 4, o (ix4 (laneBlock (j 1).val) ⟨(j 0).val % 2, by omega⟩ ⟨4 * ((j 0).val / 2) + k.val, by omega⟩ ⟨32 * k.val + (j 1).val % 32, by omega⟩)

/-- The twelve strided stretches of a parity, chosen and summed. -/
theorem glue_apply (o : S3x2x256x128.Idx → EReal) (u : Fin 2) (L : Fin 3 → Fin 4 → Vec Ideal S1x1x64x128 .f32)
    (hL : ∀ (n : Fin 3) (k : Fin 4) (r : Fin 64) (l : Fin 128), L n k (ix4 0 0 r l) = o (ix4 n u ⟨4 * r.val + k.val, by omega⟩ l)) (r : Fin 64) (l : Fin 128) :
    glueV (sum4V (pick4V (L 0 0) (L 0 1) (L 0 2) (L 0 3))) (sum4V (pick4V (L 1 0) (L 1 1) (L 1 2) (L 1 3))) (sum4V (pick4V (L 2 0) (L 2 1) (L 2 2) (L 2 3))) (ix2 r l)
      = rowsOf o (ix2 ⟨2 * r.val + u.val, by omega⟩ l) := by
  refine (glueV_apply (fun n => sum4V (pick4V (L n 0) (L n 1) (L n 2) (L n 3))) r l).trans ?_
  show sum4V _ _ = ∑ k : Fin 4, o (ix4 (laneBlock l.val) ⟨(2 * r.val + u.val) % 2, _⟩ ⟨4 * ((2 * r.val + u.val) / 2) + k.val, _⟩ ⟨32 * k.val + l.val % 32, _⟩)
  rw [sum4V_apply]
  refine Finset.sum_congr rfl fun k _ => ?_
  rw [pick4V_apply (L (laneBlock l.val)), hL]
  have e1 : (⟨(2 * r.val + u.val) % 2, by omega⟩ : Fin 2) = u := Fin.ext (by show (2 * r.val + u.val) % 2 = u.val; omega)
  have e2 : (2 * r.val + u.val) / 2 = r.val := by omega
  have e3 : (32 * k.val + l.val % 32) / 32 = k.val := by omega
  simp only [e1, e2, e3]

/-- The prologue: the scratch of scaled target channels. -/
theorem pro_qn (arg4 : Memref sig .tc .vmem S128x128 .i32) (arg7 : Memref sig .tc .vmem S512x128 .f32) (arg8 : Memref sig .tc .vmem S3x128x128 .f32)
    (X4 : BufTy.Contents (Elt Ideal) arg4.view.ty) (f : BufTy.Contents (Elt Ideal) arg8.view.ty) (y : S3x128x128.Idx) :
    arg8.view.read (Elt Ideal) (arg8.view.writes (Elt Ideal) f (kernelRun.sl.H8_3 (F := Ideal) arg4 arg7 X4)) y = qnOf (arg4.view.read (Elt Ideal) X4) y := by
  have h8 : arg4.view.readAt (Elt Ideal) (Rect.unit (s := S128x128) ![0, 0] S128x128.size inb_S128x128_S128x128_0_0).toLoadRect X4 = arg4.view.read (Elt Ideal) X4 := by
    funext y
    idx_vars y
    exact load_unit _ _ _ rfl _ _ (by show ∀ a : Fin 2, _; intro a; fin_cases a <;> simp [ix2])
  have h7 : ∀ (a : Fin 512) (l : Fin 128), arg7.view.read (Elt Ideal) (arg7.view.writes (Elt Ideal) arg7.view.junk
      [⟨Rect.unit (s := S512x128) ![0, 0] S512x128.size inb_S512x128_S512x128_0_0, k0_pay77 (F := Ideal) (arg4.view.read (Elt Ideal) X4)⟩]) (ix2 a l) = k0_pay77 (F := Ideal) (arg4.view.read (Elt Ideal) X4) (ix2 a l) := by
    intro a l
    refine View.read_writes_apply_of_pieces (Val := Elt Ideal) arg7.view _ (k0_pay77 (F := Ideal) (arg4.view.read (Elt Ideal) X4)) _ ?_ _ ?_
    · intro p hp
      simp only [List.mem_cons, List.not_mem_nil, or_false] at hp
      subst hp
      show ∀ x : S512x128.Idx, _
      intro x
      idx_vars x
      refine congrArg (k0_pay77 (F := Ideal) (arg4.view.read (Elt Ideal) X4)) (Eq.symm ?_)
      exact emb_unit _ rfl _ _ (by show ∀ a : Fin 2, _; intro a; fin_cases a <;> simp [ix2])
    · refine ⟨_, List.mem_cons_self, ?_⟩
      refine mem_unit (inb := inb_S512x128_S512x128_0_0) _ rfl _ ?_
      show ∀ a : Fin 2, _; intro a; fin_cases a <;> simp [ix2]
  refine View.read_writes_apply_of_pieces (Val := Elt Ideal) arg8.view f (qnOf (arg4.view.read (Elt Ideal) X4)) _ ?_ y ?_
  · unfold kernelRun.sl.H8_3
    intro p hp
    simp only [List.mem_cons, List.not_mem_nil, or_false] at hp
    have hs : ∀ (n : Fin 4) (inb) (a l : Fin 128), arg7.view.readCov (Val := Elt Ideal) [⟨Rect.unit (s := S512x128) ![0, 0] S512x128.size inb_S512x128_S512x128_0_0, k0_pay77 (F := Ideal) (arg4.view.read (Elt Ideal) X4)⟩]
        (⟨![n.val, 0], S128x128.size, ![4, 1], inb⟩ : LoadRect S512x128) (ix2 a l) = k0_pay77 (F := Ideal) (arg4.view.read (Elt Ideal) X4) (ix2 ⟨4 * a.val + n.val, by omega⟩ l) := by
      intro n inb a l
      refine (load_strided arg7.view _ _ rfl _ (ix2 ⟨4 * a.val + n.val, by omega⟩ l) ?_).trans (h7 _ _)
      show ∀ a : Fin 2, _; intro a; fin_cases a <;> simp [ix2] <;> omega
    rcases hp with rfl | rfl | rfl
    · revert y
      intro _
      show ∀ x : S1x128x128.Idx, _
      intro x
      idx_vars x
      have ex0 : x0 = 0 := Subsingleton.elim _ _
      subst ex0
      have e : (Rect.unit (s := S3x128x128) ![2, 0, 0] S1x128x128.size inb_S3x128x128_S1x128x128_2_0_0).emb (ix3 0 x1 x2) = ix3 (2 : Fin 3) x1 x2 :=
        emb_unit _ rfl _ _ (by show ∀ a : Fin 3, _; intro a; fin_cases a <;> simp [ix3])
      refine Eq.trans ?_ (congrArg (qnOf (arg4.view.read (Elt Ideal) X4)) e.symm)
      refine (k0_pay82_apply _ _ x1 x2).trans ?_
      unfold qnOf
      have k := hs 2 inb_S512x128_S128x128_2_0_s_4_1 x1 x2
      rw [← h8] at k
      refine (congrArg (· * _) (k.trans (k0_pay77_apply _ _ _))).trans ?_
      rw [h8]
      have e1 : (⟨(4 * x1.val + (2 : Fin 4).val) / 4, by omega⟩ : Fin 128) = x1 := Fin.ext (by show (4 * x1.val + 2) / 4 = x1.val; omega)
      have e2 : (4 * x1.val + (2 : Fin 4).val) % 4 = 2 := by show (4 * x1.val + 2) % 4 = 2; omega
      show FloatOps.ofBits (F := Ideal) .fp8e4m3 (byteOf (arg4.view.read (Elt Ideal) X4 (ix2 ⟨(4 * x1.val + (2 : Fin 4).val) / 4, _⟩ x2) &&& 16777215#32) ((4 * x1.val + (2 : Fin 4).val) % 4)) * _ = _
      rw [e1, e2]
      rfl
    · revert y
      intro _
      show ∀ x : S1x128x128.Idx, _
      intro x
      idx_vars x
      have ex0 : x0 = 0 := Subsingleton.elim _ _
      subst ex0
      have e : (Rect.unit (s := S3x128x128) ![1, 0, 0] S1x128x128.size inb_S3x128x128_S1x128x128_1_0_0).emb (ix3 0 x1 x2) = ix3 (1 : Fin 3) x1 x2 :=
        emb_unit _ rfl _ _ (by show ∀ a : Fin 3, _; intro a; fin_cases a <;> simp [ix3])
      refine Eq.trans ?_ (congrArg (qnOf (arg4.view.read (Elt Ideal) X4)) e.symm)
      refine (k0_pay80_apply _ _ x1 x2).trans ?_
      unfold qnOf
      have k := hs 1 inb_S512x128_S128x128_1_0_s_4_1 x1 x2
      rw [← h8] at k
      refine (congrArg (· * _) (k.trans (k0_pay77_apply _ _ _))).trans ?_
      rw [h8]
      have e1 : (⟨(4 * x1.val + (1 : Fin 4).val) / 4, by omega⟩ : Fin 128) = x1 := Fin.ext (by show (4 * x1.val + 1) / 4 = x1.val; omega)
      have e2 : (4 * x1.val + (1 : Fin 4).val) % 4 = 1 := by show (4 * x1.val + 1) % 4 = 1; omega
      show FloatOps.ofBits (F := Ideal) .fp8e4m3 (byteOf (arg4.view.read (Elt Ideal) X4 (ix2 ⟨(4 * x1.val + (1 : Fin 4).val) / 4, _⟩ x2) &&& 16777215#32) ((4 * x1.val + (1 : Fin 4).val) % 4)) * _ = _
      rw [e1, e2]
      rfl
    · revert y
      intro _
      show ∀ x : S1x128x128.Idx, _
      intro x
      idx_vars x
      have ex0 : x0 = 0 := Subsingleton.elim _ _
      subst ex0
      have e : (Rect.unit (s := S3x128x128) ![0, 0, 0] S1x128x128.size inb_S3x128x128_S1x128x128_0_0_0).emb (ix3 0 x1 x2) = ix3 (0 : Fin 3) x1 x2 :=
        emb_unit _ rfl _ _ (by show ∀ a : Fin 3, _; intro a; fin_cases a <;> simp [ix3])
      refine Eq.trans ?_ (congrArg (qnOf (arg4.view.read (Elt Ideal) X4)) e.symm)
      refine (k0_pay79_apply _ _ x1 x2).trans ?_
      unfold qnOf
      have k := hs 0 inb_S512x128_S128x128_0_0_s_4_1 x1 x2
      rw [← h8] at k
      refine (congrArg (· * _) (k.trans (k0_pay77_apply _ _ _))).trans ?_
      rw [h8]
      have e1 : (⟨(4 * x1.val + (0 : Fin 4).val) / 4, by omega⟩ : Fin 128) = x1 := Fin.ext (by show (4 * x1.val + 0) / 4 = x1.val; omega)
      have e2 : (4 * x1.val + (0 : Fin 4).val) % 4 = 0 := by show (4 * x1.val + 0) % 4 = 0; omega
      show FloatOps.ofBits (F := Ideal) .fp8e4m3 (byteOf (arg4.view.read (Elt Ideal) X4 (ix2 ⟨(4 * x1.val + (0 : Fin 4).val) / 4, _⟩ x2) &&& 16777215#32) ((4 * x1.val + (0 : Fin 4).val) % 4)) * _ = _
      rw [e1, e2]
      rfl
  · unfold kernelRun.sl.H8_3
    idx_vars y
    obtain ⟨n, hn⟩ := y0
    simp only [List.exists_mem_cons_iff]
    interval_cases n
    · right; right; left
      refine mem_unit (inb := inb_S3x128x128_S1x128x128_0_0_0) _ rfl _ ?_
      show ∀ a : Fin 3, _; intro a; fin_cases a <;> simp [ix3] <;> omega
    · right; left
      refine mem_unit (inb := inb_S3x128x128_S1x128x128_1_0_0) _ rfl _ ?_
      show ∀ a : Fin 3, _; intro a; fin_cases a <;> simp [ix3] <;> omega
    · left
      refine mem_unit (inb := inb_S3x128x128_S1x128x128_2_0_0) _ rfl _ ?_
      show ∀ a : Fin 3, _; intro a; fin_cases a <;> simp [ix3] <;> omega

end Cert.KernelIdeal.Hand
-- ==== Proof.Hand.ValueTail.lean ====
/- The two ends of `proofs.«01_k».proof.KernelIdeal`: what they leave, in exact arithmetic. -/
module

public import proofs.«01_k».proof.Proof.Gen.KernelIdeal.Loops
public import proofs.«01_k».proof.Proof.Hand.ValueEnds
public import proofs.«01_k».proof.Proof.Hand.ValueLoop3
public import proofs.«01_k».proof.Proof.Hand.KernelIdealBody

@[expose] public section

set_option maxRecDepth 8192
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.Sem

theorem name77 : kernelRun.sl.v77 = k0_pay84 := rfl
theorem name108 : kernelRun.sl.v108 = lanesV := rfl
theorem name83 : cmpi .eq kernelRun.sl.v60 kernelRun.sl.v35 = k0_pay83 := rfl
theorem trips1 : Scf.trips k0_t1_loop.lb k0_t1_loop.ub k0_t1_loop.st = k0_t1_loop.trips := rfl
theorem trips2 : Scf.trips k0_t2_loop.lb k0_t2_loop.ub k0_t2_loop.st = k0_t2_loop.trips := rfl
theorem trips31 : k0_t3_loop.trips = k0_t1_loop.trips := rfl

/-- The rows of the block's pooled channels: channel `32n + 4r + i` is lane `32n + 8i + r` of the summed rows. -/
def pooledRows (g : S128x128.Idx → EReal) (j : S96x128.Idx) : EReal :=
  have h0 : (j 0).val < 96 := (j 0).isLt
  g (ix2 (j 1) ⟨32 * ((j 0).val / 32) + 8 * ((j 0).val % 4) + (j 0).val % 32 / 4, by omega⟩)

theorem k0_pay112_apply (v : Vec Ideal S128x128 .f32) (r : Fin 8) (l : Fin 128) : k0_pay112 (F := Ideal) v (ix2 r l) = v (ix2 l ⟨0 + r.val, by omega⟩) := by
  unfold k0_pay112 k0_pay111
  pointwise
theorem k0_pay113_apply (v : Vec Ideal S128x128 .f32) (r : Fin 8) (l : Fin 128) : k0_pay113 (F := Ideal) v (ix2 r l) = v (ix2 l ⟨8 + r.val, by omega⟩) := by
  unfold k0_pay113 k0_pay111
  pointwise
theorem k0_pay114_apply (v : Vec Ideal S128x128 .f32) (r : Fin 8) (l : Fin 128) : k0_pay114 (F := Ideal) v (ix2 r l) = v (ix2 l ⟨16 + r.val, by omega⟩) := by
  unfold k0_pay114 k0_pay111
  pointwise
theorem k0_pay115_apply (v : Vec Ideal S128x128 .f32) (r : Fin 8) (l : Fin 128) : k0_pay115 (F := Ideal) v (ix2 r l) = v (ix2 l ⟨24 + r.val, by omega⟩) := by
  unfold k0_pay115 k0_pay111
  pointwise
theorem k0_pay117_apply (v : Vec Ideal S128x128 .f32) (r : Fin 8) (l : Fin 128) : k0_pay117 (F := Ideal) (k0_pay116 v) (ix2 r l) = v (ix2 l ⟨32 + r.val, by omega⟩) := by
  unfold k0_pay117 k0_pay116 k0_pay111
  pointwise
theorem k0_pay118_apply (v : Vec Ideal S128x128 .f32) (r : Fin 8) (l : Fin 128) : k0_pay118 (F := Ideal) (k0_pay111 v) (ix2 r l) = v (ix2 l ⟨40 + r.val, by omega⟩) := by
  unfold k0_pay118 k0_pay111
  pointwise
theorem k0_pay119_apply (v : Vec Ideal S128x128 .f32) (r : Fin 8) (l : Fin 128) : k0_pay119 (F := Ideal) (k0_pay111 v) (ix2 r l) = v (ix2 l ⟨48 + r.val, by omega⟩) := by
  unfold k0_pay119 k0_pay111
  pointwise
theorem k0_pay120_apply (v : Vec Ideal S128x128 .f32) (r : Fin 8) (l : Fin 128) : k0_pay120 (F := Ideal) (k0_pay111 v) (ix2 r l) = v (ix2 l ⟨56 + r.val, by omega⟩) := by
  unfold k0_pay120 k0_pay111
  pointwise
theorem k0_pay121_apply (v : Vec Ideal S128x128 .f32) (r : Fin 8) (l : Fin 128) : k0_pay121 (F := Ideal) (k0_pay111 v) (ix2 r l) = v (ix2 l ⟨64 + r.val, by omega⟩) := by
  unfold k0_pay121 k0_pay111
  pointwise
theorem k0_pay122_apply (v : Vec Ideal S128x128 .f32) (r : Fin 8) (l : Fin 128) : k0_pay122 (F := Ideal) (k0_pay111 v) (ix2 r l) = v (ix2 l ⟨72 + r.val, by omega⟩) := by
  unfold k0_pay122 k0_pay111
  pointwise
theorem k0_pay123_apply (v : Vec Ideal S128x128 .f32) (r : Fin 8) (l : Fin 128) : k0_pay123 (F := Ideal) (k0_pay111 v) (ix2 r l) = v (ix2 l ⟨80 + r.val, by omega⟩) := by
  unfold k0_pay123 k0_pay111
  pointwise
theorem k0_pay124_apply (v : Vec Ideal S128x128 .f32) (r : Fin 8) (l : Fin 128) : k0_pay124 (F := Ideal) (k0_pay111 v) (ix2 r l) = v (ix2 l ⟨88 + r.val, by omega⟩) := by
  unfold k0_pay124 k0_pay111
  pointwise
/-- The stretches of products that the end of the body loads. -/
def prodL (arg12 : Memref sig .tc .vmem S3x2x256x128 .f32) (X12 : BufTy.Contents (Elt Ideal) arg12.view.ty) : Fin 2 → Fin 3 → Fin 4 → Vec Ideal S1x1x64x128 .f32
  | 0, 0, 0 => arg12.view.readAt (Elt Ideal) (⟨![0, 0, 0, 0], S1x1x64x128.size, ![1, 1, 4, 1], inb_S3x2x256x128_S1x1x64x128_0_0_0_0_s_1_1_4_1⟩ : LoadRect S3x2x256x128) X12
  | 0, 0, 1 => arg12.view.readAt (Elt Ideal) (⟨![0, 0, 1, 0], S1x1x64x128.size, ![1, 1, 4, 1], inb_S3x2x256x128_S1x1x64x128_0_0_1_0_s_1_1_4_1⟩ : LoadRect S3x2x256x128) X12
  | 0, 0, 2 => arg12.view.readAt (Elt Ideal) (⟨![0, 0, 2, 0], S1x1x64x128.size, ![1, 1, 4, 1], inb_S3x2x256x128_S1x1x64x128_0_0_2_0_s_1_1_4_1⟩ : LoadRect S3x2x256x128) X12
  | 0, 0, 3 => arg12.view.readAt (Elt Ideal) (⟨![0, 0, 3, 0], S1x1x64x128.size, ![1, 1, 4, 1], inb_S3x2x256x128_S1x1x64x128_0_0_3_0_s_1_1_4_1⟩ : LoadRect S3x2x256x128) X12
  | 0, 1, 0 => arg12.view.readAt (Elt Ideal) (⟨![1, 0, 0, 0], S1x1x64x128.size, ![1, 1, 4, 1], inb_S3x2x256x128_S1x1x64x128_1_0_0_0_s_1_1_4_1⟩ : LoadRect S3x2x256x128) X12
  | 0, 1, 1 => arg12.view.readAt (Elt Ideal) (⟨![1, 0, 1, 0], S1x1x64x128.size, ![1, 1, 4, 1], inb_S3x2x256x128_S1x1x64x128_1_0_1_0_s_1_1_4_1⟩ : LoadRect S3x2x256x128) X12
  | 0, 1, 2 => arg12.view.readAt (Elt Ideal) (⟨![1, 0, 2, 0], S1x1x64x128.size, ![1, 1, 4, 1], inb_S3x2x256x128_S1x1x64x128_1_0_2_0_s_1_1_4_1⟩ : LoadRect S3x2x256x128) X12
  | 0, 1, 3 => arg12.view.readAt (Elt Ideal) (⟨![1, 0, 3, 0], S1x1x64x128.size, ![1, 1, 4, 1], inb_S3x2x256x128_S1x1x64x128_1_0_3_0_s_1_1_4_1⟩ : LoadRect S3x2x256x128) X12
  | 0, 2, 0 => arg12.view.readAt (Elt Ideal) (⟨![2, 0, 0, 0], S1x1x64x128.size, ![1, 1, 4, 1], inb_S3x2x256x128_S1x1x64x128_2_0_0_0_s_1_1_4_1⟩ : LoadRect S3x2x256x128) X12
  | 0, 2, 1 => arg12.view.readAt (Elt Ideal) (⟨![2, 0, 1, 0], S1x1x64x128.size, ![1, 1, 4, 1], inb_S3x2x256x128_S1x1x64x128_2_0_1_0_s_1_1_4_1⟩ : LoadRect S3x2x256x128) X12
  | 0, 2, 2 => arg12.view.readAt (Elt Ideal) (⟨![2, 0, 2, 0], S1x1x64x128.size, ![1, 1, 4, 1], inb_S3x2x256x128_S1x1x64x128_2_0_2_0_s_1_1_4_1⟩ : LoadRect S3x2x256x128) X12
  | 0, 2, 3 => arg12.view.readAt (Elt Ideal) (⟨![2, 0, 3, 0], S1x1x64x128.size, ![1, 1, 4, 1], inb_S3x2x256x128_S1x1x64x128_2_0_3_0_s_1_1_4_1⟩ : LoadRect S3x2x256x128) X12
  | 1, 0, 0 => arg12.view.readAt (Elt Ideal) (⟨![0, 1, 0, 0], S1x1x64x128.size, ![1, 1, 4, 1], inb_S3x2x256x128_S1x1x64x128_0_1_0_0_s_1_1_4_1⟩ : LoadRect S3x2x256x128) X12
  | 1, 0, 1 => arg12.view.readAt (Elt Ideal) (⟨![0, 1, 1, 0], S1x1x64x128.size, ![1, 1, 4, 1], inb_S3x2x256x128_S1x1x64x128_0_1_1_0_s_1_1_4_1⟩ : LoadRect S3x2x256x128) X12
  | 1, 0, 2 => arg12.view.readAt (Elt Ideal) (⟨![0, 1, 2, 0], S1x1x64x128.size, ![1, 1, 4, 1], inb_S3x2x256x128_S1x1x64x128_0_1_2_0_s_1_1_4_1⟩ : LoadRect S3x2x256x128) X12
  | 1, 0, 3 => arg12.view.readAt (Elt Ideal) (⟨![0, 1, 3, 0], S1x1x64x128.size, ![1, 1, 4, 1], inb_S3x2x256x128_S1x1x64x128_0_1_3_0_s_1_1_4_1⟩ : LoadRect S3x2x256x128) X12
  | 1, 1, 0 => arg12.view.readAt (Elt Ideal) (⟨![1, 1, 0, 0], S1x1x64x128.size, ![1, 1, 4, 1], inb_S3x2x256x128_S1x1x64x128_1_1_0_0_s_1_1_4_1⟩ : LoadRect S3x2x256x128) X12
  | 1, 1, 1 => arg12.view.readAt (Elt Ideal) (⟨![1, 1, 1, 0], S1x1x64x128.size, ![1, 1, 4, 1], inb_S3x2x256x128_S1x1x64x128_1_1_1_0_s_1_1_4_1⟩ : LoadRect S3x2x256x128) X12
  | 1, 1, 2 => arg12.view.readAt (Elt Ideal) (⟨![1, 1, 2, 0], S1x1x64x128.size, ![1, 1, 4, 1], inb_S3x2x256x128_S1x1x64x128_1_1_2_0_s_1_1_4_1⟩ : LoadRect S3x2x256x128) X12
  | 1, 1, 3 => arg12.view.readAt (Elt Ideal) (⟨![1, 1, 3, 0], S1x1x64x128.size, ![1, 1, 4, 1], inb_S3x2x256x128_S1x1x64x128_1_1_3_0_s_1_1_4_1⟩ : LoadRect S3x2x256x128) X12
  | 1, 2, 0 => arg12.view.readAt (Elt Ideal) (⟨![2, 1, 0, 0], S1x1x64x128.size, ![1, 1, 4, 1], inb_S3x2x256x128_S1x1x64x128_2_1_0_0_s_1_1_4_1⟩ : LoadRect S3x2x256x128) X12
  | 1, 2, 1 => arg12.view.readAt (Elt Ideal) (⟨![2, 1, 1, 0], S1x1x64x128.size, ![1, 1, 4, 1], inb_S3x2x256x128_S1x1x64x128_2_1_1_0_s_1_1_4_1⟩ : LoadRect S3x2x256x128) X12
  | 1, 2, 2 => arg12.view.readAt (Elt Ideal) (⟨![2, 1, 2, 0], S1x1x64x128.size, ![1, 1, 4, 1], inb_S3x2x256x128_S1x1x64x128_2_1_2_0_s_1_1_4_1⟩ : LoadRect S3x2x256x128) X12
  | 1, 2, 3 => arg12.view.readAt (Elt Ideal) (⟨![2, 1, 3, 0], S1x1x64x128.size, ![1, 1, 4, 1], inb_S3x2x256x128_S1x1x64x128_2_1_3_0_s_1_1_4_1⟩ : LoadRect S3x2x256x128) X12

theorem prodL_apply (arg12 : Memref sig .tc .vmem S3x2x256x128 .f32) (X12 : BufTy.Contents (Elt Ideal) arg12.view.ty) (u : Fin 2) (n : Fin 3) (k : Fin 4) (r : Fin 64) (l : Fin 128) :
    prodL arg12 X12 u n k (ix4 0 0 r l) = arg12.view.read (Elt Ideal) X12 (ix4 n u ⟨4 * r.val + k.val, by omega⟩ l) := by
  fin_cases u <;> fin_cases n <;> fin_cases k <;>
    exact load_strided _ _ _ rfl _ _ (by show ∀ a : Fin 4, _; intro a; fin_cases a <;> simp [ix4] <;> omega)

/-- The summed rows of the users of a parity. -/
def glueL (arg12 : Memref sig .tc .vmem S3x2x256x128 .f32) (X12 : BufTy.Contents (Elt Ideal) arg12.view.ty) (u : Fin 2) : FVec Ideal S64x128 .f32 :=
  glueV (sum4V (pick4V (prodL arg12 X12 u 0 0) (prodL arg12 X12 u 0 1) (prodL arg12 X12 u 0 2) (prodL arg12 X12 u 0 3))) (sum4V (pick4V (prodL arg12 X12 u 1 0) (prodL arg12 X12 u 1 1) (prodL arg12 X12 u 1 2) (prodL arg12 X12 u 1 3))) (sum4V (pick4V (prodL arg12 X12 u 2 0) (prodL arg12 X12 u 2 1) (prodL arg12 X12 u 2 2) (prodL arg12 X12 u 2 3)))

theorem glueL_apply (arg12 : Memref sig .tc .vmem S3x2x256x128 .f32) (X12 : BufTy.Contents (Elt Ideal) arg12.view.ty) (o : S3x2x256x128.Idx → EReal)
    (ho : ∀ y, arg12.view.read (Elt Ideal) X12 y = o y) (u : Fin 2) (r : Fin 64) (l : Fin 128) :
    glueL arg12 X12 u (ix2 r l) = rowsOf o (ix2 ⟨2 * r.val + u.val, by omega⟩ l) :=
  glue_apply o u (prodL arg12 X12 u) (fun n k r l => (prodL_apply arg12 X12 u n k r l).trans (ho _)) r l

/-- The glued rows of parity 0, as the end of the body forms them. -/
theorem glueEq0 (a : Fin 3 → Fin 4 → Vec Ideal S1x1x64x128 .f32) : k0_pay103 (F := Ideal) (k0_pay102 k0_pay96 (k0_pay98 k0_pay96 (k0_pay97 (a 0 0) (a 0 1)) (a 0 2) (a 0 3)) (k0_pay99 k0_pay96 (a 1 0) (a 1 1) (a 1 2)) (k0_pay100 (a 1 3)) (k0_pay101 k0_pay96) (a 2 0) (a 2 1) (a 2 2) (a 2 3)) = glueV (sum4V (pick4V (a 0 0) (a 0 1) (a 0 2) (a 0 3))) (sum4V (pick4V (a 1 0) (a 1 1) (a 1 2) (a 1 3))) (sum4V (pick4V (a 2 0) (a 2 1) (a 2 2) (a 2 3))) := by
  unfold k0_pay103 k0_pay102 k0_pay98 k0_pay97 k0_pay99 k0_pay100 k0_pay101
  dsimp only
  rw [shapeCast_self]
  rfl

/-- The glued rows of parity 1, as the end of the body forms them. -/
theorem glueEq1 (a : Fin 3 → Fin 4 → Vec Ideal S1x1x64x128 .f32) : k0_pay110 (F := Ideal) k0_pay96 (k0_pay108 k0_pay96 (k0_pay104 k0_pay96 (a 0 0) (a 0 1) (a 0 2) (a 0 3)) (k0_pay105 (a 1 0)) (k0_pay106 (a 1 1)) (k0_pay107 k0_pay96) (a 1 2) (a 1 3)) (k0_pay109 k0_pay96 (a 2 0) (a 2 1) (a 2 2)) (a 2 3) = glueV (sum4V (pick4V (a 0 0) (a 0 1) (a 0 2) (a 0 3))) (sum4V (pick4V (a 1 0) (a 1 1) (a 1 2) (a 1 3))) (sum4V (pick4V (a 2 0) (a 2 1) (a 2 2) (a 2 3))) := by
  unfold k0_pay110 k0_pay108 k0_pay104 k0_pay105 k0_pay106 k0_pay107 k0_pay109
  dsimp only
  rw [shapeCast_self]
  rfl

/-- The end's pieces as the glued rows. -/
theorem glue1 (c : Dev nD) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) :
    k0_pay110 (F := Ideal) k0_pay96 (kernelRun.sl.r_10 c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 f9 f10 f11 f12) (kernelRun.sl.r_11 c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 f9 f10 f11 f12) (kernelRun.sl.v275 c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 f9 f10 f11 f12)
      = glueL arg12 (arg12.view.writes (Elt Ideal) f12 (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay84 k0_pay85 lanesV k0_pay88 k0_pay89 k0_pay90 0#32 X1 X2 (arg11.view.writes (Elt Ideal) f11 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay84 k0_pay85 lanesV k0_pay88 k0_pay89 k0_pay90 0#32 X3 (arg9.view.writes (Elt Ideal) f9 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay83 k0_pay84 X1 X2 (arg8.view.writes (Elt Ideal) arg8.view.junk (kernelRun.sl.H8_3 (F := Ideal) arg4 arg7 X4)) k0_t1_loop.trips).1) (arg10.view.writes (Elt Ideal) f10 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay83 k0_pay84 X1 X2 (arg8.view.writes (Elt Ideal) arg8.view.junk (kernelRun.sl.H8_3 (F := Ideal) arg4 arg7 X4)) k0_t1_loop.trips).2) k0_t2_loop.trips).2) k0_t3_loop.trips)) 1 := by
  (try unfold kernelRun.sl.r_10); (try unfold kernelRun.sl.r_11); (try unfold kernelRun.sl.r_5); (try unfold kernelRun.sl.r_9); (try unfold kernelRun.sl.r_8); (try unfold kernelRun.sl.r_7); (try unfold kernelRun.sl.r_6); (try unfold kernelRun.sl.r_4); (try unfold kernelRun.sl.r_3); (try unfold kernelRun.sl.r_2); (try unfold kernelRun.sl.r_1); (try unfold kernelRun.sl.v146); (try unfold kernelRun.sl.v148); (try unfold kernelRun.sl.v153); (try unfold kernelRun.sl.v158); (try unfold kernelRun.sl.v167); (try unfold kernelRun.sl.v169); (try unfold kernelRun.sl.v174); (try unfold kernelRun.sl.v179); (try unfold kernelRun.sl.v191); (try unfold kernelRun.sl.v193); (try unfold kernelRun.sl.v198); (try unfold kernelRun.sl.v203); (try unfold kernelRun.sl.v218); (try unfold kernelRun.sl.v220); (try unfold kernelRun.sl.v225); (try unfold kernelRun.sl.v230); (try unfold kernelRun.sl.v239); (try unfold kernelRun.sl.v241); (try unfold kernelRun.sl.v246); (try unfold kernelRun.sl.v251); (try unfold kernelRun.sl.v263); (try unfold kernelRun.sl.v265); (try unfold kernelRun.sl.v270); (try unfold kernelRun.sl.v275)
  rw [name77, name108, name83, trips1, trips2, trips31]
  generalize hX : arg12.view.writes (Elt Ideal) f12 (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay84 k0_pay85 lanesV k0_pay88 k0_pay89 k0_pay90 0#32 X1 X2 (arg11.view.writes (Elt Ideal) f11 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay84 k0_pay85 lanesV k0_pay88 k0_pay89 k0_pay90 0#32 X3 (arg9.view.writes (Elt Ideal) f9 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay83 k0_pay84 X1 X2 (arg8.view.writes (Elt Ideal) arg8.view.junk (kernelRun.sl.H8_3 (F := Ideal) arg4 arg7 X4)) k0_t1_loop.trips).1) (arg10.view.writes (Elt Ideal) f10 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay83 k0_pay84 X1 X2 (arg8.view.writes (Elt Ideal) arg8.view.junk (kernelRun.sl.H8_3 (F := Ideal) arg4 arg7 X4)) k0_t1_loop.trips).2) k0_t2_loop.trips).2) k0_t1_loop.trips) = X12
  exact glueEq1 (prodL arg12 X12 1)

theorem glue0 (c : Dev nD) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) :
    k0_pay103 (F := Ideal) (kernelRun.sl.r_5 c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 f9 f10 f11 f12)
      = glueL arg12 (arg12.view.writes (Elt Ideal) f12 (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay84 k0_pay85 lanesV k0_pay88 k0_pay89 k0_pay90 0#32 X1 X2 (arg11.view.writes (Elt Ideal) f11 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay84 k0_pay85 lanesV k0_pay88 k0_pay89 k0_pay90 0#32 X3 (arg9.view.writes (Elt Ideal) f9 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay83 k0_pay84 X1 X2 (arg8.view.writes (Elt Ideal) arg8.view.junk (kernelRun.sl.H8_3 (F := Ideal) arg4 arg7 X4)) k0_t1_loop.trips).1) (arg10.view.writes (Elt Ideal) f10 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay83 k0_pay84 X1 X2 (arg8.view.writes (Elt Ideal) arg8.view.junk (kernelRun.sl.H8_3 (F := Ideal) arg4 arg7 X4)) k0_t1_loop.trips).2) k0_t2_loop.trips).2) k0_t3_loop.trips)) 0 := by
  (try unfold kernelRun.sl.r_10); (try unfold kernelRun.sl.r_11); (try unfold kernelRun.sl.r_5); (try unfold kernelRun.sl.r_9); (try unfold kernelRun.sl.r_8); (try unfold kernelRun.sl.r_7); (try unfold kernelRun.sl.r_6); (try unfold kernelRun.sl.r_4); (try unfold kernelRun.sl.r_3); (try unfold kernelRun.sl.r_2); (try unfold kernelRun.sl.r_1); (try unfold kernelRun.sl.v146); (try unfold kernelRun.sl.v148); (try unfold kernelRun.sl.v153); (try unfold kernelRun.sl.v158); (try unfold kernelRun.sl.v167); (try unfold kernelRun.sl.v169); (try unfold kernelRun.sl.v174); (try unfold kernelRun.sl.v179); (try unfold kernelRun.sl.v191); (try unfold kernelRun.sl.v193); (try unfold kernelRun.sl.v198); (try unfold kernelRun.sl.v203); (try unfold kernelRun.sl.v218); (try unfold kernelRun.sl.v220); (try unfold kernelRun.sl.v225); (try unfold kernelRun.sl.v230); (try unfold kernelRun.sl.v239); (try unfold kernelRun.sl.v241); (try unfold kernelRun.sl.v246); (try unfold kernelRun.sl.v251); (try unfold kernelRun.sl.v263); (try unfold kernelRun.sl.v265); (try unfold kernelRun.sl.v270); (try unfold kernelRun.sl.v275)
  rw [name77, name108, name83, trips1, trips2, trips31]
  generalize hX : arg12.view.writes (Elt Ideal) f12 (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay84 k0_pay85 lanesV k0_pay88 k0_pay89 k0_pay90 0#32 X1 X2 (arg11.view.writes (Elt Ideal) f11 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay84 k0_pay85 lanesV k0_pay88 k0_pay89 k0_pay90 0#32 X3 (arg9.view.writes (Elt Ideal) f9 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay83 k0_pay84 X1 X2 (arg8.view.writes (Elt Ideal) arg8.view.junk (kernelRun.sl.H8_3 (F := Ideal) arg4 arg7 X4)) k0_t1_loop.trips).1) (arg10.view.writes (Elt Ideal) f10 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay83 k0_pay84 X1 X2 (arg8.view.writes (Elt Ideal) arg8.view.junk (kernelRun.sl.H8_3 (F := Ideal) arg4 arg7 X4)) k0_t1_loop.trips).2) k0_t2_loop.trips).2) k0_t1_loop.trips) = X12
  exact glueEq0 (prodL arg12 X12 0)

/-- The scratch of summed rows. -/
theorem tail13 (c : Dev nD) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (o : S3x2x256x128.Idx → EReal) (ho : ∀ y, arg12.view.read (Elt Ideal) (arg12.view.writes (Elt Ideal) f12 (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay84 k0_pay85 lanesV k0_pay88 k0_pay89 k0_pay90 0#32 X1 X2 (arg11.view.writes (Elt Ideal) f11 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay84 k0_pay85 lanesV k0_pay88 k0_pay89 k0_pay90 0#32 X3 (arg9.view.writes (Elt Ideal) f9 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay83 k0_pay84 X1 X2 (arg8.view.writes (Elt Ideal) arg8.view.junk (kernelRun.sl.H8_3 (F := Ideal) arg4 arg7 X4)) k0_t1_loop.trips).1) (arg10.view.writes (Elt Ideal) f10 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay83 k0_pay84 X1 X2 (arg8.view.writes (Elt Ideal) arg8.view.junk (kernelRun.sl.H8_3 (F := Ideal) arg4 arg7 X4)) k0_t1_loop.trips).2) k0_t2_loop.trips).2) k0_t3_loop.trips)) y = o y) (y : S128x128.Idx) :
    arg13.view.read (Elt Ideal) (arg13.view.writes (Elt Ideal) f13 (kernelRun.sl.H13_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 f9 f10 f11 f12)) y = rowsOf o y := by
  refine View.read_writes_apply_of_pieces (Val := Elt Ideal) arg13.view f13 (rowsOf o) _ ?_ y ?_
  · unfold kernelRun.sl.H13_2
    intro p hp
    simp only [List.mem_cons, List.not_mem_nil, or_false] at hp
    rcases hp with rfl | rfl
    · show ∀ x : S64x128.Idx, _
      intro x
      idx_vars x
      have e : (⟨(⟨![1, 0], S64x128.size, ![2, 1], inb_S128x128_S64x128_1_0_s_2_1⟩ : LoadRect S128x128), spos_2_1⟩ : Rect S128x128).emb (ix2 x0 x1) = ix2 ⟨2 * x0.val + (1 : Fin 2).val, by omega⟩ x1 :=
        emb_strided _ rfl _ _ (by show ∀ a : Fin 2, _; intro a; fin_cases a <;> simp [ix2] <;> omega)
      refine Eq.trans ?_ (congrArg (rowsOf o) e.symm)
      exact (congrFun (glue1 c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 f9 f10 f11 f12 f13) (ix2 x0 x1)).trans (glueL_apply arg12 _ o ho 1 x0 x1)
    · show ∀ x : S64x128.Idx, _
      intro x
      idx_vars x
      have e : (⟨(⟨![0, 0], S64x128.size, ![2, 1], inb_S128x128_S64x128_0_0_s_2_1⟩ : LoadRect S128x128), spos_2_1⟩ : Rect S128x128).emb (ix2 x0 x1) = ix2 ⟨2 * x0.val + (0 : Fin 2).val, by omega⟩ x1 :=
        emb_strided _ rfl _ _ (by show ∀ a : Fin 2, _; intro a; fin_cases a <;> simp [ix2] <;> omega)
      refine Eq.trans ?_ (congrArg (rowsOf o) e.symm)
      exact (congrFun (glue0 c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 f9 f10 f11 f12 f13) (ix2 x0 x1)).trans (glueL_apply arg12 _ o ho 0 x0 x1)
  · unfold kernelRun.sl.H13_2
    idx_vars y
    simp only [List.exists_mem_cons_iff]
    by_cases h : y0.val % 2 = 0
    · right; left
      refine mem_strided (inb := inb_S128x128_S64x128_0_0_s_2_1) (sp := spos_2_1) _ rfl (ix2 ⟨y0.val / 2, by omega⟩ y1) _ ?_
      show ∀ a : Fin 2, _; intro a; fin_cases a <;> simp [ix2] <;> omega
    · left
      refine mem_strided (inb := inb_S128x128_S64x128_1_0_s_2_1) (sp := spos_2_1) _ rfl (ix2 ⟨y0.val / 2, by omega⟩ y1) _ ?_
      show ∀ a : Fin 2, _; intro a; fin_cases a <;> simp [ix2] <;> omega

/-- The scratch of pooled rows. -/
theorem tail14 (c : Dev nD) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (o : S3x2x256x128.Idx → EReal) (ho : ∀ y, arg12.view.read (Elt Ideal) (arg12.view.writes (Elt Ideal) f12 (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay84 k0_pay85 lanesV k0_pay88 k0_pay89 k0_pay90 0#32 X1 X2 (arg11.view.writes (Elt Ideal) f11 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay84 k0_pay85 lanesV k0_pay88 k0_pay89 k0_pay90 0#32 X3 (arg9.view.writes (Elt Ideal) f9 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay83 k0_pay84 X1 X2 (arg8.view.writes (Elt Ideal) arg8.view.junk (kernelRun.sl.H8_3 (F := Ideal) arg4 arg7 X4)) k0_t1_loop.trips).1) (arg10.view.writes (Elt Ideal) f10 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay83 k0_pay84 X1 X2 (arg8.view.writes (Elt Ideal) arg8.view.junk (kernelRun.sl.H8_3 (F := Ideal) arg4 arg7 X4)) k0_t1_loop.trips).2) k0_t2_loop.trips).2) k0_t3_loop.trips)) y = o y) (y : S96x128.Idx) :
    arg14.view.read (Elt Ideal) (arg14.view.writes (Elt Ideal) f14 (kernelRun.sl.H14_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 f9 f10 f11 f12 f13)) y = pooledRows (rowsOf o) y := by
  have hg : arg13.view.readAt (Elt Ideal) (Rect.unit (s := S128x128) ![0, 0] S128x128.size inb_S128x128_S128x128_0_0).toLoadRect
      (arg13.view.writes (Elt Ideal) f13 (kernelRun.sl.H13_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 f9 f10 f11 f12)) = rowsOf o := by
    funext y
    idx_vars y
    refine (load_unit _ _ _ rfl _ (ix2 y0 y1) ?_).trans (tail13 c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 f9 f10 f11 f12 f13 o ho _)
    show ∀ a : Fin 2, _; intro a; fin_cases a <;> simp [ix2]
  refine View.read_writes_apply_of_pieces (Val := Elt Ideal) arg14.view f14 (pooledRows (rowsOf o)) _ ?_ y ?_
  · unfold kernelRun.sl.H14_12 kernelRun.sl.r_12 kernelRun.sl.r_13
    rw [hg]
    intro p hp
    simp only [List.mem_cons, List.not_mem_nil, or_false] at hp
    rcases hp with rfl | rfl | rfl | rfl | rfl | rfl | rfl | rfl | rfl | rfl | rfl | rfl
    · show ∀ x : S8x128.Idx, _
      intro x
      idx_vars x
      have e : (⟨(⟨![67, 0], S8x128.size, ![4, 1], inb_S96x128_S8x128_67_0_s_4_1⟩ : LoadRect S96x128), spos_4_1⟩ : Rect S96x128).emb (ix2 x0 x1) = ix2 ⟨67 + 4 * x0.val, by omega⟩ x1 :=
        emb_strided _ rfl _ _ (by show ∀ a : Fin 2, _; intro a; fin_cases a <;> simp [ix2] <;> omega)
      refine Eq.trans ?_ (congrArg (pooledRows (rowsOf o)) e.symm)
      refine (k0_pay124_apply (rowsOf o) x0 x1).trans ?_
      show rowsOf o (ix2 x1 _) = rowsOf o (ix2 x1 _)
      congr 2
      exact Fin.ext (by show 88 + x0.val = 32 * ((67 + 4 * x0.val) / 32) + 8 * ((67 + 4 * x0.val) % 4) + (67 + 4 * x0.val) % 32 / 4; omega)
    · show ∀ x : S8x128.Idx, _
      intro x
      idx_vars x
      have e : (⟨(⟨![66, 0], S8x128.size, ![4, 1], inb_S96x128_S8x128_66_0_s_4_1⟩ : LoadRect S96x128), spos_4_1⟩ : Rect S96x128).emb (ix2 x0 x1) = ix2 ⟨66 + 4 * x0.val, by omega⟩ x1 :=
        emb_strided _ rfl _ _ (by show ∀ a : Fin 2, _; intro a; fin_cases a <;> simp [ix2] <;> omega)
      refine Eq.trans ?_ (congrArg (pooledRows (rowsOf o)) e.symm)
      refine (k0_pay123_apply (rowsOf o) x0 x1).trans ?_
      show rowsOf o (ix2 x1 _) = rowsOf o (ix2 x1 _)
      congr 2
      exact Fin.ext (by show 80 + x0.val = 32 * ((66 + 4 * x0.val) / 32) + 8 * ((66 + 4 * x0.val) % 4) + (66 + 4 * x0.val) % 32 / 4; omega)
    · show ∀ x : S8x128.Idx, _
      intro x
      idx_vars x
      have e : (⟨(⟨![65, 0], S8x128.size, ![4, 1], inb_S96x128_S8x128_65_0_s_4_1⟩ : LoadRect S96x128), spos_4_1⟩ : Rect S96x128).emb (ix2 x0 x1) = ix2 ⟨65 + 4 * x0.val, by omega⟩ x1 :=
        emb_strided _ rfl _ _ (by show ∀ a : Fin 2, _; intro a; fin_cases a <;> simp [ix2] <;> omega)
      refine Eq.trans ?_ (congrArg (pooledRows (rowsOf o)) e.symm)
      refine (k0_pay122_apply (rowsOf o) x0 x1).trans ?_
      show rowsOf o (ix2 x1 _) = rowsOf o (ix2 x1 _)
      congr 2
      exact Fin.ext (by show 72 + x0.val = 32 * ((65 + 4 * x0.val) / 32) + 8 * ((65 + 4 * x0.val) % 4) + (65 + 4 * x0.val) % 32 / 4; omega)
    · show ∀ x : S8x128.Idx, _
      intro x
      idx_vars x
      have e : (⟨(⟨![64, 0], S8x128.size, ![4, 1], inb_S96x128_S8x128_64_0_s_4_1⟩ : LoadRect S96x128), spos_4_1⟩ : Rect S96x128).emb (ix2 x0 x1) = ix2 ⟨64 + 4 * x0.val, by omega⟩ x1 :=
        emb_strided _ rfl _ _ (by show ∀ a : Fin 2, _; intro a; fin_cases a <;> simp [ix2] <;> omega)
      refine Eq.trans ?_ (congrArg (pooledRows (rowsOf o)) e.symm)
      refine (k0_pay121_apply (rowsOf o) x0 x1).trans ?_
      show rowsOf o (ix2 x1 _) = rowsOf o (ix2 x1 _)
      congr 2
      exact Fin.ext (by show 64 + x0.val = 32 * ((64 + 4 * x0.val) / 32) + 8 * ((64 + 4 * x0.val) % 4) + (64 + 4 * x0.val) % 32 / 4; omega)
    · show ∀ x : S8x128.Idx, _
      intro x
      idx_vars x
      have e : (⟨(⟨![35, 0], S8x128.size, ![4, 1], inb_S96x128_S8x128_35_0_s_4_1⟩ : LoadRect S96x128), spos_4_1⟩ : Rect S96x128).emb (ix2 x0 x1) = ix2 ⟨35 + 4 * x0.val, by omega⟩ x1 :=
        emb_strided _ rfl _ _ (by show ∀ a : Fin 2, _; intro a; fin_cases a <;> simp [ix2] <;> omega)
      refine Eq.trans ?_ (congrArg (pooledRows (rowsOf o)) e.symm)
      refine (k0_pay120_apply (rowsOf o) x0 x1).trans ?_
      show rowsOf o (ix2 x1 _) = rowsOf o (ix2 x1 _)
      congr 2
      exact Fin.ext (by show 56 + x0.val = 32 * ((35 + 4 * x0.val) / 32) + 8 * ((35 + 4 * x0.val) % 4) + (35 + 4 * x0.val) % 32 / 4; omega)
    · show ∀ x : S8x128.Idx, _
      intro x
      idx_vars x
      have e : (⟨(⟨![34, 0], S8x128.size, ![4, 1], inb_S96x128_S8x128_34_0_s_4_1⟩ : LoadRect S96x128), spos_4_1⟩ : Rect S96x128).emb (ix2 x0 x1) = ix2 ⟨34 + 4 * x0.val, by omega⟩ x1 :=
        emb_strided _ rfl _ _ (by show ∀ a : Fin 2, _; intro a; fin_cases a <;> simp [ix2] <;> omega)
      refine Eq.trans ?_ (congrArg (pooledRows (rowsOf o)) e.symm)
      refine (k0_pay119_apply (rowsOf o) x0 x1).trans ?_
      show rowsOf o (ix2 x1 _) = rowsOf o (ix2 x1 _)
      congr 2
      exact Fin.ext (by show 48 + x0.val = 32 * ((34 + 4 * x0.val) / 32) + 8 * ((34 + 4 * x0.val) % 4) + (34 + 4 * x0.val) % 32 / 4; omega)
    · show ∀ x : S8x128.Idx, _
      intro x
      idx_vars x
      have e : (⟨(⟨![33, 0], S8x128.size, ![4, 1], inb_S96x128_S8x128_33_0_s_4_1⟩ : LoadRect S96x128), spos_4_1⟩ : Rect S96x128).emb (ix2 x0 x1) = ix2 ⟨33 + 4 * x0.val, by omega⟩ x1 :=
        emb_strided _ rfl _ _ (by show ∀ a : Fin 2, _; intro a; fin_cases a <;> simp [ix2] <;> omega)
      refine Eq.trans ?_ (congrArg (pooledRows (rowsOf o)) e.symm)
      refine (k0_pay118_apply (rowsOf o) x0 x1).trans ?_
      show rowsOf o (ix2 x1 _) = rowsOf o (ix2 x1 _)
      congr 2
      exact Fin.ext (by show 40 + x0.val = 32 * ((33 + 4 * x0.val) / 32) + 8 * ((33 + 4 * x0.val) % 4) + (33 + 4 * x0.val) % 32 / 4; omega)
    · show ∀ x : S8x128.Idx, _
      intro x
      idx_vars x
      have e : (⟨(⟨![32, 0], S8x128.size, ![4, 1], inb_S96x128_S8x128_32_0_s_4_1⟩ : LoadRect S96x128), spos_4_1⟩ : Rect S96x128).emb (ix2 x0 x1) = ix2 ⟨32 + 4 * x0.val, by omega⟩ x1 :=
        emb_strided _ rfl _ _ (by show ∀ a : Fin 2, _; intro a; fin_cases a <;> simp [ix2] <;> omega)
      refine Eq.trans ?_ (congrArg (pooledRows (rowsOf o)) e.symm)
      refine (k0_pay117_apply (rowsOf o) x0 x1).trans ?_
      show rowsOf o (ix2 x1 _) = rowsOf o (ix2 x1 _)
      congr 2
      exact Fin.ext (by show 32 + x0.val = 32 * ((32 + 4 * x0.val) / 32) + 8 * ((32 + 4 * x0.val) % 4) + (32 + 4 * x0.val) % 32 / 4; omega)
    · show ∀ x : S8x128.Idx, _
      intro x
      idx_vars x
      have e : (⟨(⟨![3, 0], S8x128.size, ![4, 1], inb_S96x128_S8x128_3_0_s_4_1⟩ : LoadRect S96x128), spos_4_1⟩ : Rect S96x128).emb (ix2 x0 x1) = ix2 ⟨3 + 4 * x0.val, by omega⟩ x1 :=
        emb_strided _ rfl _ _ (by show ∀ a : Fin 2, _; intro a; fin_cases a <;> simp [ix2] <;> omega)
      refine Eq.trans ?_ (congrArg (pooledRows (rowsOf o)) e.symm)
      refine (k0_pay115_apply (rowsOf o) x0 x1).trans ?_
      show rowsOf o (ix2 x1 _) = rowsOf o (ix2 x1 _)
      congr 2
      exact Fin.ext (by show 24 + x0.val = 32 * ((3 + 4 * x0.val) / 32) + 8 * ((3 + 4 * x0.val) % 4) + (3 + 4 * x0.val) % 32 / 4; omega)
    · show ∀ x : S8x128.Idx, _
      intro x
      idx_vars x
      have e : (⟨(⟨![2, 0], S8x128.size, ![4, 1], inb_S96x128_S8x128_2_0_s_4_1⟩ : LoadRect S96x128), spos_4_1⟩ : Rect S96x128).emb (ix2 x0 x1) = ix2 ⟨2 + 4 * x0.val, by omega⟩ x1 :=
        emb_strided _ rfl _ _ (by show ∀ a : Fin 2, _; intro a; fin_cases a <;> simp [ix2] <;> omega)
      refine Eq.trans ?_ (congrArg (pooledRows (rowsOf o)) e.symm)
      refine (k0_pay114_apply (rowsOf o) x0 x1).trans ?_
      show rowsOf o (ix2 x1 _) = rowsOf o (ix2 x1 _)
      congr 2
      exact Fin.ext (by show 16 + x0.val = 32 * ((2 + 4 * x0.val) / 32) + 8 * ((2 + 4 * x0.val) % 4) + (2 + 4 * x0.val) % 32 / 4; omega)
    · show ∀ x : S8x128.Idx, _
      intro x
      idx_vars x
      have e : (⟨(⟨![1, 0], S8x128.size, ![4, 1], inb_S96x128_S8x128_1_0_s_4_1⟩ : LoadRect S96x128), spos_4_1⟩ : Rect S96x128).emb (ix2 x0 x1) = ix2 ⟨1 + 4 * x0.val, by omega⟩ x1 :=
        emb_strided _ rfl _ _ (by show ∀ a : Fin 2, _; intro a; fin_cases a <;> simp [ix2] <;> omega)
      refine Eq.trans ?_ (congrArg (pooledRows (rowsOf o)) e.symm)
      refine (k0_pay113_apply (rowsOf o) x0 x1).trans ?_
      show rowsOf o (ix2 x1 _) = rowsOf o (ix2 x1 _)
      congr 2
      exact Fin.ext (by show 8 + x0.val = 32 * ((1 + 4 * x0.val) / 32) + 8 * ((1 + 4 * x0.val) % 4) + (1 + 4 * x0.val) % 32 / 4; omega)
    · show ∀ x : S8x128.Idx, _
      intro x
      idx_vars x
      have e : (⟨(⟨![0, 0], S8x128.size, ![4, 1], inb_S96x128_S8x128_0_0_s_4_1⟩ : LoadRect S96x128), spos_4_1⟩ : Rect S96x128).emb (ix2 x0 x1) = ix2 ⟨0 + 4 * x0.val, by omega⟩ x1 :=
        emb_strided _ rfl _ _ (by show ∀ a : Fin 2, _; intro a; fin_cases a <;> simp [ix2] <;> omega)
      refine Eq.trans ?_ (congrArg (pooledRows (rowsOf o)) e.symm)
      refine (k0_pay112_apply (rowsOf o) x0 x1).trans ?_
      show rowsOf o (ix2 x1 _) = rowsOf o (ix2 x1 _)
      congr 2
      exact Fin.ext (by show 0 + x0.val = 32 * ((0 + 4 * x0.val) / 32) + 8 * ((0 + 4 * x0.val) % 4) + (0 + 4 * x0.val) % 32 / 4; omega)
  · unfold kernelRun.sl.H14_12
    idx_vars y
    simp only [List.exists_mem_cons_iff]
    obtain ⟨n, hn⟩ : ∃ n, y0.val / 32 = n := ⟨_, rfl⟩
    obtain ⟨k, hk⟩ : ∃ k, y0.val % 4 = k := ⟨_, rfl⟩
    have hn' : n < 3 := by omega
    have hk' : k < 4 := by omega
    interval_cases n <;> interval_cases k
    · right; right; right; right; right; right; right; right; right; right; right; left
      refine mem_strided (inb := inb_S96x128_S8x128_0_0_s_4_1) (sp := spos_4_1) _ rfl (ix2 ⟨y0.val % 32 / 4, by omega⟩ y1) _ ?_
      show ∀ a : Fin 2, _; intro a; fin_cases a <;> simp [ix2] <;> omega
    · right; right; right; right; right; right; right; right; right; right; left
      refine mem_strided (inb := inb_S96x128_S8x128_1_0_s_4_1) (sp := spos_4_1) _ rfl (ix2 ⟨y0.val % 32 / 4, by omega⟩ y1) _ ?_
      show ∀ a : Fin 2, _; intro a; fin_cases a <;> simp [ix2] <;> omega
    · right; right; right; right; right; right; right; right; right; left
      refine mem_strided (inb := inb_S96x128_S8x128_2_0_s_4_1) (sp := spos_4_1) _ rfl (ix2 ⟨y0.val % 32 / 4, by omega⟩ y1) _ ?_
      show ∀ a : Fin 2, _; intro a; fin_cases a <;> simp [ix2] <;> omega
    · right; right; right; right; right; right; right; right; left
      refine mem_strided (inb := inb_S96x128_S8x128_3_0_s_4_1) (sp := spos_4_1) _ rfl (ix2 ⟨y0.val % 32 / 4, by omega⟩ y1) _ ?_
      show ∀ a : Fin 2, _; intro a; fin_cases a <;> simp [ix2] <;> omega
    · right; right; right; right; right; right; right; left
      refine mem_strided (inb := inb_S96x128_S8x128_32_0_s_4_1) (sp := spos_4_1) _ rfl (ix2 ⟨y0.val % 32 / 4, by omega⟩ y1) _ ?_
      show ∀ a : Fin 2, _; intro a; fin_cases a <;> simp [ix2] <;> omega
    · right; right; right; right; right; right; left
      refine mem_strided (inb := inb_S96x128_S8x128_33_0_s_4_1) (sp := spos_4_1) _ rfl (ix2 ⟨y0.val % 32 / 4, by omega⟩ y1) _ ?_
      show ∀ a : Fin 2, _; intro a; fin_cases a <;> simp [ix2] <;> omega
    · right; right; right; right; right; left
      refine mem_strided (inb := inb_S96x128_S8x128_34_0_s_4_1) (sp := spos_4_1) _ rfl (ix2 ⟨y0.val % 32 / 4, by omega⟩ y1) _ ?_
      show ∀ a : Fin 2, _; intro a; fin_cases a <;> simp [ix2] <;> omega
    · right; right; right; right; left
      refine mem_strided (inb := inb_S96x128_S8x128_35_0_s_4_1) (sp := spos_4_1) _ rfl (ix2 ⟨y0.val % 32 / 4, by omega⟩ y1) _ ?_
      show ∀ a : Fin 2, _; intro a; fin_cases a <;> simp [ix2] <;> omega
    · right; right; right; left
      refine mem_strided (inb := inb_S96x128_S8x128_64_0_s_4_1) (sp := spos_4_1) _ rfl (ix2 ⟨y0.val % 32 / 4, by omega⟩ y1) _ ?_
      show ∀ a : Fin 2, _; intro a; fin_cases a <;> simp [ix2] <;> omega
    · right; right; left
      refine mem_strided (inb := inb_S96x128_S8x128_65_0_s_4_1) (sp := spos_4_1) _ rfl (ix2 ⟨y0.val % 32 / 4, by omega⟩ y1) _ ?_
      show ∀ a : Fin 2, _; intro a; fin_cases a <;> simp [ix2] <;> omega
    · right; left
      refine mem_strided (inb := inb_S96x128_S8x128_66_0_s_4_1) (sp := spos_4_1) _ rfl (ix2 ⟨y0.val % 32 / 4, by omega⟩ y1) _ ?_
      show ∀ a : Fin 2, _; intro a; fin_cases a <;> simp [ix2] <;> omega
    · left
      refine mem_strided (inb := inb_S96x128_S8x128_67_0_s_4_1) (sp := spos_4_1) _ rfl (ix2 ⟨y0.val % 32 / 4, by omega⟩ y1) _ ?_
      show ∀ a : Fin 2, _; intro a; fin_cases a <;> simp [ix2] <;> omega

end Cert.KernelIdeal.Hand
-- ==== Proof.Hand.ValueRun.lean ====
/- What a run of `proofs.«01_k».proof.KernelIdeal`'s body leaves in its two result blocks, in exact arithmetic. -/
module

public import proofs.«01_k».proof.Proof.Gen.KernelIdeal.Loops
public import proofs.«01_k».proof.Proof.Hand.ValueTail
public import proofs.«01_k».proof.Proof.Hand.ValueLoop3
public import proofs.«01_k».proof.Proof.Hand.KernelIdealBody

@[expose] public section

set_option maxRecDepth 8192
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.Sem

/-- The counts of the block's users. -/
def blkCn (C : S24576.Idx → BitVec 32) (s : Fin 192) (u : Fin 128) : BitVec 32 := C (ix1 ⟨128 * s.val + u.val, by omega⟩)

/-- The block's partial products. -/
def blkPart (C : S24576.Idx → BitVec 32) (K : S8192x128.Idx → BitVec 32) (Q : S128x128.Idx → BitVec 32) (s : Fin 192) : S2x512x128.Idx → EReal :=
  partOf (qnOf Q) (codeOf C K s)

/-- The block of weights. -/
def blkW (C : S24576.Idx → BitVec 32) (K : S8192x128.Idx → BitVec 32) (E : S128x256.Idx → BitVec 32) (Q : S128x128.Idx → BitVec 32) (s : Fin 192) : S128x256.Idx → EReal :=
  weightOf (blkCn C s) E (blkPart C K Q s)

/-- The block's pooled products, before they are glued and turned. -/
def blkO (C : S24576.Idx → BitVec 32) (K : S8192x128.Idx → BitVec 32) (E : S128x256.Idx → BitVec 32) (Q : S128x128.Idx → BitVec 32) (s : Fin 192) : S3x2x256x128.Idx → EReal :=
  pooledOf (wkOf (blkCn C s) E (blkPart C K Q s)) (codeOf C K s)

/-- The block of pooled channels. -/
def blkT (C : S24576.Idx → BitVec 32) (K : S8192x128.Idx → BitVec 32) (E : S128x256.Idx → BitVec 32) (Q : S128x128.Idx → BitVec 32) (s : Fin 192) : S96x128.Idx → EReal :=
  pooledRows (rowsOf (blkO C K E Q s))

/-- The scratch of partial products after the first loop. -/
theorem run_part (c : Dev nD) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole) (X1 : BufTy.Contents (Elt Ideal) arg1.view.ty) (X2 : BufTy.Contents (Elt Ideal) arg2.view.ty) (X4 : BufTy.Contents (Elt Ideal) arg4.view.ty) (f9 : BufTy.Contents (Elt Ideal) arg9.view.ty) :
    arg9.view.read (Elt Ideal) (arg9.view.writes (Elt Ideal) f9 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay83 k0_pay84 X1 X2 (arg8.view.writes (Elt Ideal) arg8.view.junk (kernelRun.sl.H8_3 (F := Ideal) arg4 arg7 X4)) k0_t1_loop.trips).1) = blkPart (arg1.view.read (Elt Ideal) X1) (arg2.view.read (Elt Ideal) X2) (arg4.view.read (Elt Ideal) X4) (stepOf i) := by
  funext y
  rw [loop1_part]
  unfold blkPart
  congr 1
  funext y
  exact pro_qn arg4 arg7 arg8 X4 _ y

/-- The scratch of counts after the first loop. -/
theorem run_count (c : Dev nD) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole) (X1 : BufTy.Contents (Elt Ideal) arg1.view.ty) (X2 : BufTy.Contents (Elt Ideal) arg2.view.ty) (X4 : BufTy.Contents (Elt Ideal) arg4.view.ty) (f10 : BufTy.Contents (Elt Ideal) arg10.view.ty) (u l : Fin 128) :
    arg10.view.read (Elt Ideal) (arg10.view.writes (Elt Ideal) f10 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay83 k0_pay84 X1 X2 (arg8.view.writes (Elt Ideal) arg8.view.junk (kernelRun.sl.H8_3 (F := Ideal) arg4 arg7 X4)) k0_t1_loop.trips).2) (ix2 u l) = blkCn (arg1.view.read (Elt Ideal) X1) (stepOf i) u :=
  loop1_count _ _ _ _ _ _ _ _ _ _ _ _ _ _ _ _ _ _ _ _ _ _ _ _ _ _ _ _ _ _ _ _ _ _ _ _ _ _ _ _ _

/-- The block of weights after the second loop. -/
theorem run_w (c : Dev nD) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (f9 : BufTy.Contents (Elt Ideal) arg9.view.ty) (f10 : BufTy.Contents (Elt Ideal) arg10.view.ty) (f5 : BufTy.Contents (Elt Ideal) arg5.view.ty) (y : S128x256.Idx) :
    arg5.view.read (Elt Ideal) (arg5.view.writes (Elt Ideal) f5 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay84 k0_pay85 lanesV k0_pay88 k0_pay89 k0_pay90 0#32 X3 (arg9.view.writes (Elt Ideal) f9 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay83 k0_pay84 X1 X2 (arg8.view.writes (Elt Ideal) arg8.view.junk (kernelRun.sl.H8_3 (F := Ideal) arg4 arg7 X4)) k0_t1_loop.trips).1) (arg10.view.writes (Elt Ideal) f10 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay83 k0_pay84 X1 X2 (arg8.view.writes (Elt Ideal) arg8.view.junk (kernelRun.sl.H8_3 (F := Ideal) arg4 arg7 X4)) k0_t1_loop.trips).2) k0_t2_loop.trips).1) y = blkW (arg1.view.read (Elt Ideal) X1) (arg2.view.read (Elt Ideal) X2) (arg3.view.read (Elt Ideal) X3) (arg4.view.read (Elt Ideal) X4) (stepOf i) y := by
  rw [loop2_weight (hcn := run_count c i arg1 harg1 arg2 harg2 arg3 harg3 arg4 harg4 arg5 harg5 arg6 harg6 arg7 harg7 arg8 harg8 arg9 harg9 arg10 harg10 arg11 harg11 arg12 harg12 arg13 harg13 arg14 harg14 X1 X2 X4 f10), run_part]
  rfl

/-- The scratch of scaled weights after the second loop. -/
theorem run_wk (c : Dev nD) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (f9 : BufTy.Contents (Elt Ideal) arg9.view.ty) (f10 : BufTy.Contents (Elt Ideal) arg10.view.ty) (f11 : BufTy.Contents (Elt Ideal) arg11.view.ty) :
    arg11.view.read (Elt Ideal) (arg11.view.writes (Elt Ideal) f11 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay84 k0_pay85 lanesV k0_pay88 k0_pay89 k0_pay90 0#32 X3 (arg9.view.writes (Elt Ideal) f9 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay83 k0_pay84 X1 X2 (arg8.view.writes (Elt Ideal) arg8.view.junk (kernelRun.sl.H8_3 (F := Ideal) arg4 arg7 X4)) k0_t1_loop.trips).1) (arg10.view.writes (Elt Ideal) f10 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay83 k0_pay84 X1 X2 (arg8.view.writes (Elt Ideal) arg8.view.junk (kernelRun.sl.H8_3 (F := Ideal) arg4 arg7 X4)) k0_t1_loop.trips).2) k0_t2_loop.trips).2) = wkOf (blkCn (arg1.view.read (Elt Ideal) X1) (stepOf i)) (arg3.view.read (Elt Ideal) X3) (blkPart (arg1.view.read (Elt Ideal) X1) (arg2.view.read (Elt Ideal) X2) (arg4.view.read (Elt Ideal) X4) (stepOf i)) := by
  funext y
  rw [loop2_wk (hcn := run_count c i arg1 harg1 arg2 harg2 arg3 harg3 arg4 harg4 arg5 harg5 arg6 harg6 arg7 harg7 arg8 harg8 arg9 harg9 arg10 harg10 arg11 harg11 arg12 harg12 arg13 harg13 arg14 harg14 X1 X2 X4 f10), run_part]

/-- The scratch of pooled products after the third loop. -/
theorem run_o (c : Dev nD) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (y : S3x2x256x128.Idx) :
    arg12.view.read (Elt Ideal) (arg12.view.writes (Elt Ideal) f12 (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay84 k0_pay85 lanesV k0_pay88 k0_pay89 k0_pay90 0#32 X1 X2 (arg11.view.writes (Elt Ideal) f11 (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay84 k0_pay85 lanesV k0_pay88 k0_pay89 k0_pay90 0#32 X3 (arg9.view.writes (Elt Ideal) f9 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay83 k0_pay84 X1 X2 (arg8.view.writes (Elt Ideal) arg8.view.junk (kernelRun.sl.H8_3 (F := Ideal) arg4 arg7 X4)) k0_t1_loop.trips).1) (arg10.view.writes (Elt Ideal) f10 (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 (BitVec.ofNat 32 (i 0).val) k0_pay83 k0_pay84 X1 X2 (arg8.view.writes (Elt Ideal) arg8.view.junk (kernelRun.sl.H8_3 (F := Ideal) arg4 arg7 X4)) k0_t1_loop.trips).2) k0_t2_loop.trips).2) k0_t3_loop.trips)) y = blkO (arg1.view.read (Elt Ideal) X1) (arg2.view.read (Elt Ideal) X2) (arg3.view.read (Elt Ideal) X3) (arg4.view.read (Elt Ideal) X4) (stepOf i) y := by
  rw [loop3_pooled, run_wk]
  rfl

/-- The first result block of a run of the body. -/
theorem kernelRun_w (c : Dev nD) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f5 : BufTy.Contents (Elt Ideal) arg5.view.ty) (y : S128x256.Idx) :
    arg5.view.read (Elt Ideal) (arg5.view.writes (Elt Ideal) f5 (kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 f7 f8 f9 f10 f11 f12 f13 f14).1) y = blkW (arg1.view.read (Elt Ideal) X1) (arg2.view.read (Elt Ideal) X2) (arg3.view.read (Elt Ideal) X3) (arg4.view.read (Elt Ideal) X4) (stepOf i) y := by
  unfold kernelRun
  dsimp only
  rw [name77, name108, name83, trips1, trips2]
  exact run_w c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 f9 f10 f5 y

/-- The second result block of a run of the body. -/
theorem kernelRun_pooled (c : Dev nD) (i : grid0.Coords) (arg1 : Memref sig .tc .smem S24576 .i32) (harg1 : arg1.IsWhole) (arg2 : Memref sig .tc .vmem S8192x128 .i32) (harg2 : arg2.IsWhole) (arg3 : Memref sig .tc .vmem S128x256 .i32) (harg3 : arg3.IsWhole) (arg4 : Memref sig .tc .vmem S128x128 .i32) (harg4 : arg4.IsWhole) (arg5 : Memref sig .tc .vmem S128x256 .f32) (harg5 : arg5.IsWhole) (arg6 : Memref sig .tc .vmem S96x128 .bf16) (harg6 : arg6.IsWhole) (arg7 : Memref sig .tc .vmem S512x128 .f32) (harg7 : arg7.IsWhole) (arg8 : Memref sig .tc .vmem S3x128x128 .f32) (harg8 : arg8.IsWhole) (arg9 : Memref sig .tc .vmem S2x512x128 .f32) (harg9 : arg9.IsWhole) (arg10 : Memref sig .tc .vmem S128x128 .i32) (harg10 : arg10.IsWhole) (arg11 : Memref sig .tc .vmem S2x512x128 .f32) (harg11 : arg11.IsWhole) (arg12 : Memref sig .tc .vmem S3x2x256x128 .f32) (harg12 : arg12.IsWhole) (arg13 : Memref sig .tc .vmem S128x128 .f32) (harg13 : arg13.IsWhole) (arg14 : Memref sig .tc .vmem S96x128 .f32) (harg14 : arg14.IsWhole) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (f7 : BufTy.Contents (Elt Ideal) arg7.view.ty) (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (f14 : BufTy.Contents (Elt Ideal) arg14.view.ty) (f6 : BufTy.Contents (Elt Ideal) arg6.view.ty) (y : S96x128.Idx) :
    arg6.view.read (Elt Ideal) (arg6.view.writes (Elt Ideal) f6 (kernelRun (F := Ideal) c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 f7 f8 f9 f10 f11 f12 f13 f14).2.1) y = blkT (arg1.view.read (Elt Ideal) X1) (arg2.view.read (Elt Ideal) X2) (arg3.view.read (Elt Ideal) X3) (arg4.view.read (Elt Ideal) X4) (stepOf i) y := by
  unfold kernelRun
  dsimp only
  refine View.read_writes_apply_of_pieces (Val := Elt Ideal) arg6.view f6 (blkT (arg1.view.read (Elt Ideal) X1) (arg2.view.read (Elt Ideal) X2) (arg3.view.read (Elt Ideal) X3) (arg4.view.read (Elt Ideal) X4) (stepOf i)) _ ?_ y ?_
  · intro p hp
    simp only [List.mem_cons, List.not_mem_nil, or_false] at hp
    subst hp
    show ∀ x : S96x128.Idx, _
    intro x
    idx_vars x
    have e : (Rect.unit (s := S96x128) ![0, 0] S96x128.size inb_S96x128_S96x128_0_0).emb (ix2 x0 x1) = ix2 x0 x1 :=
      emb_unit _ rfl _ _ (by show ∀ a : Fin 2, _; intro a; fin_cases a <;> simp [ix2])
    refine Eq.trans ?_ (congrArg (blkT (arg1.view.read (Elt Ideal) X1) (arg2.view.read (Elt Ideal) X2) (arg3.view.read (Elt Ideal) X3) (arg4.view.read (Elt Ideal) X4) (stepOf i)) e.symm)
    have hp : ∀ (v : Vec Ideal S96x128 .f32) (z : S96x128.Idx), k0_pay1 (F := Ideal) v z = v z := fun v z => by
      idx_vars z
      unfold k0_pay1
      pointwise
    refine (hp _ _).trans ?_
    refine (load_unit _ _ _ rfl _ (ix2 x0 x1) (by show ∀ a : Fin 2, _; intro a; fin_cases a <;> simp [ix2])).trans ?_
    exact tail14 c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 f9 f10 f11 f12 f13 f14 _ (run_o c i arg1 harg1 arg2 harg2 arg3 harg3 arg4 harg4 arg5 harg5 arg6 harg6 arg7 harg7 arg8 harg8 arg9 harg9 arg10 harg10 arg11 harg11 arg12 harg12 arg13 harg13 arg14 harg14 X1 X2 X3 X4 f9 f10 f11 f12) _
  · idx_vars y
    simp only [List.exists_mem_cons_iff]
    left
    exact mem_unit (inb := inb_S96x128_S96x128_0_0) _ rfl (ix2 y0 y1) (by show ∀ a : Fin 2, _; intro a; fin_cases a <;> simp [ix2])

end Cert.KernelIdeal.Hand
-- ==== Proof.Hand.ValueFrame.lean ====
/- What `proofs.«01_k».proof.KernelIdeal` leaves in its two result arrays, in exact arithmetic, as functions of the argument
   arrays. -/
module

public import proofs.«01_k».proof.Proof.Hand.KernelIdealFrame
public import proofs.«01_k».proof.Proof.Hand.ValueRun
public import Idealize.ShloMosaic.Lib.Pipeline.ValueKit.Geometry

@[expose] public section

set_option maxRecDepth 16384
set_option maxHeartbeats 1000000

noncomputable section

namespace Cert.KernelIdeal.Val

open Cert.KernelIdeal Cert.KernelIdeal.Gen
open Cert.KernelIdeal.Hand (PhiA_eq someOwns kernelRun kernelRun_w kernelRun_pooled blkW blkT stepOf defs₀_row)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- No window's contents are left unnamed. -/
def forgets0 : Fin 6 → Bool := fun _ => false

/-- The block of weights of a grid point, from the blocks it reads. -/
def wBlk (c : Dev nD) (t : Fin cfg0.N) : S128x256.Idx → EReal :=
  blkW (iblk m c 0 t) (iblk m c 1 t) (iblk m c 2 t) (iblk m c 3 t) (stepOf (grid0.coords t))

/-- The block of pooled channels of a grid point, from the blocks it reads. -/
def tBlk (c : Dev nD) (t : Fin cfg0.N) : S96x128.Idx → EReal :=
  blkT (iblk m c 0 t) (iblk m c 1 t) (iblk m c 2 t) (iblk m c 3 t) (stepOf (grid0.coords t))

/-- The proof data: the arrays as launched, the input blocks left in place, the results at the blocks the body computes. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => wBlk m c t
    | ⟨5, _⟩ => tBlk m c t
  Φ _ := Pipeline.ΦA spec0 c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d

theorem after0_4 (c : Dev nD) (t : Fin cfg0.N) : (dats m 0 c).after 4 t = wBlk m c t := by dsimp only [dats]
theorem after0_5 (c : Dev nD) (t : Fin cfg0.N) : (dats m 0 c).after 5 t = tBlk m c t := by dsimp only [dats]

def bodyPre (c : Dev nD) (t : Fin cfg0.N) : sProp 𝕄 :=
  iprop((dats m 0 c).Φ t.castSucc ∗ (dats m 0 c).owesAt () t.castSucc ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)))
def bodyPost (c : Dev nD) (t : Fin cfg0.N) : sProp 𝕄 :=
  iprop((dats m 0 c).Φ t.succ ∗ (dats m 0 c).owesAt () t.succ ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t))

/-- The body at a point: from the input blocks and anything in the results and the scratch, to the point's result blocks. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = Pipeline.ΦA spec0 c from rfl, show (dats m 0 c).Φ t.castSucc = Pipeline.ΦA spec0 c from rfl, PhiA_eq,
    show (dats m 0 c).owesAt () t.succ = (dats m 0 c).owesAt () t.castSucc from rfl]
  simp only [before0_0, before0_1, before0_2, before0_3, after0_0, after0_1, after0_2, after0_3, after0_4, after0_5]
  unfold owns
  iintro ⟨⟨⟨⟨%d7, %f7, -, S7⟩, ⟨%d8, %f8, -, S8⟩, ⟨%d9, %f9, -, S9⟩, ⟨%d10, %f10, -, S10⟩, ⟨%d11, %f11, -, S11⟩, ⟨%d12, %f12, -, S12⟩, ⟨%d13, %f13, -, S13⟩, ⟨%d14, %f14, -, S14⟩⟩, Hg⟩, HW, ⟨%d1, %X1, %hX1, H1⟩, ⟨%d2, %X2, %hX2, H2⟩, ⟨%d3, %X3, %hX3, H3⟩, ⟨%d4, %X4, %hX4, H4⟩, ⟨%d5, %X5, %hX5, H5⟩, ⟨%d6, %X6, %hX6, H6⟩⟩
  iapply (kernelRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (X1 := X1) (X2 := X2) (X3 := X3) (X4 := X4) (f7 := f7) (f8 := f8) (f9 := f9) (f10 := f10) (f11 := f11) (f12 := f12) (f13 := f13) (f14 := f14)).2.2 X5 X6 _
  isplitl [H1]; · iexact H1
  isplitl [H2]; · iexact H2
  isplitl [H3]; · iexact H3
  isplitl [H4]; · iexact H4
  isplitl [H5]; · iexact H5
  isplitl [H6]; · iexact H6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  iintro ⟨I1, I2, I3, I4, I5, I6, ⟨%e7, T7⟩, ⟨%e8, T8⟩, ⟨%e9, T9⟩, ⟨%e10, T10⟩, ⟨%e11, T11⟩, ⟨%e12, T12⟩, ⟨%e13, T13⟩, ⟨%e14, T14⟩⟩
  isplitl [T7 T8 T9 T10 T11 T12 T13 T14 Hg]
  · isplitl [T7 T8 T9 T10 T11 T12 T13 T14]
    · skip
      isplitl [T7]
      · iapply (someOwns c (Memref.whole cc0_scratch0) _); iexact T7
      isplitl [T8]
      · iapply (someOwns c (Memref.whole cc0_scratch1) _); iexact T8
      isplitl [T9]
      · iapply (someOwns c (Memref.whole cc0_scratch2) _); iexact T9
      isplitl [T10]
      · iapply (someOwns c (Memref.whole cc0_scratch3) _); iexact T10
      isplitl [T11]
      · iapply (someOwns c (Memref.whole cc0_scratch4) _); iexact T11
      isplitl [T12]
      · iapply (someOwns c (Memref.whole cc0_scratch5) _); iexact T12
      isplitl [T13]
      · iapply (someOwns c (Memref.whole cc0_scratch6) _); iexact T13
      iapply (someOwns c (Memref.whole cc0_scratch7) _); iexact T14
    iexact Hg
  isplitl [HW]; · iexact HW
  isplitl [I1]
  · iexists _; isplitr; · ipureintro; exact hX1
    iexact I1
  isplitl [I2]
  · iexists _; isplitr; · ipureintro; exact hX2
    iexact I2
  isplitl [I3]
  · iexists _; isplitr; · ipureintro; exact hX3
    iexact I3
  isplitl [I4]
  · iexists _; isplitr; · ipureintro; exact hX4
    iexact I4
  isplitl [I5]
  · iexists _; isplitr; swap; iexact I5
    ipureintro
    funext y
    refine (kernelRun_w c (grid0.coords t) (y := y) ..).trans ?_
    rw [hX1, hX2, hX3, hX4]; rfl
  iexists _; isplitr; swap; iexact I6
  ipureintro
  funext y
  refine (kernelRun_pooled c (grid0.coords t) (y := y) ..).trans ?_
  rw [hX1, hX2, hX3, hX4]; rfl

/-- The pipeline's obligation of the body. -/
theorem body_obligation (c : Dev nD) : BodyObligation (dats m 0 c) (defs₀ (F := Ideal)) Variants.none () Set.univ forgets0 := fun t => by
  rw [bigSep_W0, bigSep_W0, defs₀_row]
  exact triple_restated (sound_body m c t) rfl .rfl fun _ => .rfl

set_option backward.isDefEq.respectTransparency.types false in
/-- The run of @main. -/
theorem run_main : θ_run defs (onTc (τ := τ) (main (F := Ideal))) (s₀ m ρ) (Pipeline.FramePost cfgs (dats m) 0 (V m)) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- Block `s` of the key rows. -/
def keyBlk (K : S1572864x128.Idx → BitVec 32) (s : Fin 192) (x : S8192x128.Idx) : BitVec 32 :=
  have h : (x 0).val < 8192 := (x 0).isLt
  K (ix2 ⟨8192 * s.val + (x 0).val, by omega⟩ (x 1))

/-- Block `s` of the exponent bytes. -/
def expBlk (E : S24576x256.Idx → BitVec 32) (s : Fin 192) (x : S128x256.Idx) : BitVec 32 :=
  have h : (x 0).val < 128 := (x 0).isLt
  E (ix2 ⟨128 * s.val + (x 0).val, by omega⟩ (x 1))

/-- Block `s` of the target rows. -/
def tgtBlk (Q : S24576x128.Idx → BitVec 32) (s : Fin 192) (x : S128x128.Idx) : BitVec 32 :=
  have h : (x 0).val < 128 := (x 0).isLt
  Q (ix2 ⟨128 * s.val + (x 0).val, by omega⟩ (x 1))

/-- The array of weights. -/
def outW (C : S24576.Idx → BitVec 32) (K : S1572864x128.Idx → BitVec 32) (E : S24576x256.Idx → BitVec 32) (Q : S24576x128.Idx → BitVec 32)
    (j : S24576x256.Idx) : EReal :=
  have h : (j 0).val < 24576 := (j 0).isLt
  blkW C (keyBlk K ⟨(j 0).val / 128, by omega⟩) (expBlk E ⟨(j 0).val / 128, by omega⟩) (tgtBlk Q ⟨(j 0).val / 128, by omega⟩)
    ⟨(j 0).val / 128, by omega⟩ (ix2 ⟨(j 0).val % 128, by omega⟩ (j 1))

/-- The array of pooled channels. -/
def outT (C : S24576.Idx → BitVec 32) (K : S1572864x128.Idx → BitVec 32) (E : S24576x256.Idx → BitVec 32) (Q : S24576x128.Idx → BitVec 32)
    (j : S96x24576.Idx) : EReal :=
  have h : (j 1).val < 24576 := (j 1).isLt
  blkT C (keyBlk K ⟨(j 1).val / 128, by omega⟩) (expBlk E ⟨(j 1).val / 128, by omega⟩) (tgtBlk Q ⟨(j 1).val / 128, by omega⟩)
    ⟨(j 1).val / 128, by omega⟩ (ix2 (j 0) ⟨(j 1).val % 128, by omega⟩)

theorem idx_0 : ∀ t : Fin cfg0.N, win0_0.index t = ![0] := (by decide +kernel : ∀ t : Fin grid0.N, _)
theorem idx_1 : ∀ t : Fin cfg0.N, win0_1.index t = ![(grid0.coords t 0).val, 0] := (by decide +kernel : ∀ t : Fin grid0.N, _)
theorem idx_2 : ∀ t : Fin cfg0.N, win0_2.index t = ![(grid0.coords t 0).val, 0] := (by decide +kernel : ∀ t : Fin grid0.N, _)
theorem idx_3 : ∀ t : Fin cfg0.N, win0_3.index t = ![(grid0.coords t 0).val, 0] := (by decide +kernel : ∀ t : Fin grid0.N, _)
theorem idx_4 : ∀ t : Fin cfg0.N, win0_4.index t = ![(grid0.coords t 0).val, 0] := (by decide +kernel : ∀ t : Fin grid0.N, _)
theorem idx_5 : ∀ t : Fin cfg0.N, win0_5.index t = ![0, (grid0.coords t 0).val] := (by decide +kernel : ∀ t : Fin grid0.N, _)

theorem iblk0_eq (c : Dev nD) (t : Fin cfg0.N) : iblk m c 0 t = V m c main_arg0 := by
  funext x
  show V m c main_arg0 ((win0_0.blk t).view.emb x) = _
  congr 1
  blk_ext [idx_0]

theorem iblk1_eq (c : Dev nD) (t : Fin cfg0.N) : iblk m c 1 t = keyBlk (V m c main_arg1) (stepOf (grid0.coords t)) := by
  funext x
  show V m c main_arg1 ((win0_1.blk t).view.emb x) = V m c main_arg1 (ix2 ⟨8192 * (grid0.coords t 0).val + _, _⟩ (x 1))
  congr 1
  blk_ext [idx_1]

theorem iblk2_eq (c : Dev nD) (t : Fin cfg0.N) : iblk m c 2 t = expBlk (V m c main_arg2) (stepOf (grid0.coords t)) := by
  funext x
  show V m c main_arg2 ((win0_2.blk t).view.emb x) = V m c main_arg2 (ix2 ⟨128 * (grid0.coords t 0).val + _, _⟩ (x 1))
  congr 1
  blk_ext [idx_2]

theorem iblk3_eq (c : Dev nD) (t : Fin cfg0.N) : iblk m c 3 t = tgtBlk (V m c main_arg3) (stepOf (grid0.coords t)) := by
  funext x
  show V m c main_arg3 ((win0_3.blk t).view.emb x) = V m c main_arg3 (ix2 ⟨128 * (grid0.coords t 0).val + _, _⟩ (x 1))
  congr 1
  blk_ext [idx_3]

theorem outW_at (C : S24576.Idx → BitVec 32) (K : S1572864x128.Idx → BitVec 32) (E : S24576x256.Idx → BitVec 32) (Q : S24576x128.Idx → BitVec 32)
    (s : Fin 192) (y : S128x256.Idx) (j : S24576x256.Idx) (h0 : (j 0).val = 128 * s.val + (y 0).val) (h1 : (j 1).val = (y 1).val) :
    outW C K E Q j = blkW C (keyBlk K s) (expBlk E s) (tgtBlk Q s) s y := by
  have hy : (y 0).val < 128 := (y 0).isLt
  unfold outW
  have e : ∀ p, (⟨(j 0).val / 128, p⟩ : Fin 192) = s := fun p => Fin.ext (by show (j 0).val / 128 = _; omega)
  simp only [e]
  congr 1
  idx_vars y
  exact congrArg₂ ix2 (Fin.ext (by show (j 0).val % 128 = _; rw [h0]; show _ = y0.val; have : ((ix2 y0 y1 : S128x256.Idx) 0).val = y0.val := rfl; omega)) (Fin.ext h1)

theorem outT_at (C : S24576.Idx → BitVec 32) (K : S1572864x128.Idx → BitVec 32) (E : S24576x256.Idx → BitVec 32) (Q : S24576x128.Idx → BitVec 32)
    (s : Fin 192) (y : S96x128.Idx) (j : S96x24576.Idx) (h0 : (j 0).val = (y 0).val) (h1 : (j 1).val = 128 * s.val + (y 1).val) :
    outT C K E Q j = blkT C (keyBlk K s) (expBlk E s) (tgtBlk Q s) s y := by
  have hy : (y 1).val < 128 := (y 1).isLt
  unfold outT
  have e : ∀ p, (⟨(j 1).val / 128, p⟩ : Fin 192) = s := fun p => Fin.ext (by show (j 1).val / 128 = _; omega)
  simp only [e]
  congr 1
  idx_vars y
  exact congrArg₂ ix2 (Fin.ext h0) (Fin.ext (by show (j 1).val % 128 = _; rw [h1]; show _ = y1.val; have : ((ix2 y0 y1 : S96x128.Idx) 1).val = y1.val := rfl; omega))

/-- The array of weights after the run. -/
theorem final_w (c : Dev nD) : (dats m 0 c).arrAt 4 cfg0.N
    = outW (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, wBlk, iblk0_eq, iblk1_eq, iblk2_eq, iblk3_eq]
  refine (outW_at _ _ _ _ (stepOf (grid0.coords t)) y _ ?_ ?_).symm
  · blk_simp [idx_4]; show _ = 128 * (grid0.coords t 0).val + _; simp; omega
  · blk_simp [idx_4]

/-- The array of pooled channels after the run. -/
theorem final_t (c : Dev nD) : (dats m 0 c).arrAt 5 cfg0.N
    = outT (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, tBlk, iblk0_eq, iblk1_eq, iblk2_eq, iblk3_eq]
  refine (outT_at _ _ _ _ (stepOf (grid0.coords t)) y _ ?_ ?_).symm
  · blk_simp [idx_5]
  · blk_simp [idx_5]; show _ = 128 * (grid0.coords t 0).val + _; simp; omega

/-- The run, with both results as functions of the arguments. -/
theorem run : θ_run defs (onTc (τ := τ) (main (F := Ideal))) ⟨m, fun _ => 0, ρ⟩ (fun r => ∀ c : Dev nD,
      r.2.mem ((c.tc : Thread nD τ).loc main_v0_0) = outW (m ((c : Thread nD τ).loc main_arg0)) (m ((c : Thread nD τ).loc main_arg1)) (m ((c : Thread nD τ).loc main_arg2)) (m ((c : Thread nD τ).loc main_arg3))
      ∧ r.2.mem ((c.tc : Thread nD τ).loc main_v0_1) = outT (m ((c : Thread nD τ).loc main_arg0)) (m ((c : Thread nD τ).loc main_arg1)) (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).1 4).trans (final_w m c), ((h c).1 5).trans (final_t m c),
      ((h c).1 0).trans (((dats m 0 c).arrAt_in 0 rfl _).trans (A_eq m c 0)),
      ((h c).1 1).trans (((dats m 0 c).arrAt_in 1 rfl _).trans (A_eq m c 1)),
      ((h c).1 2).trans (((dats m 0 c).arrAt_in 2 rfl _).trans (A_eq m c 2)),
      ((h c).1 3).trans (((dats m 0 c).arrAt_in 3 rfl _).trans (A_eq m c 3))⟩) (run_main m ρ)

end Cert.KernelIdeal.Val

end
-- ==== Proof.Hand.RefBytes.lean ====
/- The reference's arithmetic readings of a code byte and of a scale byte are the formats' own readings of the bits. -/
module

public import proofs.«01_k».proof.Proof.Hand.ValuePure

@[expose] public section

set_option maxRecDepth 8192
set_option maxHeartbeats 1000000

noncomputable section

namespace Cert.RefVal

open Idealize.ShloMosaic Cert.KernelIdeal.Hand

/-- The reference's byte `n` of a word: the word shifted right by `8n` bits, its low eight bits. -/
def refByte (w : BitVec 32) (n : ℕ) : BitVec 32 := IntOp.andi (IntOp.shrui .host w (IntOp.muli 8#32 (BitVec.ofNat 32 n))) 255#32

/-- It is the byte, widened. -/
theorem refByte_eq (w : BitVec 32) (n : ℕ) (hn : n < 4) : refByte w n = (byteOf w n).setWidth 32 := by
  have h : ∀ i : Fin 32, (255#32).getLsbD i.val = decide (i.val < 8) := by decide
  obtain rfl | rfl | rfl | rfl : n = 0 ∨ n = 1 ∨ n = 2 ∨ n = 3 := by omega
  all_goals
    apply BitVec.eq_of_getLsbD_eq
    intro i hi
    have := h ⟨i, hi⟩
    simp only [BitVec.getLsbD_eq_getElem hi] at this
    simp [refByte, byteOf, IntOp.andi, IntOp.shrui, IntOp.muli, this, BitVec.getLsbD_extractLsb', hi]
    by_cases h8 : i < 8 <;> simp [h8] at this ⊢ <;> simp [this]

/-- The reference's value of a code byte. -/
def codeVal (b : BitVec 32) : EReal :=
  Scalar.select (IntOp.cmpi .eq (IntOp.andi b 127#32) 127#32) (FloatOps.ofBits (F := Ideal) .f32 0x7FC00000#32)
    (Scalar.select (IntOp.cmpi .sge b 128#32) (FloatOps.ofBits (F := Ideal) .f32 0xBF800000#32) (FloatOps.ofBits (F := Ideal) .f32 0x3F800000#32)
      * ((FloatOps.sitofp (F := Ideal) .f32 (Scalar.select (IntOp.cmpi .eq (IntOp.andi (IntOp.shrsi .host b 3#32) 15#32) 0#32) (IntOp.andi b 7#32) (IntOp.addi (IntOp.andi b 7#32) 8#32)) : EReal)
        * FloatOps.hostPowf (F := Ideal) (FloatOps.ofBits (F := Ideal) .f32 0x40000000#32)
            (FloatOps.sitofp .f32 (IntOp.subi (IntOp.maxsi (IntOp.andi (IntOp.shrsi .host b 3#32) 15#32) 1#32) 10#32))))

/-- The reference's value of a scale byte. -/
def scaleVal (x : BitVec 32) : EReal :=
  Scalar.select (IntOp.cmpi .eq x 255#32) (FloatOps.ofBits (F := Ideal) .f32 0x7F800000#32)
    (Scalar.select (IntOp.cmpi .eq x 0#32) (FloatOps.ofBits (F := Ideal) .f32 0x00000000#32)
      (FloatOps.hostPowf (F := Ideal) (FloatOps.ofBits (F := Ideal) .f32 0x40000000#32) (FloatOps.sitofp .f32 (IntOp.subi x 127#32))))

theorem two_bits : Ideal.ofBits .f32 0x40000000#32 = ((2 : ℝ) : EReal) := by
  simp [Ideal.ofBits, Ideal.ieee]; rw [← EReal.coe_mul]; norm_num
theorem one_bits : Ideal.ofBits .f32 0x3F800000#32 = ((1 : ℝ) : EReal) := by
  simp [Ideal.ofBits, Ideal.ieee]; rw [← EReal.coe_mul]; norm_num
theorem neg_bits : Ideal.ofBits .f32 0xBF800000#32 = ((-1 : ℝ) : EReal) := by
  simp [Ideal.ofBits, Ideal.ieee]; rw [← EReal.coe_mul]; norm_num
theorem zero_bits : Ideal.ofBits .f32 0x00000000#32 = ((0 : ℝ) : EReal) := by
  simp [Ideal.ofBits, Ideal.ieee]
theorem nan_bits : Ideal.ofBits .f32 0x7FC00000#32 = (⊥ : EReal) := by
  simp [Ideal.ofBits, Ideal.ieee]
theorem inf_bits : Ideal.ofBits .f32 0x7F800000#32 = (⊤ : EReal) := by
  simp [Ideal.ofBits, Ideal.ieee]
theorem ninf_bits : Ideal.ofBits .f32 0xFF800000#32 = (⊥ : EReal) := by
  simp [Ideal.ofBits, Ideal.ieee]

/-- Two to an integer power, as the power function computes it. -/
theorem pow_two_int (z : ℤ) : Ideal.pow ((2 : ℝ) : EReal) (((z : ℤ) : ℝ) : EReal) = (((2 : ℝ) ^ z : ℝ) : EReal) := by
  show ((Real.rpow 2 (z : ℝ) : ℝ) : EReal) = _
  exact congrArg _ (Real.rpow_intCast 2 z)

theorem code_nan : ∀ b : BitVec 8, IntOp.cmpi .eq (IntOp.andi (b.setWidth 32) 127#32) 127#32
    = BitVec.ofBool (decide ((b.extractLsb' 3 4).toNat = 15 ∧ (b.extractLsb' 0 3).toNat = 7)) := by decide +kernel
theorem code_neg : ∀ b : BitVec 8, IntOp.cmpi .sge (b.setWidth 32) 128#32 = BitVec.ofBool (b.extractLsb' 7 1 == 1#1) := by decide +kernel
theorem code_man : ∀ b : BitVec 8, (Scalar.select (IntOp.cmpi .eq (IntOp.andi (IntOp.shrsi .host (b.setWidth 32) 3#32) 15#32) 0#32) (IntOp.andi (b.setWidth 32) 7#32)
      (IntOp.addi (IntOp.andi (b.setWidth 32) 7#32) 8#32)).toInt
    = if (b.extractLsb' 3 4).toNat = 0 then ((b.extractLsb' 0 3).toNat : ℤ) else ((8 + (b.extractLsb' 0 3).toNat : ℕ) : ℤ) := by decide +kernel
theorem code_exp : ∀ b : BitVec 8, (IntOp.subi (IntOp.maxsi (IntOp.andi (IntOp.shrsi .host (b.setWidth 32) 3#32) 15#32) 1#32) 10#32).toInt
    = if (b.extractLsb' 3 4).toNat = 0 then (-9 : ℤ) else ((b.extractLsb' 3 4).toNat : ℤ) - 10 := by decide +kernel

theorem select_ofBool {α : Type} (p : Bool) (a b : α) : Scalar.select (BitVec.ofBool p) a b = if p then a else b := by
  cases p <;> rfl

theorem sitofp_int (b : BitVec 32) : FloatOps.sitofp (F := Ideal) .f32 b = (((b.toInt : ℤ) : ℝ) : EReal) := rfl

/-- The reference's value of a code byte is the format's. -/
theorem codeVal_eq (b : BitVec 8) : codeVal (b.setWidth 32) = Ideal.ofBits .fp8e4m3 b := by
  unfold codeVal
  rw [code_nan, code_neg, select_ofBool, select_ofBool, sitofp_int, sitofp_int, code_man, code_exp]
  simp only [Ideal.ofBits_def, Ideal.hostPowf_def, two_bits, one_bits, neg_bits, nan_bits, pow_two_int]
  show _ = Ideal.e4m3fn b
  unfold Ideal.e4m3fn
  dsimp only
  by_cases hn : (b.extractLsb' 3 4).toNat = 15 ∧ (b.extractLsb' 0 3).toNat = 7
  · simp only [hn, and_self, decide_true, if_true]
  · rw [if_neg (by simpa using hn), if_neg hn]
    by_cases h0 : (b.extractLsb' 3 4).toNat = 0
    · simp only [if_pos h0]
      cases (b.extractLsb' 7 1 == 1#1) <;> simp only [if_true, Bool.false_eq_true, if_false] <;> rw [← EReal.coe_mul, ← EReal.coe_mul] <;> congr 1 <;> push_cast <;> ring
    · simp only [if_neg h0]
      cases (b.extractLsb' 7 1 == 1#1) <;> simp only [if_true, Bool.false_eq_true, if_false] <;> rw [← EReal.coe_mul, ← EReal.coe_mul] <;> congr 1 <;> push_cast <;> ring

theorem scale_sub : ∀ b : BitVec 8, (IntOp.subi (b.setWidth 32) 127#32).toInt = (b.toNat : ℤ) - 127 := by decide +kernel
theorem scale_inf : ∀ b : BitVec 8, IntOp.cmpi .eq (b.setWidth 32) 255#32 = BitVec.ofBool (decide (b.toNat = 255)) := by decide +kernel
theorem scale_zero : ∀ b : BitVec 8, IntOp.cmpi .eq (b.setWidth 32) 0#32 = BitVec.ofBool (decide (b.toNat = 0)) := by decide +kernel
theorem scale_neg : ∀ b : BitVec 8, ((((b.setWidth 32) <<< 23) : BitVec 32).extractLsb' 31 1 == 1#1) = false := by decide +kernel
theorem scale_ex : ∀ b : BitVec 8, ((((b.setWidth 32) <<< 23) : BitVec 32).extractLsb' 23 8).toNat = b.toNat := by decide +kernel
theorem scale_fr : ∀ b : BitVec 8, ((((b.setWidth 32) <<< 23) : BitVec 32).extractLsb' 0 23).toNat = 0 := by decide +kernel

/-- The reference's value of a scale byte is that of the f32 word with the byte as exponent. -/
theorem scaleVal_eq (b : BitVec 8) : scaleVal (b.setWidth 32) = Ideal.ofBits .f32 ((b.setWidth 32 : BitVec 32) <<< 23) := by
  unfold scaleVal
  rw [scale_inf, scale_zero, select_ofBool, select_ofBool, sitofp_int, scale_sub]
  simp only [Ideal.ofBits_def, Ideal.hostPowf_def, two_bits, zero_bits, inf_bits, pow_two_int]
  show _ = Ideal.ieee 8 23 _
  unfold Ideal.ieee
  dsimp only
  rw [scale_neg, scale_ex, scale_fr]
  by_cases h1 : b.toNat = 255
  · simp [h1]
  · by_cases h0 : b.toNat = 0
    · simp [h0]
    · have e : (2 : ℝ) ^ ((b.toNat : ℤ) - 127) = 2 ^ 23 * 2 ^ ((b.toNat : ℤ) - (2 ^ (8 - 1) - 1) - (23 : ℕ)) := by
        rw [show ((b.toNat : ℤ) - 127) = 23 + ((b.toNat : ℤ) - (2 ^ (8 - 1) - 1) - (23 : ℕ)) by norm_num, zpow_add₀ (by norm_num)]
        norm_cast
      simp only [h1, h0, decide_false, Bool.false_eq_true, if_false, e]
      rw [if_neg (show ¬ b.toNat = 2 ^ 8 - 1 from h1)]
      norm_num

/-- A code byte that is not the NaN has a real value. -/
theorem code_real (b : BitVec 8) (h : IntOp.cmpi .ne (IntOp.andi (b.setWidth 32) 127#32) 127#32 = 1#1) : ∃ r : ℝ, Ideal.ofBits .fp8e4m3 b = (r : EReal) := by
  have e : ∀ b : BitVec 8, IntOp.cmpi .ne (IntOp.andi (b.setWidth 32) 127#32) 127#32
    = BitVec.ofBool (!decide ((b.extractLsb' 3 4).toNat = 15 ∧ (b.extractLsb' 0 3).toNat = 7)) := by decide +kernel
  rw [e] at h
  show ∃ r : ℝ, Ideal.e4m3fn b = (r : EReal)
  unfold Ideal.e4m3fn
  dsimp only
  by_cases hn : (b.extractLsb' 3 4).toNat = 15 ∧ (b.extractLsb' 0 3).toNat = 7
  · simp [hn] at h
  · rw [if_neg hn]; split <;> exact ⟨_, rfl⟩

/-- A scale byte below 255 has a real value. -/
theorem scale_real (b : BitVec 8) (h : IntOp.cmpi .ne (b.setWidth 32) 255#32 = 1#1) : ∃ r : ℝ, Ideal.ofBits .f32 ((b.setWidth 32 : BitVec 32) <<< 23) = (r : EReal) := by
  have e : ∀ b : BitVec 8, IntOp.cmpi .ne (b.setWidth 32) 255#32 = BitVec.ofBool (!decide (b.toNat = 255)) := by decide +kernel
  rw [e] at h
  show ∃ r : ℝ, Ideal.ieee 8 23 _ = (r : EReal)
  unfold Ideal.ieee
  dsimp only
  rw [scale_neg, scale_ex, scale_fr]
  by_cases h1 : b.toNat = 255
  · simp [h1] at h
  · simp only [show (2 ^ 8 - 1 : ℕ) = 255 from rfl, if_neg h1]; split <;> exact ⟨_, rfl⟩

/-- The zero code has value zero. -/
theorem code_zero : Ideal.ofBits .fp8e4m3 (0#8) = (0 : EReal) := by
  simp [Ideal.ofBits, Ideal.e4m3fn]

/-- The target's exponent: the top byte of the word, moved to the exponent's place. -/
theorem top_shift (w : BitVec 32) : (w >>> 24) <<< 23 = ((byteOf w 3).setWidth 32 : BitVec 32) <<< 23 := by
  congr 1
  apply BitVec.eq_of_getLsbD_eq
  intro i hi
  simp [byteOf, BitVec.getLsbD_extractLsb', hi]
  intro h
  by_contra h2
  rw [BitVec.getLsbD_of_ge _ _ (by omega)] at h
  exact absurd h (by simp)

theorem top_eq (w : BitVec 32) : IntOp.shrui .host w 24#32 = (byteOf w 3).setWidth 32 := by
  apply BitVec.eq_of_getLsbD_eq
  intro i hi
  simp [IntOp.shrui, byteOf, BitVec.getLsbD_extractLsb', hi]
  intro h
  by_contra h2
  rw [BitVec.getLsbD_of_ge _ _ (by omega)] at h
  exact absurd h (by simp)

/-- A key's exponent: byte `t` of the word, moved to the exponent's place. -/
theorem byte_shift (w : BitVec 32) (t : ℕ) (ht : t < 4) : ((w >>> (8 * t)) <<< 23) &&& 2139095040#32 = ((byteOf w t).setWidth 32 : BitVec 32) <<< 23 := by
  have h : ∀ i : Fin 32, (2139095040#32).getLsbD i.val = decide (23 ≤ i.val ∧ i.val < 31) := by decide
  apply BitVec.eq_of_getLsbD_eq
  intro i hi
  have := h ⟨i, hi⟩
  simp only [BitVec.getLsbD_eq_getElem hi] at this
  simp [this, byteOf, BitVec.getLsbD_extractLsb', hi]
  by_cases h1 : i < 23
  · simp [h1]
  · by_cases h2 : i < 31
    · simp [h1, h2, show 23 ≤ i by omega, show i - 23 < 8 by omega]
    · simp [h1, h2, show ¬ i - 23 < 8 by omega]

/-- The three low bytes of a masked word are the word's; the top one is zero. -/
theorem byte_mask (w : BitVec 32) (n : ℕ) (hn : n < 4) : byteOf (w &&& 16777215#32) n = if n = 3 then 0#8 else byteOf w n := by
  have h : ∀ i : Fin 32, (16777215#32).getLsbD i.val = decide (i.val < 24) := by decide
  apply BitVec.eq_of_getLsbD_eq
  intro i hi
  have := h ⟨8 * n + i, by omega⟩
  simp only at this
  by_cases h3 : n = 3
  · rw [if_pos h3, byteOf, BitVec.getLsbD_extractLsb', BitVec.getLsbD_and, this]
    simp [show ¬ 8 * n + i < 24 by omega]
  · rw [if_neg h3, byteOf, byteOf, BitVec.getLsbD_extractLsb', BitVec.getLsbD_extractLsb', BitVec.getLsbD_and, this]
    simp [show 8 * n + i < 24 by omega]

theorem byte_zero (w : BitVec 32) (n : ℕ) : byteOf (w &&& 0#32) n = 0#8 := by
  simp [byteOf]

end Cert.RefVal

end
-- ==== Proof.Hand.RefIndex.lean ====
/- The reference's arrays at an index: its bytes, codes, scales and scores, over the argument words. -/
module

public import proofs.«01_k».proof.Proof.Hand.RefBytes
public import proofs.«01_k».proof.Proof.Gen.ReferenceIdeal.Read

@[expose] public section

set_option maxRecDepth 8192
set_option maxHeartbeats 1000000

noncomputable section

namespace Cert.RefVal

open Idealize.ShloMosaic Cert.KernelIdeal.Hand Cert.ReferenceIdeal Cert.ReferenceIdeal.Read

variable (C : S24576.Idx → BitVec 32) (K : S1572864x128.Idx → BitVec 32) (E : S24576x256.Idx → BitVec 32) (Q : S24576x128.Idx → BitVec 32)

/-- The word of a packed row that holds channel `c` of every block. -/
def word (c : Fin 32) : Fin 32 := ⟨8 * (c.val % 4) + c.val / 4, by omega⟩

/-- The word of key `key` of user `U` at place `w` of its row. -/
def keyWord (U : Fin 24576) (key : Fin 256) (w : Fin 32) : BitVec 32 :=
  K (ix2 ⟨64 * U.val + key.val / 4, by omega⟩ ⟨32 * (key.val % 4) + w.val, by omega⟩)

/-- The word of the target row of user `U` at place `w`. -/
def tgtWord (U : Fin 24576) (w : Fin 32) : BitVec 32 := Q (ix2 U ⟨w.val, by omega⟩)

/-- The word that holds the scale of key `key` of user `U` in block `n`. -/
def sclWord (U : Fin 24576) (key : Fin 256) (n : Fin 3) : BitVec 32 := E (ix2 U ⟨4 * (key.val / 4) + n.val, by omega⟩)

/-- The target's code bytes. -/
theorem bytes_q (U : Fin 24576) (n : Fin 3) (c : Fin 32) :
    val_main_v11 (F := Ideal) Q (ix3 U n c) = refByte (tgtWord Q U (word c)) n.val := by
  have e11 : idx_main_v11 (ix3 U n c) = ix4 U n (⟨c.val / 4, by omega⟩ : Fin 8) (⟨c.val % 4, by omega⟩ : Fin 4) := by
    funext a
    match a with
    | ⟨0, _⟩ => apply Fin.ext; simp; omega
    | ⟨1, _⟩ => apply Fin.ext; simp; omega
    | ⟨2, _⟩ => apply Fin.ext; simp; omega
    | ⟨3, _⟩ => apply Fin.ext; simp; omega
  have e10 : idx_main_v10 (ix4 U n (⟨c.val / 4, by omega⟩ : Fin 8) (⟨c.val % 4, by omega⟩ : Fin 4)) = ix4 U n (⟨c.val % 4, by omega⟩ : Fin 4) (⟨c.val / 4, by omega⟩ : Fin 8) := by
    funext a
    match a with
    | ⟨0, _⟩ => rfl
    | ⟨1, _⟩ => rfl
    | ⟨2, _⟩ => rfl
    | ⟨3, _⟩ => rfl
  have e9 : ∀ (p : Fin 4) (q : Fin 8), idx_main_v9 (ix4 U n p q) = ix3 U n (⟨8 * p.val + q.val, by omega⟩ : Fin 32) := by
    intro p q
    funext a
    match a with
    | ⟨0, _⟩ => apply Fin.ext; simp; omega
    | ⟨1, _⟩ => apply Fin.ext; simp; omega
    | ⟨2, _⟩ => apply Fin.ext; simp; omega
  rw [val_main_v11_apply, e11, val_main_v10_apply, e10, val_main_v9_apply, e9, val_main_v8_apply, val_main_v6_apply, val_main_v3_apply, val_main_v2_apply, val_main_v0_apply]
  unfold refByte tgtWord
  refine congrArg₂ IntOp.andi (congrArg₂ (IntOp.shrui .host) (congrArg Q ?_) ?_) ?_
  · funext a
    match a with
    | ⟨0, _⟩ => rfl
    | ⟨1, _⟩ => rfl
  · rw [val_main_v5_apply, val_main_v4_apply, val_main_c_apply, val_main_v1_apply]
    rfl
  · rw [val_main_v7_apply, val_main_c_0_apply]

/-- The keys' code bytes. -/
theorem bytes_k (U : Fin 24576) (key : Fin 256) (n : Fin 3) (c : Fin 32) :
    val_main_v72 (F := Ideal) K (ix4 U key n c) = refByte (keyWord K U key (word c)) n.val := by
  have h8 : c.val / 4 < 8 := by omega
  have e72 : idx_main_v72 (ix4 U key n c) = ix5 U key n (⟨c.val / 4, by omega⟩ : Fin 8) (⟨c.val % 4, by omega⟩ : Fin 4) := by
    funext a
    match a with
    | ⟨0, _⟩ => apply Fin.ext; simp; omega
    | ⟨1, _⟩ => apply Fin.ext; simp; omega
    | ⟨2, _⟩ => apply Fin.ext; simp; omega
    | ⟨3, _⟩ => apply Fin.ext; simp; omega
    | ⟨4, _⟩ => apply Fin.ext; simp; omega
  have e71 : idx_main_v71 (ix5 U key n (⟨c.val / 4, by omega⟩ : Fin 8) (⟨c.val % 4, by omega⟩ : Fin 4)) = ix5 U key n (⟨c.val % 4, by omega⟩ : Fin 4) (⟨c.val / 4, by omega⟩ : Fin 8) := by
    funext a
    match a with
    | ⟨0, _⟩ => rfl
    | ⟨1, _⟩ => rfl
    | ⟨2, _⟩ => rfl
    | ⟨3, _⟩ => rfl
    | ⟨4, _⟩ => rfl
  have e70 : ∀ (p : Fin 4) (q : Fin 8), idx_main_v70 (ix5 U key n p q) = ix4 U key n (⟨8 * p.val + q.val, by omega⟩ : Fin 32) := by
    intro p q
    funext a
    match a with
    | ⟨0, _⟩ => apply Fin.ext; simp; omega
    | ⟨1, _⟩ => apply Fin.ext; simp; omega
    | ⟨2, _⟩ => apply Fin.ext; simp; omega
    | ⟨3, _⟩ => apply Fin.ext; simp; omega
  rw [val_main_v72_apply, e72, val_main_v71_apply, e71, val_main_v70_apply, e70, val_main_v69_apply, val_main_v67_apply, val_main_v64_apply, val_main_v63_apply, val_main_v61_apply]
  unfold refByte keyWord
  refine congrArg₂ IntOp.andi (congrArg₂ (IntOp.shrui .host) (congrArg K ?_) ?_) ?_
  · change _ = ix2 (⟨64 * U.val + key.val / 4, _⟩ : Fin 1572864) (⟨32 * (key.val % 4) + (8 * (c.val % 4) + c.val / 4), _⟩ : Fin 128)
    have h4 : c.val % 4 < 4 := by omega
    generalize hw : (⟨8 * (c.val % 4) + c.val / 4, by omega⟩ : Fin 32) = w
    have hw' : 8 * (c.val % 4) + c.val / 4 = w.val := by rw [← hw]
    funext a
    match a with
    | ⟨0, _⟩ => apply Fin.ext; simp; omega
    | ⟨1, _⟩ => apply Fin.ext; simp; rw [hw']; omega
  · rw [val_main_v66_apply, val_main_v65_apply, val_main_c_21_apply, val_main_v62_apply]
    rfl
  · rw [val_main_v68_apply, val_main_c_22_apply]

/-- The keys' scale bytes. -/
theorem bytes_e (U : Fin 24576) (key : Fin 256) (n : Fin 3) :
    val_main_v113 (F := Ideal) E (ix3 U key n) = refByte (sclWord E U key n) (key.val % 4) := by
  rw [val_main_v113_apply, val_main_v112_apply, val_main_v111_apply, val_main_v109_apply, val_main_v106_apply, val_main_v105_apply]
  unfold refByte sclWord
  refine congrArg₂ IntOp.andi (congrArg₂ (IntOp.shrui .host) (congrArg E ?_) ?_) ?_
  · funext a
    match a with
    | ⟨0, _⟩ => apply Fin.ext; simp; omega
    | ⟨1, _⟩ => apply Fin.ext; simp; omega
  · rw [val_main_v108_apply, val_main_v107_apply, val_main_c_37_apply, val_main_v104_apply]
    congr 2
    simp; omega
  · rw [val_main_v110_apply, val_main_c_38_apply]

/-- The target's scale bytes. -/
theorem bytes_qs (U : Fin 24576) (n : Fin 3) :
    val_main_v44 (F := Ideal) Q (ix2 U n) = IntOp.shrui .host (tgtWord Q U ⟨n.val, by omega⟩) 24#32 := by
  rw [val_main_v44_apply, val_main_v42_apply, val_main_v43_apply, val_main_c_14_apply]
  unfold tgtWord
  refine congrArg₂ (IntOp.shrui .host) (congrArg Q ?_) rfl
  funext a
  match a with
  | ⟨0, _⟩ => rfl
  | ⟨1, _⟩ => rfl

/-- The code of a target byte, of a key byte, and the scales. -/
def tgtCode (U : Fin 24576) (n : Fin 3) (w : Fin 32) : EReal := Ideal.ofBits .fp8e4m3 (byteOf (tgtWord Q U w) n.val)
def tgtScale (U : Fin 24576) (n : Fin 3) : EReal := Ideal.ofBits .f32 (((byteOf (tgtWord Q U ⟨n.val, by omega⟩) 3).setWidth 32 : BitVec 32) <<< 23)
def keyCode (U : Fin 24576) (key : Fin 256) (n : Fin 3) (w : Fin 32) : EReal := Ideal.ofBits .fp8e4m3 (byteOf (keyWord K U key w) n.val)
def keyScale (U : Fin 24576) (key : Fin 256) (n : Fin 3) : EReal := Ideal.ofBits .f32 (((byteOf (sclWord E U key n) (key.val % 4)).setWidth 32 : BitVec 32) <<< 23)

theorem v41_code (i : S24576x3x32.Idx) : val_main_v41 (F := Ideal) Q i = codeVal (val_main_v11 (F := Ideal) Q i) := by
  simp only [val_main_v41_apply, val_main_v40_apply, val_main_v39_apply, val_main_v38_apply, val_main_v37_apply, val_main_v36_apply, val_main_v35_apply,
    val_main_v34_apply, val_main_v33_apply, val_main_v32_apply, val_main_v31_apply, val_main_v30_apply, val_main_v29_apply, val_main_v28_apply,
    val_main_v27_apply, val_main_v26_apply, val_main_v25_apply, val_main_v24_apply, val_main_v23_apply, val_main_v22_apply, val_main_v21_apply,
    val_main_v20_apply, val_main_v19_apply, val_main_v18_apply, val_main_v17_apply, val_main_v16_apply, val_main_v15_apply, val_main_v14_apply,
    val_main_v13_apply, val_main_v12_apply, val_main_call0_v0_apply, val_main_call0_v1_apply, val_main_call2_v1_apply, val_main_call2_v0_apply,
    val_main_c_1_apply, val_main_c_2_apply, val_main_c_3_apply, val_main_c_4_apply, val_main_c_6_apply, val_main_c_7_apply, val_main_c_8_apply,
    val_main_c_9_apply, val_main_c_11_apply, val_main_c_12_apply, val_main_cst_apply, val_main_cst_5_apply, val_main_cst_10_apply, val_main_cst_13_apply]
  rfl

theorem v102_code (i : S24576x256x3x32.Idx) : val_main_v102 (F := Ideal) K i = codeVal (val_main_v72 (F := Ideal) K i) := by
  simp only [val_main_v102_apply, val_main_v101_apply, val_main_v100_apply, val_main_v99_apply, val_main_v98_apply, val_main_v97_apply, val_main_v96_apply,
    val_main_v95_apply, val_main_v94_apply, val_main_v93_apply, val_main_v92_apply, val_main_v91_apply, val_main_v90_apply, val_main_v89_apply,
    val_main_v88_apply, val_main_v87_apply, val_main_v86_apply, val_main_v85_apply, val_main_v84_apply, val_main_v83_apply, val_main_v82_apply,
    val_main_v81_apply, val_main_v80_apply, val_main_v79_apply, val_main_v78_apply, val_main_v77_apply, val_main_v76_apply, val_main_v75_apply,
    val_main_v74_apply, val_main_v73_apply, val_main_call5_v0_apply, val_main_call5_v1_apply, val_main_call7_v1_apply, val_main_call7_v0_apply,
    val_main_c_23_apply, val_main_c_24_apply, val_main_c_25_apply, val_main_c_26_apply, val_main_c_29_apply, val_main_c_30_apply, val_main_c_31_apply,
    val_main_c_32_apply, val_main_c_34_apply, val_main_c_35_apply, val_main_cst_27_apply, val_main_cst_28_apply, val_main_cst_33_apply, val_main_cst_36_apply]
  rfl

theorem v55_scale (i : S24576x3.Idx) : val_main_v55 (F := Ideal) Q i = scaleVal (val_main_v44 (F := Ideal) Q i) := by
  simp only [val_main_v55_apply, val_main_v54_apply, val_main_v53_apply, val_main_v52_apply, val_main_v51_apply, val_main_v50_apply, val_main_v49_apply,
    val_main_v48_apply, val_main_v47_apply, val_main_v46_apply, val_main_v45_apply, val_main_call3_v1_apply, val_main_call3_v0_apply,
    val_main_call4_v1_apply, val_main_call4_v0_apply, val_main_c_15_apply, val_main_c_16_apply, val_main_c_19_apply, val_main_cst_17_apply,
    val_main_cst_18_apply, val_main_cst_20_apply]
  rfl

theorem v124_scale (i : S24576x256x3.Idx) : val_main_v124 (F := Ideal) E i = scaleVal (val_main_v113 (F := Ideal) E i) := by
  simp only [val_main_v124_apply, val_main_v123_apply, val_main_v122_apply, val_main_v121_apply, val_main_v120_apply, val_main_v119_apply, val_main_v118_apply,
    val_main_v117_apply, val_main_v116_apply, val_main_v115_apply, val_main_v114_apply, val_main_call8_v1_apply, val_main_call8_v0_apply,
    val_main_call9_v1_apply, val_main_call9_v0_apply, val_main_c_39_apply, val_main_c_40_apply, val_main_c_43_apply, val_main_cst_41_apply,
    val_main_cst_42_apply, val_main_cst_44_apply]
  rfl

/-- The reference's key codes at an index. -/
theorem v103_at (U : Fin 24576) (key : Fin 256) (n : Fin 3) (c : Fin 32) :
    val_main_v103 (F := Ideal) K (ix4 U key n c) = keyCode K U key n (word c) := by
  rw [val_main_v103_apply]
  show val_main_v102 (F := Ideal) K (ix4 U key n c) = _
  rw [v102_code, bytes_k, refByte_eq _ _ (by omega), codeVal_eq]
  rfl

/-- The reference's scaled target at an index. -/
theorem v60_at (U : Fin 24576) (n : Fin 3) (c : Fin 32) :
    val_main_v60 (F := Ideal) Q (ix3 U n c) = tgtCode Q U n (word c) * tgtScale Q U n := by
  rw [val_main_v60_apply, val_main_v56_apply, val_main_v59_apply, val_main_v58_apply, val_main_v57_apply]
  have e : idx_main_v58 (idx_main_v59 (ix3 U n c)) = ix2 U n := by
    funext a
    match a with
    | ⟨0, _⟩ => rfl
    | ⟨1, _⟩ => rfl
  rw [e]
  show val_main_v41 (F := Ideal) Q (ix3 U n c) * val_main_v55 (F := Ideal) Q (ix2 U n) = _
  rw [v41_code, bytes_q, refByte_eq _ _ (by omega), codeVal_eq, v55_scale, bytes_qs, top_eq, scaleVal_eq]
  rfl

/-- The reference's key scales at an index. -/
theorem v124_at (U : Fin 24576) (key : Fin 256) (n : Fin 3) : val_main_v124 (F := Ideal) E (ix3 U key n) = keyScale E U key n := by
  rw [v124_scale, bytes_e, refByte_eq _ _ (by omega), scaleVal_eq]
  rfl

/-- Key `key` of user `U` counts. -/
def Valid (U : Fin 24576) (key : Fin 256) : Prop := (BitVec.ofNat 32 key.val).slt (C (ix1 U)) = true

instance (U : Fin 24576) (key : Fin 256) : Decidable (Valid C U key) := inferInstanceAs (Decidable (_ = true))

theorem v130_at (U : Fin 24576) (key : Fin 256) : val_main_v130 (F := Ideal) C (ix2 U key) = BitVec.ofBool (decide (Valid C U key)) := by
  rw [val_main_v130_apply, val_main_v128_apply, val_main_v126_apply, val_main_v125_apply, val_main_v129_apply, val_main_v127_apply]
  have e : idx_main_v127 (idx_main_v129 (ix2 U key)) = ix1 U := by
    funext a
    match a with
    | ⟨0, _⟩ => rfl
  rw [e]
  show BitVec.ofBool ((BitVec.ofNat 32 key.val).slt (C (ix1 U))) = _
  congr 1
  cases h : (BitVec.ofNat 32 key.val).slt (C (ix1 U)) <;> simp [Valid, h]

/-- A bijection of the channels of a block with the words of a row. -/
def wordEquiv : Fin 32 ≃ Fin 32 where
  toFun := word
  invFun w := ⟨4 * (w.val % 8) + w.val / 8, by omega⟩
  left_inv := by decide
  right_inv := by decide

/-- The score of a key before the keys that do not count are left out. -/
def rawScore (U : Fin 24576) (key : Fin 256) : EReal :=
  (∑ n : Fin 3, (∑ w : Fin 32, keyCode K U key n w * (tgtCode Q U n w * tgtScale Q U n)) * keyScale E U key n) * Ideal.ofBits .f32 0x3DD105EC#32

theorem v136_at (U : Fin 24576) (key : Fin 256) : val_main_v136 (F := Ideal) K E Q (ix2 U key) = rawScore K E Q U key := by
  rw [val_main_v136_apply, val_main_v135_apply, val_main_cst_46_apply, val_main_v134_apply, val_main_cst_45_apply]
  unfold rawScore
  show ((Ideal.ofBits .f32 0x00000000#32 : EReal) + _) * (Ideal.ofBits .f32 0x3DD105EC#32 : EReal) = _
  rw [zero_bits, EReal.coe_zero, zero_add]
  congr 1
  refine Finset.sum_congr rfl fun n _ => ?_
  have e : idx_main_v134 (ix2 U key) n = ix3 U key n := by
    funext a
    match a with
    | ⟨0, _⟩ => rfl
    | ⟨1, _⟩ => rfl
    | ⟨2, _⟩ => rfl
  rw [e, val_main_v133_apply, val_main_v132_apply, v124_at, val_main_v131_apply]
  show (_ : EReal) * _ = _
  congr 1
  refine Fintype.sum_equiv wordEquiv _ _ fun c => ?_
  have el : lidx_main_v131 (idx_main_v132 (ix3 U key n)) c = ix4 U key n c := by
    funext a
    match a with
    | ⟨0, _⟩ => rfl
    | ⟨1, _⟩ => rfl
    | ⟨2, _⟩ => rfl
    | ⟨3, _⟩ => rfl
  have er : ridx_main_v131 (idx_main_v132 (ix3 U key n)) c = ix3 U n c := by
    funext a
    match a with
    | ⟨0, _⟩ => rfl
    | ⟨1, _⟩ => rfl
    | ⟨2, _⟩ => rfl
  rw [el, er, v103_at, v60_at]
  rfl

end Cert.RefVal

end
-- ==== Proof.Hand.RefKernel.lean ====
/- The kernel's scores, scales and codes of a user, over the argument words. -/
module

public import proofs.«01_k».proof.Proof.Hand.RefIndex
public import proofs.«01_k».proof.Proof.Hand.ValueFrame

@[expose] public section

set_option maxRecDepth 8192
set_option maxHeartbeats 1000000

noncomputable section

namespace Cert.RefVal

open Idealize.ShloMosaic Cert.KernelIdeal.Hand Cert.KernelIdeal.Val Cert.ReferenceIdeal

variable (C : S24576.Idx → BitVec 32) (K : S1572864x128.Idx → BitVec 32) (E : S24576x256.Idx → BitVec 32) (Q : S24576x128.Idx → BitVec 32)

/-- User `u` of block `s`. -/
def user (s : Fin 192) (u : Fin 128) : Fin 24576 := ⟨128 * s.val + u.val, by omega⟩

/-- The target's row is four copies of its first thirty-two words. -/
def Copies : Prop := ∀ (U : Fin 24576) (k : Fin 4) (w : Fin 32), Q (ix2 U ⟨32 * k.val + w.val, by omega⟩) = tgtWord Q U w

/-- The word of the block that a code is read from is the user's key's. -/
theorem block_word (s : Fin 192) (u : Fin 128) (key : Fin 256) (w : Fin 32) (g : Fin 64) (l : Fin 128)
    (hg : g.val = key.val / 4) (hl : l.val = 32 * (key.val % 4) + w.val) :
    keyBlk K s (ix2 ⟨64 * u.val + g.val, by omega⟩ l) = keyWord K (user s u) key w := by
  unfold keyBlk keyWord user
  refine congrArg K ?_
  funext a
  match a with
  | ⟨0, _⟩ => apply Fin.ext; simp; omega
  | ⟨1, _⟩ => apply Fin.ext; simp; omega

/-- A code of a key that counts. -/
theorem code_valid (s : Fin 192) (u : Fin 128) (key : Fin 256) (w : Fin 32) (g : Fin 64) (l : Fin 128)
    (hg : g.val = key.val / 4) (hl : l.val = 32 * (key.val % 4) + w.val) (hv : Valid C (user s u) key) (n : Fin 3) :
    codeOf C (keyBlk K s) s u g l n.val = keyCode K (user s u) key n w := by
  unfold codeOf keyCode
  rw [block_word K s u key w g l hg hl, show 4 * g.val + l.val / 32 = key.val by omega]
  unfold keepWord
  rw [if_pos (show (BitVec.ofNat 32 key.val).slt (C (ix1 ⟨128 * s.val + u.val, by omega⟩)) = true from hv), byte_mask _ _ (by omega), if_neg (by omega)]

/-- The unused byte is the zero code. -/
theorem code_last (s : Fin 192) (u : Fin 128) (g : Fin 64) (l : Fin 128) : codeOf C (keyBlk K s) s u g l 3 = 0 := by
  unfold codeOf keepWord
  split
  · rw [byte_mask _ _ (by omega), if_pos rfl, code_zero]
  · rw [byte_zero, code_zero]

/-- A code of a key that does not count is zero. -/
theorem code_invalid (s : Fin 192) (u : Fin 128) (key : Fin 256) (w : Fin 32) (g : Fin 64) (l : Fin 128)
    (hg : g.val = key.val / 4) (hl : l.val = 32 * (key.val % 4) + w.val) (hv : ¬ Valid C (user s u) key) (n : ℕ) :
    codeOf C (keyBlk K s) s u g l n = 0 := by
  unfold codeOf
  rw [show 4 * g.val + l.val / 32 = key.val by omega]
  unfold keepWord
  rw [if_neg (show ¬ (BitVec.ofNat 32 key.val).slt (C (ix1 ⟨128 * s.val + u.val, by omega⟩)) = true from hv), byte_zero, code_zero]

/-- The target's scaled codes. -/
theorem qn_at (hQ : Copies Q) (s : Fin 192) (u : Fin 128) (n : Fin 3) (k : Fin 4) (w : Fin 32) :
    qnOf (tgtBlk Q s) (ix3 n u ⟨32 * k.val + w.val, by omega⟩) = tgtCode Q (user s u) n w * tgtScale Q (user s u) n := by
  have h := hQ (user s u) k w
  unfold qnOf tgtCode tgtScale
  have e1 : tgtBlk Q s (ix2 u ⟨32 * k.val + w.val, by omega⟩) = tgtWord Q (user s u) w := h
  have e2 : tgtBlk Q s (ix2 u ⟨n.val, by omega⟩) = tgtWord Q (user s u) ⟨n.val, by omega⟩ := rfl
  show (Ideal.ofBits .fp8e4m3 (byteOf (tgtBlk Q s (ix2 u ⟨32 * k.val + w.val, by omega⟩) &&& 16777215#32) n.val) : EReal)
    * Ideal.ofBits .f32 ((tgtBlk Q s (ix2 u ⟨n.val, by omega⟩) >>> 24) <<< 23) = _
  rw [e1, e2, byte_mask _ _ (by omega), if_neg (by omega), top_shift]

/-- The partial products of a key that counts. -/
theorem part_at (hQ : Copies Q) (s : Fin 192) (u : Fin 128) (key : Fin 256) (hv : Valid C (user s u) key) (n : Fin 3) :
    blkPart C (keyBlk K s) (tgtBlk Q s) s (ix3 ⟨key.val / 128, by omega⟩ ⟨4 * u.val + key.val % 4, by omega⟩ ⟨4 * (key.val % 128 / 4) + n.val, by omega⟩)
      = ∑ w : Fin 32, keyCode K (user s u) key n w * (tgtCode Q (user s u) n w * tgtScale Q (user s u) n) := by
  unfold blkPart partOf
  refine Finset.sum_congr rfl fun w _ => ?_
  rw [mul_comm]
  have ep : ((4 * (key.val % 128 / 4) + n.val) % 4) = n.val := by omega
  have en : planeN n.val = n := Fin.ext (by show min n.val 2 = n.val; omega)
  have eu : ∀ p, (⟨(4 * u.val + key.val % 4) / 4, p⟩ : Fin 128) = u := fun p => Fin.ext (by show (4 * u.val + key.val % 4) / 4 = u.val; omega)
  have ek : ((4 * u.val + key.val % 4) % 4) = key.val % 4 := by omega
  simp only [ix3_0, ix3_1, ix3_2]
  simp only [ep, en, eu, ek]
  rw [code_valid C K s u key w _ _ (by show 32 * (key.val / 128) + (4 * (key.val % 128 / 4) + n.val) / 4 = key.val / 4; omega) rfl hv n]
  rw [← qn_at Q hQ s u n ⟨key.val % 4, by omega⟩ w]

theorem part_last (s : Fin 192) (u : Fin 128) (key : Fin 256) :
    blkPart C (keyBlk K s) (tgtBlk Q s) s (ix3 ⟨key.val / 128, by omega⟩ ⟨4 * u.val + key.val % 4, by omega⟩ ⟨4 * (key.val % 128 / 4) + 3, by omega⟩) = 0 := by
  unfold blkPart partOf
  refine Finset.sum_eq_zero fun w _ => ?_
  have ep : ((4 * (key.val % 128 / 4) + 3) % 4) = 3 := by omega
  simp only [ix3_0, ix3_1, ix3_2]
  simp only [ep, code_last, mul_zero]

/-- The kernel's scales. -/
theorem scale_at (s : Fin 192) (u : Fin 128) (key : Fin 256) (n : Fin 3) :
    scaleK (blkCn C s) (expBlk E s) u key n.castSucc = if Valid C (user s u) key then keyScale E (user s u) key n else 0 := by
  unfold scaleK
  by_cases hv : Valid C (user s u) key
  · rw [if_pos hv, if_pos (show (BitVec.ofNat 32 key.val).slt (blkCn C s u) = true from hv), byte_shift _ _ (by omega)]
    rfl
  · rw [if_neg hv, if_neg (show ¬ (BitVec.ofNat 32 key.val).slt (blkCn C s u) = true from hv)]

/-- The scores of a user, the keys that do not count left out. -/
def score (U : Fin 24576) (key : Fin 256) : EReal := if Valid C U key then rawScore K E Q U key else ⊥

/-- The kernel's scores. -/
theorem score_at (hQ : Copies Q) (s : Fin 192) (u : Fin 128) :
    scoreK (blkCn C s) (expBlk E s) (blkPart C (keyBlk K s) (tgtBlk Q s) s) u = score C K E Q (user s u) := by
  funext key
  unfold scoreK score
  by_cases hv : Valid C (user s u) key
  · rw [if_pos hv, if_pos (show (BitVec.ofNat 32 key.val).slt (blkCn C s u) = true from hv)]
    unfold rawScore
    congr 1
    rw [Fin.sum_univ_castSucc]
    have hl := part_last C K Q s u key
    simp only [Fin.val_last]
    rw [hl, zero_mul, add_zero]
    refine Finset.sum_congr rfl fun n _ => ?_
    rw [scale_at, if_pos hv]
    simp only [Fin.val_castSucc]
    rw [part_at C K Q hQ s u key hv n]
  · rw [if_neg hv, if_neg (show ¬ (BitVec.ofNat 32 key.val).slt (blkCn C s u) = true from hv)]

/-- The kernel's weight of a key. -/
theorem outW_eq (hQ : Copies Q) (U : Fin 24576) (key : Fin 256) : outW C K E Q (ix2 U key) = weightK (score C K E Q U) key := by
  have hU : U = user ⟨U.val / 128, by omega⟩ ⟨U.val % 128, by omega⟩ := Fin.ext (by show U.val = 128 * (U.val / 128) + U.val % 128; omega)
  rw [outW_at C K E Q ⟨U.val / 128, by omega⟩ (ix2 ⟨U.val % 128, by omega⟩ key) (ix2 U key) (by show U.val = 128 * (U.val / 128) + U.val % 128; omega) rfl]
  unfold blkW weightOf
  show weightK (scoreK _ _ _ (⟨U.val % 128, _⟩ : Fin 128)) key = _
  rw [score_at C K E Q hQ, ← hU]

/-- The keys, four to a line. -/
def lineKey : Fin 4 × Fin 64 ≃ Fin 256 where
  toFun p := ⟨4 * p.2.val + p.1.val, by omega⟩
  invFun k := (⟨k.val % 4, by omega⟩, ⟨k.val / 4, by omega⟩)
  left_inv p := Prod.ext (Fin.ext (by show (4 * p.2.val + p.1.val) % 4 = p.1.val; omega)) (Fin.ext (by show (4 * p.2.val + p.1.val) / 4 = p.2.val; omega))
  right_inv k := Fin.ext (by show 4 * (k.val / 4) + k.val % 4 = k.val; omega)

/-- The kernel's pooled channel. -/
theorem outT_eq (hQ : Copies Q) (U : Fin 24576) (n : Fin 3) (c : Fin 32) :
    outT C K E Q (ix2 ⟨32 * n.val + c.val, by omega⟩ U)
      = ∑ key : Fin 256, (weightK (score C K E Q U) key * (if Valid C U key then keyScale E U key n else 0)) * (if Valid C U key then keyCode K U key n (word c) else 0) := by
  obtain ⟨s, u, rfl⟩ : ∃ s u, U = user s u :=
    ⟨⟨U.val / 128, by omega⟩, ⟨U.val % 128, by omega⟩, Fin.ext (by show U.val = 128 * (U.val / 128) + U.val % 128; omega)⟩
  rw [outT_at C K E Q s (ix2 ⟨32 * n.val + c.val, by omega⟩ u) _ rfl rfl]
  have hc := (word c).isLt
  have el : laneBlock (32 * ((32 * n.val + c.val) / 32) + 8 * ((32 * n.val + c.val) % 4) + (32 * n.val + c.val) % 32 / 4) = n := by
    have h : (32 * ((32 * n.val + c.val) / 32) + 8 * ((32 * n.val + c.val) % 4) + (32 * n.val + c.val) % 32 / 4) / 32 = n.val := by
      have h1 : (32 * n.val + c.val) / 32 = n.val := by omega
      have h2 : 8 * ((32 * n.val + c.val) % 4) + (32 * n.val + c.val) % 32 / 4 = (word c).val := by show _ = 8 * (c.val % 4) + c.val / 4; omega
      rw [add_assoc, h1, h2]; omega
    unfold laneBlock
    rw [h]
    fin_cases n <;> rfl
  have em : (32 * ((32 * n.val + c.val) / 32) + 8 * ((32 * n.val + c.val) % 4) + (32 * n.val + c.val) % 32 / 4) % 32 = (word c).val := by
    have h1 : (32 * n.val + c.val) / 32 = n.val := by omega
    have h2 : 8 * ((32 * n.val + c.val) % 4) + (32 * n.val + c.val) % 32 / 4 = (word c).val := by show _ = 8 * (c.val % 4) + c.val / 4; omega
    rw [add_assoc, h1, h2]; omega
  unfold blkT pooledRows rowsOf blkO pooledOf
  simp only [ix2_0, ix2_1, ix4_0, ix4_1, ix4_2, ix4_3]
  simp only [el, em]
  rw [← Fintype.sum_prod_type', ← Equiv.sum_comp lineKey]
  refine Finset.sum_congr rfl fun p _ => ?_
  obtain ⟨k, g⟩ := p
  dsimp only
  unfold wkOf
  simp only [ix3_0, ix3_1, ix3_2]
  have e1 : ∀ q, (⟨(8 * ((4 * (u.val / 2) + k.val) / 4) + 4 * (u.val % 2) + (4 * (u.val / 2) + k.val) % 4) / 4, q⟩ : Fin 128) = u := fun q => Fin.ext (by
    show (8 * ((4 * (u.val / 2) + k.val) / 4) + 4 * (u.val % 2) + (4 * (u.val / 2) + k.val) % 4) / 4 = u.val; omega)
  have e2 : ∀ q1 q2 q3, keyOf (⟨g.val / 32, q1⟩ : Fin 2) (⟨(8 * ((4 * (u.val / 2) + k.val) / 4) + 4 * (u.val % 2) + (4 * (u.val / 2) + k.val) % 4) % 4, q2⟩ : Fin 4) (⟨4 * (g.val % 32) + n.val, q3⟩ : Fin 128) = lineKey (k, g) := fun q1 q2 q3 => Fin.ext (by
    show 128 * (g.val / 32) + 4 * ((4 * (g.val % 32) + n.val) / 4) + (8 * ((4 * (u.val / 2) + k.val) / 4) + 4 * (u.val % 2) + (4 * (u.val / 2) + k.val) % 4) % 4 = 4 * g.val + k.val; omega)
  have e3 : ∀ q, (⟨(4 * (g.val % 32) + n.val) % 4, q⟩ : Fin 4) = n.castSucc := fun q => Fin.ext (by show (4 * (g.val % 32) + n.val) % 4 = n.val; omega)
  have e4 : ∀ q, (⟨2 * ((4 * (u.val / 2) + k.val) / 4) + u.val % 2, q⟩ : Fin 128) = u := fun q => Fin.ext (by show 2 * ((4 * (u.val / 2) + k.val) / 4) + u.val % 2 = u.val; omega)
  simp only [e1, e2, e3, e4]
  rw [score_at C K E Q hQ, scale_at]
  congr 1
  have hg : g.val = (lineKey (k, g)).val / 4 := by show g.val = (4 * g.val + k.val) / 4; omega
  have hl : 32 * k.val + (word c).val = 32 * ((lineKey (k, g)).val % 4) + (word c).val := by
    show 32 * k.val + (word c).val = 32 * ((4 * g.val + k.val) % 4) + (word c).val; omega
  by_cases hv : Valid C (user s u) (lineKey (k, g))
  · rw [if_pos hv, code_valid C K s u (lineKey (k, g)) (word c) g _ hg hl hv n]
  · rw [if_neg hv, code_invalid C K s u (lineKey (k, g)) (word c) g _ hg hl hv n.val]

end Cert.RefVal

end
-- ==== Proof.Hand.RefSoft.lean ====
/- The reference's weights and pooled channels are the kernel's, under the precondition's facts. -/
module

public import proofs.«01_k».proof.Proof.Hand.RefKernel

@[expose] public section

set_option maxRecDepth 8192
set_option maxHeartbeats 1000000

noncomputable section

namespace Cert.RefVal

open Idealize.ShloMosaic Cert.KernelIdeal.Hand Cert.KernelIdeal.Val Cert.ReferenceIdeal Cert.ReferenceIdeal.Read

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

/-- The exponential is not negative. -/
theorem exp_nonneg' (x : EReal) : 0 ≤ Ideal.exp x := by
  induction x using EReal.rec with
  | bot => exact le_refl _
  | coe r => exact EReal.coe_nonneg.mpr (Real.exp_pos r).le
  | top => exact le_top

theorem zK_ne_zero (e : Fin 256 → EReal) : zK e ≠ 0 := by
  unfold zK
  split
  · exact one_ne_zero
  · assumption

/-- A key whose score is `⊥` has weight zero. -/
theorem weight_bot (s : Fin 256 → EReal) (key : Fin 256) (h : s key = ⊥) : weightK s key = 0 := by
  unfold weightK
  have e : expK s key = 0 := by unfold expK; rw [h, EReal.bot_sub]; rfl
  rw [e, Ideal.div, if_neg (zK_ne_zero _), zero_mul]

/-- Where some score is real and none is `⊤`, the greatest score and the sum are what the kernel divides by. -/
theorem soft_real (s : Fin 256 → EReal) (hs : ∀ key, s key = ⊥ ∨ IsReal (s key)) (k0 : Fin 256) (h0 : IsReal (s k0)) :
    topK s = Finset.univ.sup s ∧ zK (expK s) = ∑ key, Ideal.exp (s key - Finset.univ.sup s) := by
  obtain ⟨r0, e0⟩ := h0
  have hb : Finset.univ.sup s ≠ ⊥ := by
    intro h
    have := Finset.le_sup (f := s) (Finset.mem_univ k0)
    rw [h, e0] at this
    exact absurd (le_bot_iff.mp this) (EReal.coe_ne_bot r0)
  have ht : Finset.univ.sup s ≠ ⊤ := by
    have : Finset.univ.sup s < ⊤ := (Finset.sup_lt_iff (by exact bot_lt_top)).mpr fun key _ => by
      rcases hs key with h | ⟨r, h⟩ <;> rw [h]
      · exact bot_lt_top
      · exact EReal.coe_lt_top r
    exact this.ne
  have et : topK s = Finset.univ.sup s := by unfold topK; rw [if_neg hb]
  refine ⟨et, ?_⟩
  have ee : ∀ key, expK s key = Ideal.exp (s key - Finset.univ.sup s) := fun key => by unfold expK; rw [et]
  have hz : ∑ key, expK s key ≠ 0 := by
    have hle : expK s k0 ≤ ∑ key, expK s key := Finset.single_le_sum (f := expK s) (fun key _ => by rw [ee]; exact exp_nonneg' _) (Finset.mem_univ k0)
    have hp : 0 < expK s k0 := by
      rw [ee, e0]
      lift Finset.univ.sup s to ℝ using ⟨ht, hb⟩ with M
      rw [← EReal.coe_sub]
      exact EReal.coe_pos.mpr (Real.exp_pos _)
    exact (lt_of_lt_of_le hp hle).ne'
  unfold zK
  rw [if_neg hz]
  exact Finset.sum_congr rfl fun key _ => ee key

variable (C : S24576.Idx → BitVec 32) (K : S1572864x128.Idx → BitVec 32) (E : S24576x256.Idx → BitVec 32) (Q : S24576x128.Idx → BitVec 32)

/-- No count is negative. -/
def CountOk : Prop := ∀ U : Fin 24576, IntOp.cmpi .sge (C (ix1 U)) 0#32 = 1#1

/-- The score of every key that counts is a real number. -/
def ScoreOk : Prop := ∀ (U : Fin 24576) (key : Fin 256), Valid C U key → IsReal (rawScore K E Q U key)

theorem not_valid (U : Fin 24576) (h : C (ix1 U) = 0#32) (key : Fin 256) : ¬ Valid C U key := by
  unfold Valid
  rw [h]
  revert key
  decide +kernel

theorem first_valid (hC : CountOk C) (U : Fin 24576) (h : C (ix1 U) ≠ 0#32) : Valid C U 0 := by
  have h1 := hC U
  unfold Valid
  generalize C (ix1 U) = x at h h1
  have h2 : (0#32).sle x = true := by
    cases hx : (0#32).sle x
    · simp [IntOp.cmpi, hx] at h1
    · rfl
  simp only [BitVec.sle, decide_eq_true_eq] at h2
  simp only [BitVec.slt, decide_eq_true_eq]
  refine lt_of_le_of_ne h2 fun h3 => h ?_
  exact (BitVec.eq_of_toInt_eq h3).symm

/-- The reference's scores of a user, before its special case. -/
theorem v140_at (U : Fin 24576) (key : Fin 256) : val_main_v140 (F := Ideal) C K E Q (ix2 U key) = score C K E Q U key := by
  rw [val_main_v140_apply, v130_at, select_ofBool, v136_at, val_main_call10_v1_apply, val_main_call10_v0_apply, val_main_cst_48_apply]
  unfold score
  by_cases hv : Valid C U key
  · simp [hv]
  · simp only [hv, decide_false, Bool.false_eq_true, if_false]
    exact ninf_bits

/-- Whether a user has no key. -/
theorem v139_at (U : Fin 24576) (i : S24576x1.Idx) (h : i 0 = U) : val_main_v139 (F := Ideal) C i = BitVec.ofBool (C (ix1 U) == 0#32) := by
  rw [val_main_v139_apply, val_main_v138_apply, val_main_v137_apply, val_main_c_47_apply]
  have e : idx_main_v139 i = ix1 U := by
    funext a
    match a with
    | ⟨0, _⟩ => exact Fin.ext (congrArg Fin.val h)
  rw [e]
  rfl

/-- The greatest of a row, as the reference takes it. -/
theorem v142_at (U : Fin 24576) : val_main_v142 (F := Ideal) C K E Q (ix1 U) = Finset.univ.sup fun key : Fin 256 => val_main_v141 (F := Ideal) C K E Q (ix2 U key) := by
  unfold val_main_v142
  generalize val_main_v141 (F := Ideal) C K E Q = y
  pointwise
  have e : ∀ i, val_main_cst_50 (F := Ideal) i = (⊥ : EReal) := fun i => ninf_bits
  simp only [e]
  rfl

/-- The reference's weights of a user without keys. -/
theorem v153_empty (U : Fin 24576) (h : C (ix1 U) = 0#32) (key : Fin 256) : val_main_v153 (F := Ideal) C K E Q (ix2 U key) = 0 := by
  rw [val_main_v153_apply, val_main_call12_v1_apply, v139_at C U _ rfl, select_ofBool, h, val_main_call12_v2_apply, val_main_call12_v0_apply, val_main_cst_53_apply]
  simp only [beq_self_eq_true, if_true]
  exact zero_bits

/-- The reference's weights. -/
theorem v153_at (hC : CountOk C) (hS : ScoreOk C K E Q) (U : Fin 24576) (key : Fin 256) :
    val_main_v153 (F := Ideal) C K E Q (ix2 U key) = weightK (score C K E Q U) key := by
  by_cases h : C (ix1 U) = 0#32
  · rw [v153_empty C K E Q U h, weight_bot _ _ (by unfold score; rw [if_neg (not_valid C U h key)])]
  · have hb : (C (ix1 U) == 0#32) = false := by simpa using h
    have hr : ∀ k, score C K E Q U k = ⊥ ∨ IsReal (score C K E Q U k) := by
      intro k
      unfold score
      by_cases hv : Valid C U k
      · rw [if_pos hv]; exact Or.inr (hS U k hv)
      · rw [if_neg hv]; exact Or.inl rfl
    have h0 : IsReal (score C K E Q U 0) := by
      unfold score
      rw [if_pos (first_valid C hC U h)]
      exact hS U 0 (first_valid C hC U h)
    obtain ⟨et, ez⟩ := soft_real _ hr 0 h0
    have e141 : ∀ k, val_main_v141 (F := Ideal) C K E Q (ix2 U k) = score C K E Q U k := by
      intro k
      rw [val_main_v141_apply, val_main_call11_v1_apply, v139_at C U _ rfl, select_ofBool, hb, v140_at]
      rfl
    have e142 : val_main_v142 (F := Ideal) C K E Q (ix1 U) = Finset.univ.sup (score C K E Q U) := by
      rw [v142_at]
      exact congrArg _ (funext e141)
    have e148 : ∀ k, val_main_v148 (F := Ideal) C K E Q (ix2 U k) = Ideal.exp (score C K E Q U k - Finset.univ.sup (score C K E Q U)) := by
      intro k
      rw [val_main_v148_apply, val_main_v147_apply, val_main_v146_apply, val_main_v145_apply, val_main_v144_apply, val_main_v143_apply, val_main_cst_51_apply, e141]
      have e : idx_main_v145 (idx_main_v146 (ix2 U k)) = ix1 U := by
        funext a
        match a with
        | ⟨0, _⟩ => rfl
      rw [e, e142]
      show Ideal.exp (_ - max (Ideal.ofBits .f32 0xFF800000#32 : EReal) _) = _
      rw [ninf_bits, max_eq_right bot_le]
    rw [val_main_v153_apply, val_main_call12_v1_apply, v139_at C U _ rfl, select_ofBool, hb, val_main_v152_apply, val_main_v151_apply, val_main_v150_apply,
      val_main_v149_apply, val_main_cst_52_apply, e148]
    have e : ∀ k, idx_main_v149 (idx_main_v150 (idx_main_v151 (ix2 U key))) k = ix2 U k := by
      intro k
      funext a
      match a with
      | ⟨0, _⟩ => rfl
      | ⟨1, _⟩ => rfl
    simp only [e, e148]
    show Ideal.div _ ((Ideal.ofBits .f32 0x00000000#32 : EReal) + _) = _
    rw [zero_bits, EReal.coe_zero, zero_add]
    unfold weightK
    rw [ez]
    unfold expK
    rw [et]

/-- The kernel's weights are the reference's. -/
theorem outW_ref (hQ : Copies Q) (hC : CountOk C) (hS : ScoreOk C K E Q) : outW C K E Q = val_main_v153 (F := Ideal) C K E Q := by
  funext j
  idx_vars j
  exact (outW_eq C K E Q hQ _ _).trans (v153_at C K E Q hC hS _ _).symm

/-- The reference's pooled channel. -/
theorem v159_at (hC : CountOk C) (hS : ScoreOk C K E Q) (U : Fin 24576) (n : Fin 3) (c : Fin 32) :
    val_main_v159 (F := Ideal) C K E Q (ix3 U n c) = ∑ key : Fin 256, (weightK (score C K E Q U) key * keyScale E U key n) * keyCode K U key n (word c) := by
  rw [val_main_v159_apply]
  refine Finset.sum_congr rfl fun key _ => ?_
  have el : lidx_main_v159 (ix3 U n c) key = ix3 U key n := by
    funext a
    match a with
    | ⟨0, _⟩ => rfl
    | ⟨1, _⟩ => rfl
    | ⟨2, _⟩ => rfl
  have er : ridx_main_v159 (ix3 U n c) key = ix4 U key n c := by
    funext a
    match a with
    | ⟨0, _⟩ => rfl
    | ⟨1, _⟩ => rfl
    | ⟨2, _⟩ => rfl
    | ⟨3, _⟩ => rfl
  rw [el, er, v103_at, val_main_v158_apply, val_main_v157_apply, val_main_v156_apply, val_main_v155_apply, val_main_v154_apply]
  have e : idx_main_v155 (idx_main_v157 (ix3 U key n)) = ix2 U key := by
    funext a
    match a with
    | ⟨0, _⟩ => rfl
    | ⟨1, _⟩ => rfl
  rw [e]
  show (val_main_v153 (F := Ideal) C K E Q (ix2 U key) * val_main_v124 (F := Ideal) E (ix3 U key n)) * _ = _
  rw [v153_at C K E Q hC hS, v124_at]

/-- The kernel's pooled channels are the reference's. -/
theorem outT_ref (hQ : Copies Q) (hC : CountOk C) (hS : ScoreOk C K E Q) : outT C K E Q = val_main_v162 (F := Ideal) C K E Q := by
  funext j
  obtain ⟨n, c, U, rfl⟩ : ∃ (n : Fin 3) (c : Fin 32) (U : Fin 24576), j = ix2 ⟨32 * n.val + c.val, by omega⟩ U := by
    idx_vars j
    refine ⟨⟨j0.val / 32, by omega⟩, ⟨j0.val % 32, by omega⟩, j1, congrArg₂ ix2 (Fin.ext ?_) rfl⟩
    show j0.val = 32 * (j0.val / 32) + j0.val % 32
    omega
  rw [outT_eq C K E Q hQ, val_main_v162_apply, val_main_v161_apply, val_main_v160_apply]
  have e : idx_main_v160 (idx_main_v162 (ix2 (⟨32 * n.val + c.val, by omega⟩ : Fin 96) U)) = ix3 U n c := by
    funext a
    match a with
    | ⟨0, _⟩ => apply Fin.ext; simp; omega
    | ⟨1, _⟩ => apply Fin.ext; simp; omega
    | ⟨2, _⟩ => apply Fin.ext; simp; omega
  rw [e]
  show _ = val_main_v159 (F := Ideal) C K E Q (ix3 U n c)
  rw [v159_at C K E Q hC hS]
  refine Finset.sum_congr rfl fun key _ => ?_
  by_cases hv : Valid C U key
  · rw [if_pos hv, if_pos hv]
  · rw [weight_bot _ key (by unfold score; rw [if_neg hv]), zero_mul, zero_mul, zero_mul, zero_mul]

end Cert.RefVal

end
-- ==== Proof.Hand.RefPre.lean ====
/- The precondition at an index, and what it says of the scores; then the kernel's results are the reference's. -/
module

public import proofs.«01_k».proof.Proof.Hand.RefSoft
public import proofs.«01_k».proof.Proof.Gen.Pre_gathered

@[expose] public section

set_option maxRecDepth 8192
set_option maxHeartbeats 1000000

noncomputable section

namespace Cert.RefVal

open Idealize.ShloMosaic Cert.KernelIdeal.Hand Cert.KernelIdeal.Val Cert.ReferenceIdeal Cert.ReferenceIdeal.Read

variable (C : S24576.Idx → BitVec 32) (K : S1572864x128.Idx → BitVec 32) (E : S24576x256.Idx → BitVec 32) (Q : S24576x128.Idx → BitVec 32)

/-- The precondition's six arrays, written over the reference's. -/
theorem pre_count : (Cert.Pre_gathered.fn (F := Ideal) C K E Q).1 = fun i => IntOp.cmpi .sge (C i) (broadcastInDim S24576 ![] Cert.Pre_gathered.Gen.bcast_S_S24576 (constantI S_ 32 0#32) i) := rfl

theorem pre_keys : (Cert.Pre_gathered.fn (F := Ideal) C K E Q).2.1
    = ori (broadcastInDim Cert.Pre_gathered.S24576x256x3x32 ![0, 1, 2, 3] Cert.Pre_gathered.Gen.bcast_S24576x256x1x1_S24576x256x3x32_0_1_2_3
        (noti (broadcastInDim Cert.Pre_gathered.S24576x256x1x1 ![0, 1] Cert.Pre_gathered.Gen.bcast_S24576x256_S24576x256x1x1_0_1 (val_main_v130 (F := Ideal) C))))
      (cmpi .ne (andi (val_main_v72 (F := Ideal) K) (val_main_v98 (F := Ideal))) (val_main_v100 (F := Ideal))) := rfl

theorem pre_scales : (Cert.Pre_gathered.fn (F := Ideal) C K E Q).2.2.1
    = ori (broadcastInDim Cert.Pre_gathered.S24576x256x3 ![0, 1, 2] Cert.Pre_gathered.Gen.bcast_S24576x256x1_S24576x256x3_0_1_2
        (noti (broadcastInDim Cert.Pre_gathered.S24576x256x1 ![0, 1] Cert.Pre_gathered.Gen.bcast_S24576x256_S24576x256x1_0_1 (val_main_v130 (F := Ideal) C))))
      (cmpi .ne (val_main_v113 (F := Ideal) E) (val_main_v122 (F := Ideal))) := rfl

theorem pre_target : (Cert.Pre_gathered.fn (F := Ideal) C K E Q).2.2.2.1
    = cmpi .ne (andi (val_main_v11 (F := Ideal) Q) (val_main_v37 (F := Ideal))) (val_main_v39 (F := Ideal)) := rfl

theorem pre_tscales : (Cert.Pre_gathered.fn (F := Ideal) C K E Q).2.2.2.2.1 = cmpi .ne (val_main_v44 (F := Ideal) Q) (val_main_v53 (F := Ideal)) := rfl

theorem pre_copies : (Cert.Pre_gathered.fn (F := Ideal) C K E Q).2.2.2.2.2
    = cmpi .eq (shapeCast Cert.Pre_gathered.S24576x4x32 Q Cert.Pre_gathered.Gen.shapeCasts_S24576x128_S24576x4x32)
        (broadcastInDim Cert.Pre_gathered.S24576x4x32 ![0, 1, 2] Cert.Pre_gathered.Gen.bcast_S24576x1x32_S24576x4x32_0_1_2 (val_main_v2 (F := Ideal) Q)) := rfl

/-- No count is negative. -/
theorem count_ok (h : (Cert.Pre_gathered.fn (F := Ideal) C K E Q).1 = fun _ => 1#1) : CountOk C := by
  intro U
  rw [pre_count] at h
  have := congrFun h (ix1 U)
  exact this

theorem ori_not (p : Bool) (x : BitVec 1) (h : IntOp.ori (~~~(BitVec.ofBool p)) x = 1#1) (hp : p = true) : x = 1#1 := by
  subst hp
  revert x
  decide

/-- The codes of a key that counts are real numbers. -/
theorem key_real (h : (Cert.Pre_gathered.fn (F := Ideal) C K E Q).2.1 = fun _ => 1#1) (U : Fin 24576) (key : Fin 256) (hv : Valid C U key) (n : Fin 3) (w : Fin 32) :
    IsReal (keyCode K U key n w) := by
  obtain ⟨c, rfl⟩ := wordEquiv.surjective w
  rw [pre_keys] at h
  have h1 := congrFun h (ix4 U key n c)
  have h2 : IntOp.ori (~~~(val_main_v130 (F := Ideal) C (ix2 U key)))
      (IntOp.cmpi .ne (IntOp.andi (val_main_v72 (F := Ideal) K (ix4 U key n c)) 127#32) 127#32) = 1#1 := by
    rw [← h1]
    pointwise
    rfl
  rw [v130_at] at h2
  have h3 := ori_not _ _ h2 (by simpa using hv)
  rw [bytes_k, refByte_eq _ _ (by omega)] at h3
  exact code_real _ h3

/-- The scales of a key that counts are real numbers. -/
theorem key_scale_real (h : (Cert.Pre_gathered.fn (F := Ideal) C K E Q).2.2.1 = fun _ => 1#1) (U : Fin 24576) (key : Fin 256) (hv : Valid C U key) (n : Fin 3) :
    IsReal (keyScale E U key n) := by
  rw [pre_scales] at h
  have h1 := congrFun h (ix3 U key n)
  have h2 : IntOp.ori (~~~(val_main_v130 (F := Ideal) C (ix2 U key)))
      (IntOp.cmpi .ne (val_main_v113 (F := Ideal) E (ix3 U key n)) 255#32) = 1#1 := by
    rw [← h1]
    pointwise
    rfl
  rw [v130_at] at h2
  have h3 := ori_not _ _ h2 (by simpa using hv)
  rw [bytes_e, refByte_eq _ _ (by omega)] at h3
  exact scale_real _ h3

/-- The target's codes are real numbers. -/
theorem tgt_real (h : (Cert.Pre_gathered.fn (F := Ideal) C K E Q).2.2.2.1 = fun _ => 1#1) (U : Fin 24576) (n : Fin 3) (w : Fin 32) : IsReal (tgtCode Q U n w) := by
  obtain ⟨c, rfl⟩ := wordEquiv.surjective w
  rw [pre_target] at h
  have h1 := congrFun h (ix3 U n c)
  have h2 : IntOp.cmpi .ne (IntOp.andi (val_main_v11 (F := Ideal) Q (ix3 U n c)) 127#32) 127#32 = 1#1 := h1
  rw [bytes_q, refByte_eq _ _ (by omega)] at h2
  exact code_real _ h2

/-- The target's scales are real numbers. -/
theorem tgt_scale_real (h : (Cert.Pre_gathered.fn (F := Ideal) C K E Q).2.2.2.2.1 = fun _ => 1#1) (U : Fin 24576) (n : Fin 3) : IsReal (tgtScale Q U n) := by
  rw [pre_tscales] at h
  have h1 := congrFun h (ix2 U n)
  have h2 : IntOp.cmpi .ne (val_main_v44 (F := Ideal) Q (ix2 U n)) 255#32 = 1#1 := h1
  rw [bytes_qs, top_eq] at h2
  exact scale_real _ h2

/-- The target's row is four copies. -/
theorem copies_ok (h : (Cert.Pre_gathered.fn (F := Ideal) C K E Q).2.2.2.2.2 = fun _ => 1#1) : Copies Q := by
  intro U k w
  rw [pre_copies] at h
  have h1 := congrFun h (ix3 U k w)
  have h2 : IntOp.cmpi .eq (Q (ix2 U ⟨32 * k.val + w.val, by omega⟩)) (tgtWord Q U w) = 1#1 := by
    rw [← h1]
    show _ = IntOp.cmpi .eq _ _
    congr 1
    · symm
      refine shapeCast_apply Q _ _ (ix2 U ⟨32 * k.val + w.val, by omega⟩) ?_
      rw [Shape.rowMajor_val_two, Shape.rowMajor_val_three]
      show U.val * 128 + (32 * k.val + w.val) = (U.val * 4 + k.val) * 32 + w.val
      omega
    · symm
      pointwise
      rw [val_main_v2_apply, val_main_v0_apply]
      refine congrArg Q ?_
      funext a
      match a with
      | ⟨0, _⟩ => rfl
      | ⟨1, _⟩ => rfl
  generalize Q (ix2 U ⟨32 * k.val + w.val, by omega⟩) = x at h2 ⊢
  generalize tgtWord Q U w = y at h2 ⊢
  by_contra hne
  have : (x == y) = false := by simpa using hne
  simp [IntOp.cmpi, this] at h2

/-- The factor of the scores is a real number. -/
theorem factor_real : IsReal (Ideal.ofBits .f32 0x3DD105EC#32) := by
  simp only [Ideal.ofBits, Ideal.ieee]
  rw [if_neg (by decide), if_neg (by decide)]
  exact ⟨_, rfl⟩

/-- Under the precondition the kernel's two results are the reference's. -/
theorem results (h1 : (Cert.Pre_gathered.fn (F := Ideal) C K E Q).1 = fun _ => 1#1) (h2 : (Cert.Pre_gathered.fn (F := Ideal) C K E Q).2.1 = fun _ => 1#1)
    (h3 : (Cert.Pre_gathered.fn (F := Ideal) C K E Q).2.2.1 = fun _ => 1#1) (h4 : (Cert.Pre_gathered.fn (F := Ideal) C K E Q).2.2.2.1 = fun _ => 1#1)
    (h5 : (Cert.Pre_gathered.fn (F := Ideal) C K E Q).2.2.2.2.1 = fun _ => 1#1) (h6 : (Cert.Pre_gathered.fn (F := Ideal) C K E Q).2.2.2.2.2 = fun _ => 1#1) :
    outW C K E Q = val_main_v153 (F := Ideal) C K E Q ∧ outT C K E Q = val_main_v162 (F := Ideal) C K E Q := by
  have hS : ScoreOk C K E Q := by
    intro U key hv
    unfold rawScore
    refine IsReal.mul (IsReal.sum _ _ fun n => IsReal.mul (IsReal.sum _ _ fun w => ?_) (key_scale_real C K E Q h3 U key hv n)) factor_real
    exact (key_real C K E Q h2 U key hv n w).mul ((tgt_real C K E Q h4 U n w).mul (tgt_scale_real C K E Q h5 U n))
  exact ⟨outW_ref C K E Q (copies_ok C K E Q h6) (count_ok C K E Q h1) hS, outT_ref C K E Q (copies_ok C K E Q h6) (count_ok C K E Q h1) hS⟩

end Cert.RefVal

end
-- ==== Proof.Hand.TableGroups.lean ====
/- The packing call's body as one routine for each of its seventeen groups of 512 items. -/
module

public import proofs.«01_k».proof.Proof.Gen.Table
public import Idealize.ShloMosaic.Lib.Pipeline.Regions

@[expose] public section

noncomputable section

namespace Cert.Table.Hand

open Cert.Table Cert.Table.Gen
open Idealize.ShloMosaic Idealize.ShloMosaic.TcCoe
open Idealize.SL Idealize.SL.Sem

variable {F : FTy → Type} [BitOps F]

/-- The words of 128 items' codes: four codes each, in 24 rows. -/
def words (x : Vec F S96x128 .fp8e4m3) : IVec S24x128 32 :=
  bitcast S24x128 32 (bitcastToInt (shapeCast S96x128 x shapeCasts_S96x128_S96x128)) bitcasts_S96x128_w8_S24x128_w32

/-- The words of the first, the second and the third block of 32 codes. -/
def word0 (x : Vec F S96x128 .fp8e4m3) : IVec S8x128 32 := extractStridedSlice S8x128 ![0, 0] (words x) slices_S24x128_o0_0_S8x128
def word1 (x : Vec F S96x128 .fp8e4m3) : IVec S8x128 32 := extractStridedSlice S8x128 ![8, 0] (words x) slices_S24x128_o8_0_S8x128
def word2 (x : Vec F S96x128 .fp8e4m3) : IVec S8x128 32 := extractStridedSlice S8x128 ![16, 0] (words x) slices_S24x128_o16_0_S8x128

/-- The exponents of 128 items' scales in the top bytes of three rows, five rows of zeros below. -/
def exps (y : Vec F S3x128 .f32) : IVec S8x128 32 :=
  concatenate S8x128 0 [⟨S3x128, shli (andi (bitcastToInt (shapeCast S3x128 y shapeCasts_S3x128_S3x128)) (broadcast S3x128 2139095040#32)) (broadcast S3x128 1#32)⟩,
    ⟨S5x128, broadcast S5x128 0#32⟩] concatenates_S3x128_S5x128_S8x128_d0

/-- The item numbers of quarter `o` of group `g` at grid point `a`. -/
def items (a g o : BitVec 32) : IVec S8x128 32 :=
  addi (broadcast S8x128 (Scalar.addi (Scalar.muli (Scalar.addi (Scalar.muli a 17#32) g) 512#32) o)) (iota .tc S8x128 32 [1] iota_S8x128_d1_w32)

/-- A row of words where its items exist, zeros elsewhere. -/
def keep (n w : IVec S8x128 32) : IVec S8x128 32 :=
  select (cmpi .slt n (broadcast S8x128 200000#32)) w (broadcast S8x128 0#32)

/-- The packed words of the codes' first, second, third and fourth bytes, one per block. -/
def pack0 (x : Vec F S96x128 .fp8e4m3) (y : Vec F S3x128 .f32) : IVec S8x128 32 :=
  ori (ori (ori (exps y) (andi (shrui (word0 x) (broadcast S8x128 0#32)) (broadcast S8x128 255#32)))
    (andi (shli (word1 x) (broadcast S8x128 8#32)) (broadcast S8x128 65280#32)))
    (andi (shli (word2 x) (broadcast S8x128 16#32)) (broadcast S8x128 16711680#32))
def pack1 (x : Vec F S96x128 .fp8e4m3) : IVec S8x128 32 :=
  ori (ori (andi (shrui (word0 x) (broadcast S8x128 8#32)) (broadcast S8x128 255#32))
    (andi (shrui (word1 x) (broadcast S8x128 0#32)) (broadcast S8x128 65280#32)))
    (andi (shli (word2 x) (broadcast S8x128 8#32)) (broadcast S8x128 16711680#32))
def pack2 (x : Vec F S96x128 .fp8e4m3) : IVec S8x128 32 :=
  ori (ori (andi (shrui (word0 x) (broadcast S8x128 16#32)) (broadcast S8x128 255#32))
    (andi (shrui (word1 x) (broadcast S8x128 8#32)) (broadcast S8x128 65280#32)))
    (andi (shrui (word2 x) (broadcast S8x128 0#32)) (broadcast S8x128 16711680#32))
def pack3 (x : Vec F S96x128 .fp8e4m3) : IVec S8x128 32 :=
  ori (ori (andi (shrui (word0 x) (broadcast S8x128 24#32)) (broadcast S8x128 255#32))
    (andi (shrui (word1 x) (broadcast S8x128 16#32)) (broadcast S8x128 65280#32)))
    (andi (shrui (word2 x) (broadcast S8x128 8#32)) (broadcast S8x128 16711680#32))

/-- What a group stores: the packed rows of its four quarters of 128 items, turned so that an item's words lie in a row. -/
def packed (a g : BitVec 32) (x0 x1 x2 x3 : Vec F S96x128 .fp8e4m3) (y0 y1 y2 y3 : Vec F S3x128 .f32) : IVec S128x128 32 :=
  transpose S128x128 [1, 0] (concatenate S128x128 0
    [⟨S8x128, keep (items a g 0#32) (pack0 x0 y0)⟩, ⟨S8x128, keep (items a g 0#32) (pack1 x0)⟩,
     ⟨S8x128, keep (items a g 0#32) (pack2 x0)⟩, ⟨S8x128, keep (items a g 0#32) (pack3 x0)⟩,
     ⟨S8x128, keep (items a g 128#32) (pack0 x1 y1)⟩, ⟨S8x128, keep (items a g 128#32) (pack1 x1)⟩,
     ⟨S8x128, keep (items a g 128#32) (pack2 x1)⟩, ⟨S8x128, keep (items a g 128#32) (pack3 x1)⟩,
     ⟨S8x128, keep (items a g 256#32) (pack0 x2 y2)⟩, ⟨S8x128, keep (items a g 256#32) (pack1 x2)⟩,
     ⟨S8x128, keep (items a g 256#32) (pack2 x2)⟩, ⟨S8x128, keep (items a g 256#32) (pack3 x2)⟩,
     ⟨S8x128, keep (items a g 384#32) (pack0 x3 y3)⟩, ⟨S8x128, keep (items a g 384#32) (pack1 x3)⟩,
     ⟨S8x128, keep (items a g 384#32) (pack2 x3)⟩, ⟨S8x128, keep (items a g 384#32) (pack3 x3)⟩]
    concatenates_S8x128_S8x128_S8x128_S8x128_S8x128_S8x128_S8x128_S8x128_S8x128_S8x128_S8x128_S8x128_S8x128_S8x128_S8x128_S8x128_S128x128_d0)
    transposes_S128x128_p1_0_S128x128

/-- Quarter `k` of group `g` lies inside the staged codes, the staged scales; a group's rows inside the staged result. -/
theorem inbX (g : Fin 17) (k : Fin 4) : ∀ a, (![0, (g.val * 4 + k.val) * 128] : Fin 2 → Nat) a + S96x128.size a ≤ S96x8704.size a := by
  intro a; fin_cases a <;> simp [Shape.size] <;> omega
theorem inbY (g : Fin 17) (k : Fin 4) : ∀ a, (![0, (g.val * 4 + k.val) * 128] : Fin 2 → Nat) a + S3x128.size a ≤ S3x8704.size a := by
  intro a; fin_cases a <;> simp [Shape.size] <;> omega
theorem inbO (g : Fin 17) : ∀ a, (![g.val * 128, 0] : Fin 2 → Nat) a + S128x128.size a ≤ S2176x128.size a := by
  intro a; fin_cases a <;> simp [Shape.size] <;> omega

section
variable (i : grid0.Coords) (arg1 : Memref sig .tc .vmem S96x8704 .fp8e4m3) (arg2 : Memref sig .tc .vmem S3x8704 .f32)
  (arg3 : Memref sig .tc .vmem S2176x128 .i32)

/-- The loads of a quarter. -/
def loadX (g : Fin 17) (k : Fin 4) : Prog (TpuEff nD τ sig (Elt F) Λ₀ .tc) (Vec F S96x128 .fp8e4m3) :=
  Prog.lift (.load arg1 (Rect.unit (s := S96x8704) ![0, (g.val * 4 + k.val) * 128] S96x128.size (inbX g k)).toLoadRect (View.loadsAt_vmem h_S96x128))
def loadY (g : Fin 17) (k : Fin 4) : Prog (TpuEff nD τ sig (Elt F) Λ₀ .tc) (Vec F S3x128 .f32) :=
  Prog.lift (.load arg2 (Rect.unit (s := S3x8704) ![0, (g.val * 4 + k.val) * 128] S3x128.size (inbY g k)).toLoadRect (View.loadsAt_vmem h_S3x128))

/-- One group: its eight loads, the load of what it overwrites, and its store. -/
def group (g : Fin 17) : Prog (TpuEff nD τ sig (Elt F) Λ₀ .tc) PUnit := do
  let x0 ← loadX arg1 g 0
  let y0 ← loadY arg2 g 0
  let x1 ← loadX arg1 g 1
  let y1 ← loadY arg2 g 1
  let x2 ← loadX arg1 g 2
  let y2 ← loadY arg2 g 2
  let x3 ← loadX arg1 g 3
  let y3 ← loadY arg2 g 3
  let _ : Vec F S128x128 .i32 ← Prog.lift (.load arg3 (Rect.unit (s := S2176x128) ![g.val * 128, 0] S128x128.size (inbO g)).toLoadRect (View.loadsAt_vmem h_S128x128))
  Prog.lift (.store arg3 (Rect.unit (s := S2176x128) ![g.val * 128, 0] S128x128.size (inbO g))
    (packed (BitVec.ofNat 32 (i 0).val) (BitVec.ofNat 32 g.val) x0 x1 x2 x3 y0 y1 y2 y3) Finset.univ
    (View.stores_vmem_bits_univ h_S128x128 rfl) (.inl rfl))

/-- The last `n` groups. -/
def groups : (n : Nat) → n ≤ 17 → Prog (TpuEff nD τ sig (Elt F) Λ₀ .tc) PUnit
  | 0, _ => pure ⟨⟩
  | n + 1, h => group i arg1 arg2 arg3 ⟨17 - (n + 1), by omega⟩ >>= fun _ => groups n (Nat.le_of_succ_le h)

end

set_option maxRecDepth 65536 in
/-- The call's body is its seventeen groups in turn. -/
theorem body_eq (i : grid0.Coords) (arg1 : Memref sig .tc .vmem S96x8704 .fp8e4m3) (h1 : arg1.IsWhole) (arg2 : Memref sig .tc .vmem S3x8704 .f32)
    (h2 : arg2.IsWhole) (arg3 : Memref sig .tc .vmem S2176x128 .i32) (h3 : arg3.IsWhole) :
    cc0_table (F := F) i arg1 h1 arg2 h2 arg3 h3 = groups (F := F) i arg1 arg2 arg3 17 (Nat.le_refl _) := by
  chain_rfl

end Cert.Table.Hand

end
-- ==== Proof.Hand.TableValue.lean ====
/- What the packing call's body computes, element by element: each word of a row is three code bytes of the row's item, one
   per block, and for the first three words of an item the exponent of one of its scales. -/
module

public import proofs.«01_k».proof.Proof.Hand.TableGroups
public import Idealize.ShloMosaic.Lib.Pointwise
public import Idealize.ShloMosaic.Lib.BitcastFour

@[expose] public section

set_option maxRecDepth 8192

noncomputable section

namespace Cert.Table.Hand

open Cert.Table Cert.Table.Gen
open Idealize.ShloMosaic Idealize.ShloMosaic.TcCoe
open Idealize.SL Idealize.SL.Sem

/-- Byte `i` of a word. -/
def byteAt (w : BitVec 32) (i : ℕ) : BitVec 8 := w.extractLsb' (8 * i) 8

/-- A bit of the three masks. -/
theorem mask0 : ∀ q : Fin 32, (255#32).getLsbD q.val = decide (q.val < 8) := by decide
theorem mask1 : ∀ q : Fin 32, (65280#32).getLsbD q.val = decide (8 ≤ q.val ∧ q.val < 16) := by decide
theorem mask2 : ∀ q : Fin 32, (16711680#32).getLsbD q.val = decide (16 ≤ q.val ∧ q.val < 24) := by decide

/-- A word shifted right by whole bytes, or left, with one byte kept: a byte of the word, moved. -/
theorem keep_byte (w v mask : BitVec 32) (i n : ℕ) (hm : ∀ q : Fin 32, mask.getLsbD q.val = decide (8 * n ≤ q.val ∧ q.val < 8 * n + 8))
    (hv : ∀ q < 32, 8 * n ≤ q → v.getLsbD q = w.getLsbD (q - 8 * n + 8 * i)) : v &&& mask = (byteAt w i).setWidth 32 <<< (8 * n) := by
  apply BitVec.eq_of_getLsbD_eq
  intro q hq
  rw [BitVec.getLsbD_and, hm ⟨q, hq⟩, BitVec.getLsbD_shiftLeft, BitVec.getLsbD_setWidth, byteAt, BitVec.getLsbD_extractLsb']
  by_cases h : 8 * n ≤ q
  · rw [hv q hq h]
    have e : 8 * i + (q - 8 * n) = q - 8 * n + 8 * i := by omega
    rw [e]
    by_cases h' : q < 8 * n + 8
    · have h2 : q - 8 * n < 8 := by omega
      have h3 : q - 8 * n < 32 := by omega
      simp [h, h', h2, h3, hq, show ¬ q < 8 * n by omega]
    · have h2 : ¬ q - 8 * n < 8 := by omega
      simp [h, h', h2]
  · simp [h, show q < 8 * n by omega]

theorem shr_getLsbD (w : BitVec 32) (k : ℕ) (hk : k < 32) (q : ℕ) : (IntOp.shrui .vector w (BitVec.ofNat 32 k)).getLsbD q = w.getLsbD (k + q) := by
  have e : (BitVec.ofNat 32 k).toNat = k := by rw [BitVec.toNat_ofNat]; omega
  rw [IntOp.shrui, if_pos (by omega), BitVec.ushiftRight_eq', BitVec.getLsbD_ushiftRight, e]

theorem shl_getLsbD (w : BitVec 32) (k : ℕ) (hk : k < 32) (q : ℕ) (hq : q < 32) (h : k ≤ q) : (IntOp.shli .vector w (BitVec.ofNat 32 k)).getLsbD q = w.getLsbD (q - k) := by
  have e : (BitVec.ofNat 32 k).toNat = k := by rw [BitVec.toNat_ofNat]; omega
  rw [IntOp.shli, if_pos (by omega), BitVec.shiftLeft_eq', BitVec.getLsbD_shiftLeft, e]
  simp [hq, show ¬ q < k by omega]

/-- The word of three bytes. -/
def three (b0 b1 b2 : BitVec 8) : BitVec 32 := b0.setWidth 32 ||| (b1.setWidth 32 <<< 8) ||| (b2.setWidth 32 <<< 16)

/-- Bytes `i` of three words joined, the shifts right by whole bytes or left by them. -/
theorem three_eq (w0 w1 w2 v0 v1 v2 : BitVec 32) (i : ℕ) (h0 : ∀ q < 32, v0.getLsbD q = w0.getLsbD (q + 8 * i))
    (h1 : ∀ q < 32, 8 ≤ q → v1.getLsbD q = w1.getLsbD (q - 8 + 8 * i)) (h2 : ∀ q < 32, 16 ≤ q → v2.getLsbD q = w2.getLsbD (q - 16 + 8 * i)) :
    (v0 &&& 255#32) ||| (v1 &&& 65280#32) ||| (v2 &&& 16711680#32) = three (byteAt w0 i) (byteAt w1 i) (byteAt w2 i) := by
  rw [keep_byte w0 v0 255#32 i 0 (by simpa using mask0) (fun q hq _ => by simpa using h0 q hq),
    keep_byte w1 v1 65280#32 i 1 (by simpa using mask1) (fun q hq h => h1 q hq (by omega)),
    keep_byte w2 v2 16711680#32 i 2 (by simpa using mask2) (fun q hq h => h2 q hq (by omega))]
  simp [three]

/-- A word of codes: byte `i` of word `a` is the code of channel `4a + i`. -/
theorem words_byte (x : Vec Bits S96x128 .fp8e4m3) (a : Fin 24) (r : Fin 128) (i : Fin 4) :
    byteAt (words (F := Bits) x (ix2 a r)) i.val = x (ix2 ⟨4 * a.val + i.val, by omega⟩ r) := by
  apply BitVec.eq_of_getLsbD_eq
  intro q hq
  have hq : q < 8 := hq
  rw [byteAt, BitVec.getLsbD_extractLsb', words]
  simp only [hq, decide_true, Bool.true_and]
  refine (bitcast_8_32_getLsbD_ix2 (R := 96) (r := 24) (n := 128) _ _ a r (8 * i.val + q) (by omega) ⟨4 * a.val + i.val, by omega⟩ (by show 4 * a.val + i.val = _; omega)).trans ?_
  rw [show (8 * i.val + q) % 8 = q by omega, shapeCast_id]
  rfl

theorem word0_apply (x : Vec Bits S96x128 .fp8e4m3) (s : Fin 8) (r : Fin 128) : word0 (F := Bits) x (ix2 s r) = words (F := Bits) x (ix2 ⟨s.val, by omega⟩ r) := by
  unfold word0; exact extractStridedSlice_apply _ _ _ _ _ (by show ∀ a : Fin 2, _; intro a; fin_cases a <;> simp [ix2])
theorem word1_apply (x : Vec Bits S96x128 .fp8e4m3) (s : Fin 8) (r : Fin 128) : word1 (F := Bits) x (ix2 s r) = words (F := Bits) x (ix2 ⟨8 + s.val, by omega⟩ r) := by
  unfold word1; exact extractStridedSlice_apply _ _ _ _ _ (by show ∀ a : Fin 2, _; intro a; fin_cases a <;> simp [ix2])
theorem word2_apply (x : Vec Bits S96x128 .fp8e4m3) (s : Fin 8) (r : Fin 128) : word2 (F := Bits) x (ix2 s r) = words (F := Bits) x (ix2 ⟨16 + s.val, by omega⟩ r) := by
  unfold word2; exact extractStridedSlice_apply _ _ _ _ _ (by show ∀ a : Fin 2, _; intro a; fin_cases a <;> simp [ix2])

/-- The codes' part of word `8i + s` of an item with codes `c`. -/
def codeWord (c : Fin 96 → BitVec 8) (s : Fin 8) (i : Fin 4) : BitVec 32 :=
  three (c ⟨4 * s.val + i.val, by omega⟩) (c ⟨4 * (8 + s.val) + i.val, by omega⟩) (c ⟨4 * (16 + s.val) + i.val, by omega⟩)

theorem codeWord_eq (x : Vec Bits S96x128 .fp8e4m3) (s : Fin 8) (r : Fin 128) (i : Fin 4) :
    three (byteAt (word0 (F := Bits) x (ix2 s r)) i.val) (byteAt (word1 (F := Bits) x (ix2 s r)) i.val) (byteAt (word2 (F := Bits) x (ix2 s r)) i.val)
      = codeWord (fun p => x (ix2 p r)) s i := by
  rw [word0_apply, word1_apply, word2_apply, words_byte, words_byte, words_byte]
  rfl

/-- The scales' part of word `s` of an item with scales `e`. -/
def scaleWord (e : Fin 3 → BitVec 32) (s : Fin 8) : BitVec 32 :=
  if h : s.val < 3 then (e ⟨s.val, h⟩ &&& 2139095040#32) <<< 1 else 0#32

theorem exps_apply (y : Vec Bits S3x128 .f32) (s : Fin 8) (r : Fin 128) : exps (F := Bits) y (ix2 s r) = scaleWord (fun p => y (ix2 p r)) s := by
  unfold exps scaleWord
  by_cases h : s.val < 3
  · rw [dif_pos h]
    refine (concatenate_pair_apply_left (t := S8x128) (s₁ := S3x128) (s₂ := S5x128) 0 _ _ _ (ix2 s r) rfl (ix2 (⟨s.val, h⟩ : Fin 3) r) (by show ∀ a : Fin 2, _; intro a; fin_cases a <;> rfl)).trans ?_
    rw [shapeCast_id]
    rfl
  · rw [dif_neg h]
    refine (concatenate_pair_apply_right (t := S8x128) (s₁ := S3x128) (s₂ := S5x128) 0 _ _ _ (ix2 s r) rfl rfl (ix2 (⟨s.val - 3, by omega⟩ : Fin 5) r) (by show ∀ a : Fin 2, _; intro a; fin_cases a <;> simp [ix2]) ?_).trans rfl
    show (s.val - 3) + 3 = s.val
    omega

theorem pack0_apply (x : Vec Bits S96x128 .fp8e4m3) (y : Vec Bits S3x128 .f32) (s : Fin 8) (r : Fin 128) :
    pack0 (F := Bits) x y (ix2 s r) = scaleWord (fun p => y (ix2 p r)) s ||| codeWord (fun p => x (ix2 p r)) s 0 := by
  rw [← codeWord_eq, ← exps_apply, ← three_eq _ _ _ (IntOp.shrui .vector (word0 (F := Bits) x (ix2 s r)) 0#32) (IntOp.shli .vector (word1 (F := Bits) x (ix2 s r)) 8#32)
    (IntOp.shli .vector (word2 (F := Bits) x (ix2 s r)) 16#32) _ (fun q hq => by rw [shr_getLsbD _ 0 (by omega)]; congr 1; omega)
    (fun q hq h => by rw [shl_getLsbD _ 8 (by omega) q hq h]; rfl) (fun q hq h => by rw [shl_getLsbD _ 16 (by omega) q hq h]; rfl), ← BitVec.or_assoc, ← BitVec.or_assoc]
  rfl
theorem pack1_apply (x : Vec Bits S96x128 .fp8e4m3) (s : Fin 8) (r : Fin 128) : pack1 (F := Bits) x (ix2 s r) = codeWord (fun p => x (ix2 p r)) s 1 := by
  rw [← codeWord_eq, ← three_eq _ _ _ (IntOp.shrui .vector (word0 (F := Bits) x (ix2 s r)) 8#32) (IntOp.shrui .vector (word1 (F := Bits) x (ix2 s r)) 0#32)
    (IntOp.shli .vector (word2 (F := Bits) x (ix2 s r)) 8#32) _ (fun q hq => by rw [shr_getLsbD _ 8 (by omega)]; congr 1; simp; omega)
    (fun q hq h => by rw [shr_getLsbD _ 0 (by omega) q]; congr 1; simp; omega) (fun q hq h => by rw [shl_getLsbD _ 8 (by omega) q hq (by omega)]; congr 1; simp; omega)]
  rfl
theorem pack2_apply (x : Vec Bits S96x128 .fp8e4m3) (s : Fin 8) (r : Fin 128) : pack2 (F := Bits) x (ix2 s r) = codeWord (fun p => x (ix2 p r)) s 2 := by
  rw [← codeWord_eq, ← three_eq _ _ _ (IntOp.shrui .vector (word0 (F := Bits) x (ix2 s r)) 16#32) (IntOp.shrui .vector (word1 (F := Bits) x (ix2 s r)) 8#32)
    (IntOp.shrui .vector (word2 (F := Bits) x (ix2 s r)) 0#32) _ (fun q hq => by rw [shr_getLsbD _ 16 (by omega)]; congr 1; simp; omega)
    (fun q hq h => by rw [shr_getLsbD _ 8 (by omega) q]; congr 1; simp; omega) (fun q hq h => by rw [shr_getLsbD _ 0 (by omega) q]; congr 1; simp; omega)]
  rfl
theorem pack3_apply (x : Vec Bits S96x128 .fp8e4m3) (s : Fin 8) (r : Fin 128) : pack3 (F := Bits) x (ix2 s r) = codeWord (fun p => x (ix2 p r)) s 3 := by
  rw [← codeWord_eq, ← three_eq _ _ _ (IntOp.shrui .vector (word0 (F := Bits) x (ix2 s r)) 24#32) (IntOp.shrui .vector (word1 (F := Bits) x (ix2 s r)) 16#32)
    (IntOp.shrui .vector (word2 (F := Bits) x (ix2 s r)) 8#32) _ (fun q hq => by rw [shr_getLsbD _ 24 (by omega)]; congr 1; simp; omega)
    (fun q hq h => by rw [shr_getLsbD _ 16 (by omega) q]; congr 1; simp; omega) (fun q hq h => by rw [shr_getLsbD _ 8 (by omega) q]; congr 1; simp; omega)]
  rfl

/-- Word `q` of the thirty-two of an item with codes `c` and scales `e`. -/
def itemWord (c : Fin 96 → BitVec 8) (e : Fin 3 → BitVec 32) (q : Fin 32) : BitVec 32 :=
  (if q.val < 8 then scaleWord e ⟨q.val % 8, by omega⟩ else 0#32) ||| codeWord c ⟨q.val % 8, by omega⟩ ⟨q.val / 8, by omega⟩

/-- Of four packed words, the one numbered `i`. -/
def packI (x : Vec Bits S96x128 .fp8e4m3) (y : Vec Bits S3x128 .f32) (i : Fin 4) : IVec S8x128 32 :=
  match i with
  | 0 => pack0 x y
  | 1 => pack1 x
  | 2 => pack2 x
  | 3 => pack3 x

theorem packI_apply (x : Vec Bits S96x128 .fp8e4m3) (y : Vec Bits S3x128 .f32) (i : Fin 4) (s : Fin 8) (r : Fin 128) :
    packI x y i (ix2 s r) = itemWord (fun p => x (ix2 p r)) (fun p => y (ix2 p r)) ⟨8 * i.val + s.val, by omega⟩ := by
  unfold itemWord
  have es : (⟨(8 * i.val + s.val) % 8, by omega⟩ : Fin 8) = s := Fin.ext (by show (8 * i.val + s.val) % 8 = _; omega)
  have ei : (⟨(8 * i.val + s.val) / 8, by omega⟩ : Fin 4) = i := Fin.ext (by show (8 * i.val + s.val) / 8 = _; omega)
  simp only [es, ei]
  have hs := s.isLt
  match i with
  | 0 => rw [if_pos (by show 8 * 0 + s.val < 8; omega)]; exact pack0_apply x y s r
  | 1 => rw [if_neg (by show ¬ 8 * 1 + s.val < 8; omega), BitVec.zero_or]; exact pack1_apply x s r
  | 2 => rw [if_neg (by show ¬ 8 * 2 + s.val < 8; omega), BitVec.zero_or]; exact pack2_apply x s r
  | 3 => rw [if_neg (by show ¬ 8 * 3 + s.val < 8; omega), BitVec.zero_or]; exact pack3_apply x s r

/-- The item numbers, and the choice by them. -/
theorem keep_apply (a g k : ℕ) (ha : a < 23) (hg : g < 17) (hk : k < 4) (w : IVec S8x128 32) (s : Fin 8) (r : Fin 128) :
    keep (items (BitVec.ofNat 32 a) (BitVec.ofNat 32 g) (BitVec.ofNat 32 (128 * k))) w (ix2 s r)
      = if (17 * a + g) * 512 + 128 * k + r.val < 200000 then w (ix2 s r) else 0#32 := by
  have e : items (BitVec.ofNat 32 a) (BitVec.ofNat 32 g) (BitVec.ofNat 32 (128 * k)) (ix2 s r) = BitVec.ofNat 32 ((17 * a + g) * 512 + 128 * k + r.val) := by
    have e1 : items (BitVec.ofNat 32 a) (BitVec.ofNat 32 g) (BitVec.ofNat 32 (128 * k)) (ix2 s r)
      = ((BitVec.ofNat 32 a * 17#32 + BitVec.ofNat 32 g) * 512#32 + BitVec.ofNat 32 (128 * k)) + BitVec.ofNat 32 r.val := by
      unfold items
      simp only [addi, iota_apply, List.foldl_cons, List.foldl_nil, Nat.zero_mul, Nat.zero_add]
      rfl
    rw [e1]
    apply BitVec.eq_of_toNat_eq
    simp only [BitVec.toNat_add, BitVec.toNat_mul, BitVec.toNat_ofNat]
    omega
  have e2 : keep (items (BitVec.ofNat 32 a) (BitVec.ofNat 32 g) (BitVec.ofNat 32 (128 * k))) w (ix2 s r)
    = Scalar.select (IntOp.cmpi .slt (items (BitVec.ofNat 32 a) (BitVec.ofNat 32 g) (BitVec.ofNat 32 (128 * k)) (ix2 s r)) 200000#32) (w (ix2 s r)) 0#32 := rfl
  rw [e2, e]
  have hr := r.isLt
  have h : ∀ n : ℕ, n < 2 ^ 31 → (IntOp.cmpi .slt (BitVec.ofNat 32 n) 200000#32) = BitVec.ofBool (decide (n < 200000)) := by
    intro n hn
    have e3 : (BitVec.ofNat 32 n).toInt = n := by
      rw [BitVec.toInt_eq_toNat_of_lt] <;> rw [BitVec.toNat_ofNat] <;> omega
    have e4 : (200000#32).toInt = 200000 := by decide
    have e5 : (BitVec.ofNat 32 n).slt 200000#32 = decide (n < 200000) := by
      rw [BitVec.slt_eq_decide, e3, e4]
      exact decide_eq_decide.mpr (by omega)
    rw [← e5]
    rfl
  rw [h _ (by omega)]
  by_cases hc : (17 * a + g) * 512 + 128 * k + r.val < 200000
  · rw [if_pos hc]; rw [decide_eq_true hc]; simp [Scalar.select]
  · rw [if_neg hc]; rw [decide_eq_false hc]; simp [Scalar.select]

/-- What a group stores, at row `r` and lane `l`: word `l % 32` of the item of quarter `l / 32`, nothing past the last item. -/
theorem packed_apply (a g : ℕ) (ha : a < 23) (hg : g < 17) (x : Fin 4 → Vec Bits S96x128 .fp8e4m3) (y : Fin 4 → Vec Bits S3x128 .f32) (r l : Fin 128) :
    packed (F := Bits) (BitVec.ofNat 32 a) (BitVec.ofNat 32 g) (x 0) (x 1) (x 2) (x 3) (y 0) (y 1) (y 2) (y 3) (ix2 r l)
      = if (17 * a + g) * 512 + 128 * (l.val / 32) + r.val < 200000
        then itemWord (fun p => x ⟨l.val / 32, by omega⟩ (ix2 p r)) (fun p => y ⟨l.val / 32, by omega⟩ (ix2 p r)) ⟨l.val % 32, by omega⟩ else 0#32 := by
  unfold packed
  refine (transpose_apply _ _ _ _ (ix2 l r) (by show ∀ b : Fin 2, _; intro b; fin_cases b <;> rfl)).trans ?_
  refine (concatenate_ofFn_apply (s₁ := S8x128) (t := S128x128) 0 (N := 16) (fun n => keep (items (BitVec.ofNat 32 a) (BitVec.ofNat 32 g) (BitVec.ofNat 32 (128 * (n.val / 4))))
    (packI (x ⟨n.val / 4, by omega⟩) (y ⟨n.val / 4, by omega⟩) ⟨n.val % 4, by omega⟩)) _ rfl 8 rfl (ix2 l r) ⟨l.val / 8, by omega⟩ rfl
    (ix2 ⟨l.val % 8, by omega⟩ r) rfl (by show ∀ b : Fin 2, _; intro b; fin_cases b <;> simp [ix2])).trans ?_
  refine (keep_apply a g (l.val / 8 / 4) ha hg (by omega) _ _ r).trans ?_
  rw [packI_apply]
  have e1 : l.val / 8 / 4 = l.val / 32 := by omega
  have e2 : 8 * (l.val / 8 % 4) + l.val % 8 = l.val % 32 := by omega
  simp only [e1, e2]

end Cert.Table.Hand

end
-- ==== Proof.Hand.TableRun.lean ====
/- The packing call's body gone through: its inputs are left as they were and the staged result is written group by group. -/
module

public import proofs.«01_k».proof.Proof.Hand.TableGroups
public import Idealize.ShloMosaic.Lib.Pipeline.FrameBody
public import Idealize.ShloMosaic.Lib.Ring

@[expose] public section

noncomputable section

namespace Cert.Table.Hand

open Cert.Table Cert.Table.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄G" => MT nD τ sig Unit (Elt F) ℕ (UR sig nD τ) ℕ

section
variable (c : Dev nD) (i : grid0.Coords) (arg1 : Memref sig .tc .vmem S96x8704 .fp8e4m3) (h1 : arg1.IsWhole) (arg2 : Memref sig .tc .vmem S3x8704 .f32) (h2 : arg2.IsWhole)
  (arg3 : Memref sig .tc .vmem S2176x128 .i32) (h3 : arg3.IsWhole) (X1 : BufTy.Contents (Elt F) arg1.view.ty) (X2 : BufTy.Contents (Elt F) arg2.view.ty)

/-- Quarter `k` of group `g` of the staged codes, of the staged scales. -/
def partX (g : Fin 17) (k : Fin 4) : Vec F S96x128 .fp8e4m3 :=
  arg1.view.readAt (Elt F) (Rect.unit (s := S96x8704) ![0, (g.val * 4 + k.val) * 128] S96x128.size (inbX g k)).toLoadRect X1
def partY (g : Fin 17) (k : Fin 4) : Vec F S3x128 .f32 :=
  arg2.view.readAt (Elt F) (Rect.unit (s := S3x8704) ![0, (g.val * 4 + k.val) * 128] S3x128.size (inbY g k)).toLoadRect X2

/-- The rows that group `g` writes. -/
def piece (g : Fin 17) : View.Piece (Elt F) S2176x128 .i32 :=
  ⟨Rect.unit (s := S2176x128) ![g.val * 128, 0] S128x128.size (inbO g),
    packed (F := F) (BitVec.ofNat 32 (i 0).val) (BitVec.ofNat 32 g.val) (partX arg1 X1 g 0) (partX arg1 X1 g 1) (partX arg1 X1 g 2) (partX arg1 X1 g 3)
      (partY arg2 X2 g 0) (partY arg2 X2 g 1) (partY arg2 X2 g 2) (partY arg2 X2 g 3)⟩

/-- The rows that the last `n` groups write, the newest first. -/
def pieces : (n : Nat) → n ≤ 17 → List (View.Piece (Elt F) S2176x128 .i32)
  | 0, _ => []
  | n + 1, h => pieces n (Nat.le_of_succ_le h) ++ [piece i arg1 arg2 X1 X2 ⟨17 - (n + 1), by omega⟩]

include h1 h2 h3 in
/-- One group. -/
theorem group_run (g : Fin 17) (g3 : BufTy.Contents (Elt F) arg3.view.ty) (K : PUnit → sProp 𝕄G) :
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} g3)
        ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} (arg3.view.writes (Elt F) g3 [piece i arg1 arg2 X1 X2 g]))) -∗ K ⟨⟩))
      ⊢ wp frame (wpE (defs₀ (F := F)) Variants.none (c : Thread nD τ) none) Set.univ (group (F := F) i arg1 arg2 arg3 g) K := by
  unfold group loadX loadY
  iintro ⟨H1, H2, H3, Hk⟩
  sl_exec
  sl_step
  iapply Hk
  isplitl [H1]; · iexact H1
  isplitl [H2]; · iexact H2
  iexact H3

include h1 h2 h3 in
/-- The last `n` groups. -/
theorem groups_run : ∀ (n : Nat) (h : n ≤ 17) (g3 : BufTy.Contents (Elt F) arg3.view.ty) (K : PUnit → sProp 𝕄G),
    iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} g3)
        ∗ (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} (arg3.view.writes (Elt F) g3 (pieces i arg1 arg2 X1 X2 n h)))) -∗ K ⟨⟩))
      ⊢ wp frame (wpE (defs₀ (F := F)) Variants.none (c : Thread nD τ) none) Set.univ (groups (F := F) i arg1 arg2 arg3 n h) K
  | 0, h, g3, K => by
    unfold groups pieces
    iintro ⟨H1, H2, H3, Hk⟩
    sl_step
    iapply Hk
    isplitl [H1]; · iexact H1
    isplitl [H2]; · iexact H2
    iexact H3
  | n + 1, h, g3, K => by
    unfold groups pieces
    rw [View.writes_append, wp_bind]
    iintro ⟨H1, H2, H3, Hk⟩
    iapply (group_run c i arg1 h1 arg2 h2 arg3 h3 X1 X2 _ g3 _)
    isplitl [H1]; · iexact H1
    isplitl [H2]; · iexact H2
    isplitl [H3]; · iexact H3
    iintro ⟨H1, H2, H3⟩
    iapply (groups_run n (Nat.le_of_succ_le h) _ K)
    isplitl [H1]; · iexact H1
    isplitl [H2]; · iexact H2
    isplitl [H3]; · iexact H3
    iexact Hk

end

end Cert.Table.Hand

end
-- ==== Proof.Hand.TableBlock.lean ====
/- The packing call's table as a function of its two arrays, and the block of it that the body leaves staged. -/
module

public import proofs.«01_k».proof.Proof.Hand.TableValue
public import proofs.«01_k».proof.Proof.Hand.TableRun

@[expose] public section

set_option maxRecDepth 16384

noncomputable section

namespace Cert.Table.Hand

open Cert.Table Cert.Table.Gen
open Idealize.ShloMosaic Idealize.ShloMosaic.TcCoe
open Idealize.SL Idealize.SL.Sem

/-- The item whose words stand at row `r` and lane `l` of the table. -/
def itemOf (r l : ℕ) : ℕ := (r / 128) * 512 + (l / 32) * 128 + r % 128

/-- Word `q` of item `n`, nothing past the last item. -/
def tableWord (C : S200000x96.Idx → BitVec 8) (Sc : S200000x3.Idx → BitVec 32) (n : ℕ) (q : Fin 32) : BitVec 32 :=
  if h : n < 200000 then itemWord (fun p => C (ix2 ⟨n, h⟩ p)) (fun p => Sc (ix2 ⟨n, h⟩ p)) q else 0#32

/-- The table: at each row and lane a word of an item. -/
def outTable (C : S200000x96.Idx → BitVec 8) (Sc : S200000x3.Idx → BitVec 32) (j : S50048x128.Idx) : BitVec 32 :=
  tableWord C Sc (itemOf (j 0).val (j 1).val) ⟨(j 1).val % 32, Nat.mod_lt _ (by decide)⟩

/-- The table at a row and lane of group `g` of block `a`. -/
theorem outTable_at (C : S200000x96.Idx → BitVec 8) (Sc : S200000x3.Idx → BitVec 32) (a g : ℕ) (r l : Fin 128) (j : S50048x128.Idx)
    (h0 : (j 0).val = 2176 * a + (128 * g + r.val)) (h1 : (j 1).val = l.val) :
    outTable C Sc j = tableWord C Sc ((17 * a + g) * 512 + 128 * (l.val / 32) + r.val) ⟨l.val % 32, Nat.mod_lt _ (by decide)⟩ := by
  have e : itemOf (j 0).val (j 1).val = (17 * a + g) * 512 + 128 * (l.val / 32) + r.val := by
    unfold itemOf; rw [h0, h1]; have := r.isLt; omega
  unfold outTable
  rw [e]
  simp only [h1]

/-- A point of a block of adjacent elements. -/
theorem load_at {sig : RefSig} {κ : Kind} {sp : Space} {s : Shape} {e : EltTy} {Val : EltTy → Type} (v : View sig κ sp s e) (X : v.ty.Contents Val)
    {off size : Fin s.rank → ℕ} {inb} (x : (Rect.unit off size inb).toLoadRect.shape.Idx) (y : s.Idx)
    (h : ∀ a, (y a : ℕ) = off a + x a) : v.readAt Val (Rect.unit off size inb).toLoadRect X x = v.read Val X y := by
  show v.read Val X _ = _
  congr 1
  refine funext fun a => Fin.ext ?_
  rw [h a]
  show off a + 1 * (x a : ℕ) = _
  omega

theorem emb_at {s : Shape} {off size : Fin s.rank → ℕ} {inb} (x : (Rect.unit off size inb).shape.Idx) (y : s.Idx)
    (h : ∀ a, (y a : ℕ) = off a + x a) : (Rect.unit off size inb).emb x = y := by
  refine funext fun a => Fin.ext ?_
  rw [h a]
  show off a + 1 * (x a : ℕ) = _
  omega

theorem mem_at {s : Shape} {off size : Fin s.rank → ℕ} {inb} (y : s.Idx)
    (h : ∀ a, off a ≤ (y a : ℕ) ∧ (y a : ℕ) < off a + size a) : y ∈ (Rect.unit off size inb).set :=
  Rect.mem_set_unit.mpr h

section
variable (i : grid0.Coords) (arg1 : Memref sig .tc .vmem S96x8704 .fp8e4m3) (arg2 : Memref sig .tc .vmem S3x8704 .f32)
  (arg3 : Memref sig .tc .vmem S2176x128 .i32) (X1 : BufTy.Contents (Elt Bits) arg1.view.ty) (X2 : BufTy.Contents (Elt Bits) arg2.view.ty)

theorem partX_apply (g : Fin 17) (k : Fin 4) (p : Fin 96) (r : Fin 128) :
    partX arg1 X1 g k (ix2 p r) = arg1.view.read (Elt Bits) X1 (ix2 p ⟨(g.val * 4 + k.val) * 128 + r.val, by omega⟩) := by
  unfold partX
  refine load_at arg1.view X1 _ _ ?_
  show ∀ a : Fin 2, _
  intro a; fin_cases a
  · show p.val = 0 + p.val; omega
  · rfl

theorem partY_apply (g : Fin 17) (k : Fin 4) (p : Fin 3) (r : Fin 128) :
    partY arg2 X2 g k (ix2 p r) = arg2.view.read (Elt Bits) X2 (ix2 p ⟨(g.val * 4 + k.val) * 128 + r.val, by omega⟩) := by
  unfold partY
  refine load_at arg2.view X2 _ _ ?_
  show ∀ a : Fin 2, _
  intro a; fin_cases a
  · show p.val = 0 + p.val; omega
  · rfl

/-- Block `a` of the table. -/
def outBlk (C : S200000x96.Idx → BitVec 8) (Sc : S200000x3.Idx → BitVec 32) (a : Fin 23) (y : S2176x128.Idx) : BitVec 32 :=
  have h : (y 0).val < 2176 := (y 0).isLt
  outTable C Sc (ix2 ⟨2176 * a.val + (y 0).val, by omega⟩ (y 1))

variable (C : S200000x96.Idx → BitVec 8) (Sc : S200000x3.Idx → BitVec 32)
  (hx : ∀ (p : Fin 96) (q : Fin 8704) (h : 8704 * (i 0).val + q.val < 200000), arg1.view.read (Elt Bits) X1 (ix2 p q) = C (ix2 ⟨8704 * (i 0).val + q.val, h⟩ p))
  (hy : ∀ (p : Fin 3) (q : Fin 8704) (h : 8704 * (i 0).val + q.val < 200000), arg2.view.read (Elt Bits) X2 (ix2 p q) = Sc (ix2 ⟨8704 * (i 0).val + q.val, h⟩ p))

include hx hy in
/-- What a group stores is its rows of the table. -/
theorem piece_value (g : Fin 17) (x : (piece (F := Bits) i arg1 arg2 X1 X2 g).1.shape.Idx) :
    (piece (F := Bits) i arg1 arg2 X1 X2 g).2 x = outBlk C Sc (i 0) ((piece (F := Bits) i arg1 arg2 X1 X2 g).1.emb x) := by
  have hi : (i 0).val < 23 := (i 0).isLt
  revert x
  show ∀ x : S128x128.Idx, _
  intro x
  obtain ⟨r, l, rfl⟩ : ∃ (r l : Fin 128), x = ix2 r l := ⟨x 0, x 1, by idx_vars x⟩
  have e : (piece (F := Bits) i arg1 arg2 X1 X2 g).1.emb (ix2 r l) = (ix2 ⟨128 * g.val + r.val, by omega⟩ l : S2176x128.Idx) := by
    unfold piece
    refine emb_at (inb := inbO g) _ _ ?_
    show ∀ a : Fin 2, _
    intro a; fin_cases a
    · show 128 * g.val + r.val = g.val * 128 + r.val; omega
    · show l.val = 0 + l.val; omega
  rw [e]
  unfold outBlk
  rw [outTable_at C Sc (i 0).val g.val r l _ rfl rfl, tableWord]
  refine (packed_apply (i 0).val g.val hi g.isLt (partX arg1 X1 g) (partY arg2 X2 g) r l).trans ?_
  by_cases h : (17 * (i 0).val + g.val) * 512 + 128 * (l.val / 32) + r.val < 200000
  · rw [if_pos h, dif_pos h]
    have e2 : 8704 * (i 0).val + ((g.val * 4 + l.val / 32) * 128 + r.val) = (17 * (i 0).val + g.val) * 512 + 128 * (l.val / 32) + r.val := by omega
    congr 1
    · funext p
      rw [partX_apply, hx p _ (by rw [← e2] at h; exact h)]
      simp only [e2]
    · funext p
      rw [partY_apply, hy p _ (by rw [← e2] at h; exact h)]
      simp only [e2]
  · rw [if_neg h, dif_neg h]

/-- A group is one of the last `n`. -/
theorem mem_pieces : ∀ (n : Nat) (h : n ≤ 17) (p : View.Piece (Elt Bits) S2176x128 .i32), p ∈ pieces (F := Bits) i arg1 arg2 X1 X2 n h ↔ ∃ g : Fin 17, 17 - n ≤ g.val ∧ p = piece (F := Bits) i arg1 arg2 X1 X2 g
  | 0, h, p => by
    unfold pieces
    constructor
    · intro hp; cases hp
    · rintro ⟨g, hg, -⟩; have := g.isLt; omega
  | n + 1, h, p => by
    unfold pieces
    rw [List.mem_append, List.mem_singleton, mem_pieces n (Nat.le_of_succ_le h) p]
    constructor
    · rintro (⟨g, hg, rfl⟩ | rfl)
      · exact ⟨g, by omega, rfl⟩
      · exact ⟨_, Nat.le_refl _, rfl⟩
    · rintro ⟨g, hg, rfl⟩
      by_cases hq : 17 - n ≤ g.val
      · exact Or.inl ⟨g, hq, rfl⟩
      · right
        congr 1
        exact Fin.ext (by show g.val = 17 - (n + 1); omega)

include hx hy in
/-- What the body leaves staged: the point's block of the table. -/
theorem block_value (g3 : BufTy.Contents (Elt Bits) arg3.view.ty) :
    arg3.view.read (Elt Bits) (arg3.view.writes (Elt Bits) g3 (pieces (F := Bits) i arg1 arg2 X1 X2 17 (Nat.le_refl _))) = outBlk C Sc (i 0) := by
  funext y
  refine View.read_writes_apply_of_pieces (Val := Elt Bits) arg3.view g3 (outBlk C Sc (i 0)) _ ?_ y ?_
  · intro p hp
    obtain ⟨g, -, rfl⟩ := (mem_pieces i arg1 arg2 X1 X2 17 _ p).mp hp
    exact piece_value i arg1 arg2 X1 X2 C Sc hx hy g
  · have h0 : (y 0).val < 2176 := (y 0).isLt
    have h1 : (y 1).val < 128 := (y 1).isLt
    refine ⟨piece (F := Bits) i arg1 arg2 X1 X2 ⟨(y 0).val / 128, by omega⟩, (mem_pieces i arg1 arg2 X1 X2 17 _ _).mpr ⟨_, by omega, rfl⟩, ?_⟩
    unfold piece
    refine mem_at (inb := inbO ⟨(y 0).val / 128, by omega⟩) _ ?_
    show ∀ a : Fin 2, _
    intro a; fin_cases a
    · show (y 0).val / 128 * 128 ≤ (y 0).val ∧ (y 0).val < (y 0).val / 128 * 128 + 128; omega
    · show 0 ≤ (y 1).val ∧ (y 1).val < 0 + 128; omega

end

end Cert.Table.Hand

end
-- ==== Proof.Hand.TableFrame.lean ====
/- The packing call's run: its table as a function of the argument arrays, the arguments unchanged, every semaphore counter at
   zero. -/
module

public import proofs.«01_k».proof.Proof.Hand.TableBlock
public import proofs.«01_k».proof.Proof.Gen.Table.Frame
public import proofs.«01_k».proof.Proof.Gen.Table.Points
public import Idealize.ShloMosaic.Lib.Pipeline.ValueKit.Geometry

@[expose] public section

set_option maxRecDepth 16384
set_option maxHeartbeats 1000000

noncomputable section

namespace Cert.Table.Hand

open Cert.Table Cert.Table.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

variable (m : (ℓ : Loc nD τ sig) → Buf (Elt Bits) ℓ) (ρ : Dev nD → PrngReg)

/-- The argument arrays, as the table's function takes them. -/
def codesOf (c : Dev nD) : S200000x96.Idx → BitVec 8 := m ((c : Thread nD τ).loc main_arg0)
def scalesOf (c : Dev nD) : S200000x3.Idx → BitVec 32 := m ((c : Thread nD τ).loc main_arg1)

/-- The two transposed arrays when the call starts. -/
theorem V_codes (c : Dev nD) (p : Fin 96) (n : Fin 200000) : V m c main_v0 (ix2 p n) = codesOf m c (ix2 n p) := by
  have e : V m c main_v0 = transpose S96x200000 [1, 0] (m ((c : Thread nD τ).loc main_arg0)) transposes_S200000x96_S96x200000_1_0 := rfl
  rw [e]
  exact transpose_apply _ _ _ _ (ix2 n p) (by show ∀ b : Fin 2, _; intro b; fin_cases b <;> rfl)
theorem V_scales (c : Dev nD) (p : Fin 3) (n : Fin 200000) : V m c main_v1 (ix2 p n) = scalesOf m c (ix2 n p) := by
  have e : V m c main_v1 = transpose S3x200000 [1, 0] (m ((c : Thread nD τ).loc main_arg1)) transposes_S200000x3_S3x200000_1_0 := rfl
  rw [e]
  exact transpose_apply _ _ _ _ (ix2 n p) (by show ∀ b : Fin 2, _; intro b; fin_cases b <;> rfl)

/-- The proof data: the arrays as launched, the input blocks left in place, the table's block as the body computes it. -/
def dats (_ : Fin 1) (c : Dev nD) : Dat τ (Elt Bits) Unit ℕ (UR sig nD τ) ℕ cfg0 c where
  A w := V m c (Pipeline.arrRef spec0 w)
  after w t := match w with
    | ⟨0, _⟩ => win0_0.fill (grid0.coords t) (fun _ => (0 : BitVec 8)) (iblk m c 0 t)
    | ⟨1, _⟩ => win0_1.fill (grid0.coords t) (fun _ => (0 : BitVec 32)) (iblk m c 1 t)
    | ⟨2, _⟩ => outBlk (codesOf m c) (scalesOf m c) (grid0.coords t 0)
  Φ _ := Pipeline.ΦA spec0 c
  q _ := fullShare
  owed _ := 0

theorem A_eq (c : Dev nD) (w : Fin cfg0.W) : (dats m 0 c).A w = V m c (Pipeline.arrRef spec0 w) := by dsimp only [dats]
theorem after0_2 (c : Dev nD) (t : Fin cfg0.N) : (dats m 0 c).after 2 t = outBlk (codesOf m c) (scalesOf m c) (grid0.coords t 0) := by dsimp only [dats]

theorem before_0 (c : Dev nD) (t : Fin cfg0.N) (d) : (dats m 0 c).before (0 : Fin 3) t d = win0_0.fill (grid0.coords t) d (iblk m c 0 t) := by
  unfold Dat.before; rw [if_pos (fetch0_0 t)]; rfl
theorem before_1 (c : Dev nD) (t : Fin cfg0.N) (d) : (dats m 0 c).before (1 : Fin 3) t d = win0_1.fill (grid0.coords t) d (iblk m c 1 t) := by
  unfold Dat.before; rw [if_pos (fetch0_1 t)]; rfl

theorem idx_0 : ∀ t : Fin cfg0.N, win0_0.index t = ![0, (grid0.coords t 0).val] := (by decide +kernel : ∀ t : Fin grid0.N, _)
theorem idx_1 : ∀ t : Fin cfg0.N, win0_1.index t = ![0, (grid0.coords t 0).val] := (by decide +kernel : ∀ t : Fin grid0.N, _)
theorem idx_2 : ∀ t : Fin cfg0.N, win0_2.index t = ![(grid0.coords t 0).val, 0] := (by decide +kernel : ∀ t : Fin grid0.N, _)
theorem xsize_0 : ∀ t : Fin cfg0.N, win0_0.xsize (grid0.coords t) 0 = 96 ∧ win0_0.xsize (grid0.coords t) 1 = min 8704 (200000 - 8704 * (grid0.coords t 0).val) :=
  (by decide +kernel : ∀ t : Fin grid0.N, _)
theorem xsize_1 : ∀ t : Fin cfg0.N, win0_1.xsize (grid0.coords t) 0 = 3 ∧ win0_1.xsize (grid0.coords t) 1 = min 8704 (200000 - 8704 * (grid0.coords t 0).val) :=
  (by decide +kernel : ∀ t : Fin grid0.N, _)

/-- The staged codes, on the columns inside the array: those of the items. -/
theorem fill_codes (c : Dev nD) (t : Fin cfg0.N) (d) (p : Fin 96) (q : Fin 8704) (h : 8704 * (grid0.coords t 0).val + q.val < 200000) :
    win0_0.fill (grid0.coords t) d (iblk m c 0 t) (ix2 p q) = codesOf m c (ix2 ⟨8704 * (grid0.coords t 0).val + q.val, h⟩ p) := by
  have hm : win0_0.moved (grid0.coords t) (ix2 p q) = true := (win0_0.moved_iff _ _).mpr (by
    show ∀ a : Fin 2, _
    intro a; fin_cases a
    · exact lt_of_lt_of_eq p.isLt (xsize_0 t).1.symm
    · exact lt_of_lt_of_eq (show q.val < min 8704 (200000 - 8704 * (grid0.coords t 0).val) by have := q.isLt; omega) (xsize_0 t).2.symm)
  unfold Window.fill
  rw [dif_pos hm, ← V_codes]
  show V m c main_v0 ((win0_0.blk t).view.emb _) = _
  congr 1
  blk_ext [idx_0]

theorem fill_scales (c : Dev nD) (t : Fin cfg0.N) (d) (p : Fin 3) (q : Fin 8704) (h : 8704 * (grid0.coords t 0).val + q.val < 200000) :
    win0_1.fill (grid0.coords t) d (iblk m c 1 t) (ix2 p q) = scalesOf m c (ix2 ⟨8704 * (grid0.coords t 0).val + q.val, h⟩ p) := by
  have hm : win0_1.moved (grid0.coords t) (ix2 p q) = true := (win0_1.moved_iff _ _).mpr (by
    show ∀ a : Fin 2, _
    intro a; fin_cases a
    · exact lt_of_lt_of_eq p.isLt (xsize_1 t).1.symm
    · exact lt_of_lt_of_eq (show q.val < min 8704 (200000 - 8704 * (grid0.coords t 0).val) by have := q.isLt; omega) (xsize_1 t).2.symm)
  unfold Window.fill
  rw [dif_pos hm, ← V_scales]
  show V m c main_v1 ((win0_1.blk t).view.emb _) = _
  congr 1
  blk_ext [idx_1]

theorem defs₀_row (t : Fin cfg0.N) : defs₀ (F := Bits) .tc cfg0.body (cfg0.bodyArgs t (cfg0.slots t)) = bodyAt0 t := by
  unfold defs₀; rw [Defs.onTc_tc]

/-- The pipeline's obligation of the body. -/
theorem body_obligation (c : Dev nD) : BodyObligationLoose (dats m 0 c) (defs₀ (F := Bits)) Variants.none () Set.univ (fun _ => false) := fun t => by
  rw [bigSep_W0, bigSep_W0, defs₀_row]
  simp only
  unfold bodyAt0
  rw [show (dats m 0 c).Φ t.succ = (dats m 0 c).Φ t.castSucc from rfl,
    show (dats m 0 c).owesAt () t.succ = (dats m 0 c).owesAt () t.castSucc from rfl, body_eq]
  iintro ⟨HΦ, Ho, ⟨%d1, H1⟩, ⟨%d2, H2⟩, ⟨%d3, H3⟩⟩
  rw [before_0 m c t d1, before_1 m c t d2]
  unfold owns
  icases H1 with ⟨%X1, %hX1, H1⟩
  icases H2 with ⟨%X2, %hX2, H2⟩
  icases H3 with ⟨%X3, %hX3, H3⟩
  iapply (groups_run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) X1 X2 17 (Nat.le_refl _) X3 _)
  isplitl [H1]; · iexact H1
  isplitl [H2]; · iexact H2
  isplitl [H3]; · iexact H3
  iintro ⟨H1, H2, H3⟩
  isplitl [HΦ]; · iexact HΦ
  isplitl [Ho]; · iexact Ho
  isplitl [H1]
  · iexists d1; iexists X1; isplitr; swap; iexact H1
    ipureintro
    refine hX1.trans ?_
    show win0_0.fill (grid0.coords t) d1 (iblk m c 0 t) = win0_0.fill (grid0.coords t) d1 (win0_0.cut (grid0.coords t) (win0_0.fill (grid0.coords t) (fun _ => (0 : BitVec 8)) (iblk m c 0 t)))
    rw [Window.cut_fill]
  isplitl [H2]
  · iexists d2; iexists X2; isplitr; swap; iexact H2
    ipureintro
    refine hX2.trans ?_
    show win0_1.fill (grid0.coords t) d2 (iblk m c 1 t) = win0_1.fill (grid0.coords t) d2 (win0_1.cut (grid0.coords t) (win0_1.fill (grid0.coords t) (fun _ => (0 : BitVec 32)) (iblk m c 1 t)))
    rw [Window.cut_fill]
  iexists _; isplitr; swap; iexact H3
  ipureintro
  refine (block_value (grid0.coords t) _ _ _ X1 X2 (codesOf m c) (scalesOf m c) (fun p q h => ?_) (fun p q h => ?_) X3).trans ?_
  · exact (congrFun hX1 (ix2 p q)).trans (fill_codes m c t d1 p q h)
  · exact (congrFun hX2 (ix2 p q)).trans (fill_scales m c t d2 p q h)
  · rfl

set_option backward.isDefEq.respectTransparency.types false in
/-- The run of @main. -/
theorem run_main : θ_run defs (onTc (τ := τ) (main (F := Bits))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m)
    (hΦ := fun _ _ => rfl)

/-- The table after the run. -/
theorem final_table (c : Dev nD) : (dats m 0 c).arrAt 2 cfg0.N = outTable (codesOf m c) (scalesOf m c) := by
  refine (dats m 0 c).arrAt_eq_of_covers 2 _ (by decide +kernel) fun t hf y => ?_
  blk_simp
  rw [after0_2]
  unfold outBlk
  congr 1
  blk_ext [idx_2]

/-- The run, with the table as a function of the arguments. -/
theorem run : θ_run defs (onTc (τ := τ) (main (F := Bits))) ⟨m, fun _ => 0, ρ⟩ (fun r => (∀ c : Dev nD,
      r.2.mem ((c.tc : Thread nD τ).loc main_v2) = outTable (codesOf m c) (scalesOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨((h.1 c).1 2).trans (final_table m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c)⟩, h.2⟩) (run_main m ρ)

end Cert.Table.Hand

end
-- ==== Proof.Hand.TableRead.lean ====
/- The reference's table is the same function of its two arrays. -/
module

public import proofs.«01_k».proof.Proof.Hand.TableBlock
public import proofs.«01_k».proof.Proof.Gen.TableReference.Read
public import Idealize.ShloMosaic.Lib.KernelVsHost

@[expose] public section

set_option maxRecDepth 16384

noncomputable section

namespace Cert.TableReference.Hand

open Cert.TableReference Cert.TableReference.Gen Cert.TableReference.Read
open Cert.Table.Hand (itemWord scaleWord codeWord three tableWord outTable itemOf)
open Idealize.ShloMosaic Idealize.ShloMosaic.TcCoe
open Idealize.SL.Sem

variable (C : S200000x96.Idx → BitVec 8) (Sc : S200000x3.Idx → BitVec 32)

/-- The codes laid out by blocks and words. -/
theorem v4_at (n : Fin 200000) (b : Fin 3) (q : Fin 32) : val_main_v4 (F := Bits) C (ix3 n b q)
    = (C (ix2 n ⟨32 * b.val + 4 * (q.val % 8) + q.val / 8, by omega⟩)).setWidth 32 := by
  have hn := n.isLt
  have e4 : idx_main_v4 (ix3 n b q) = ix4 n b (⟨q.val / 8, by omega⟩ : Fin 4) (⟨q.val % 8, by omega⟩ : Fin 8) := by
    funext a
    match a with
    | ⟨0, _⟩ => exact Fin.ext (by show ((n.val * 3 + b.val) * 32 + q.val) / 96 = n.val; omega)
    | ⟨1, _⟩ => exact Fin.ext (by show ((n.val * 3 + b.val) * 32 + q.val) / 32 % 3 = b.val; omega)
    | ⟨2, _⟩ => exact Fin.ext (by show ((n.val * 3 + b.val) * 32 + q.val) / 8 % 4 = q.val / 8; omega)
    | ⟨3, _⟩ => exact Fin.ext (by show ((n.val * 3 + b.val) * 32 + q.val) % 8 = q.val % 8; omega)
  have e3 : idx_main_v3 (ix4 n b (⟨q.val / 8, by omega⟩ : Fin 4) (⟨q.val % 8, by omega⟩ : Fin 8)) = ix4 n b (⟨q.val % 8, by omega⟩ : Fin 8) (⟨q.val / 8, by omega⟩ : Fin 4) := by
    funext a
    match a with
    | ⟨0, _⟩ => rfl
    | ⟨1, _⟩ => rfl
    | ⟨2, _⟩ => rfl
    | ⟨3, _⟩ => rfl
  have e2 : idx_main_v2 (ix4 n b (⟨q.val % 8, by omega⟩ : Fin 8) (⟨q.val / 8, by omega⟩ : Fin 4)) = ix2 n (⟨32 * b.val + 4 * (q.val % 8) + q.val / 8, by omega⟩ : Fin 96) := by
    funext a
    match a with
    | ⟨0, _⟩ => exact Fin.ext (by show (((n.val * 3 + b.val) * 8 + q.val % 8) * 4 + q.val / 8) / 96 = n.val; omega)
    | ⟨1, _⟩ => exact Fin.ext (by show (((n.val * 3 + b.val) * 8 + q.val % 8) * 4 + q.val / 8) % 96 = 32 * b.val + 4 * (q.val % 8) + q.val / 8; omega)
  rw [val_main_v4_apply, e4, val_main_v3_apply, e3, val_main_v2_apply, e2, val_main_v1_apply, val_main_v0_apply]
  rfl

/-- The words of each block. -/
theorem v12_at (n : Fin 200000) (q : Fin 32) : val_main_v12 (F := Bits) C (ix2 n q) = (C (ix2 n ⟨32 * 0 + 4 * (q.val % 8) + q.val / 8, by omega⟩)).setWidth 32 := by
  have e : idx_main_v11 (idx_main_v12 (ix2 n q)) = ix3 n 0 q := by
    funext a
    match a with
    | ⟨0, _⟩ => exact Fin.ext (by show (n.val * 32 + q.val) / 32 = n.val; omega)
    | ⟨1, _⟩ => rfl
    | ⟨2, _⟩ => exact Fin.ext (by show (n.val * 32 + q.val) % 32 = q.val; omega)
  rw [val_main_v12_apply, val_main_v11_apply, e, v4_at]
  rfl
theorem v14_at (n : Fin 200000) (q : Fin 32) : val_main_v14 (F := Bits) C (ix2 n q) = (C (ix2 n ⟨32 * 1 + 4 * (q.val % 8) + q.val / 8, by omega⟩)).setWidth 32 := by
  have e : idx_main_v13 (idx_main_v14 (ix2 n q)) = ix3 n 1 q := by
    funext a
    match a with
    | ⟨0, _⟩ => exact Fin.ext (by show (n.val * 32 + q.val) / 32 = n.val; omega)
    | ⟨1, _⟩ => rfl
    | ⟨2, _⟩ => exact Fin.ext (by show (n.val * 32 + q.val) % 32 = q.val; omega)
  rw [val_main_v14_apply, val_main_v13_apply, e, v4_at]
  rfl
theorem v19_at (n : Fin 200000) (q : Fin 32) : val_main_v19 (F := Bits) C (ix2 n q) = (C (ix2 n ⟨32 * 2 + 4 * (q.val % 8) + q.val / 8, by omega⟩)).setWidth 32 := by
  have e : idx_main_v18 (idx_main_v19 (ix2 n q)) = ix3 n 2 q := by
    funext a
    match a with
    | ⟨0, _⟩ => exact Fin.ext (by show (n.val * 32 + q.val) / 32 = n.val; omega)
    | ⟨1, _⟩ => rfl
    | ⟨2, _⟩ => exact Fin.ext (by show (n.val * 32 + q.val) % 32 = q.val; omega)
  rw [val_main_v19_apply, val_main_v18_apply, e, v4_at]
  rfl

/-- The exponent of a scale. -/
theorem v9_at (n : Fin 200000) (s : Fin 3) : val_main_v9 (F := Bits) Sc (ix2 n s) = (Sc (ix2 n s) >>> 23) &&& 255#32 := by
  rw [val_main_v9_apply, val_main_v8_apply, val_main_v7_apply, val_main_v6_apply, val_main_v5_apply]
  rfl

theorem v10_at (n : Fin 200000) (q : Fin 32) : val_main_v10 (F := Bits) Sc (ix2 n q) = if h : q.val < 3 then (Sc (ix2 n ⟨q.val, h⟩) >>> 23) &&& 255#32 else 0#32 := by
  unfold val_main_v10
  by_cases h : q.val < 3
  · rw [dif_pos h, ← v9_at]
    refine pad_apply_of_inside _ _ _ _ _ _ _ _ (ix2 n ⟨q.val, h⟩) ?_
    show ∀ a : Fin 2, _
    intro a; fin_cases a
    · show n.val = 0 + n.val * (0 + 1); omega
    · show q.val = 0 + q.val * (0 + 1); omega
  · rw [dif_neg h]
    refine (pad_apply_of_not_inside _ _ _ _ _ _ _ _ (1 : Fin 2) ?_).trans ?_
    · show ¬ (0 ≤ q.val ∧ (q.val - 0) % (0 + 1) = 0 ∧ (q.val - 0) / (0 + 1) < 3)
      omega
    · rfl

/-- An exponent moved to the top byte. -/
theorem top_byte (e : BitVec 32) : ((e >>> 23) &&& 255#32) <<< 24 = (e &&& 2139095040#32) <<< 1 := by
  have hA : ∀ q : Fin 32, (255#32).getLsbD q.val = decide (q.val < 8) := by decide
  have hB : ∀ q : Fin 32, (2139095040#32).getLsbD q.val = decide (23 ≤ q.val ∧ q.val < 31) := by decide
  apply BitVec.eq_of_getLsbD_eq
  intro q hq
  rw [BitVec.getLsbD_shiftLeft, BitVec.getLsbD_shiftLeft, BitVec.getLsbD_and, BitVec.getLsbD_and, BitVec.getLsbD_ushiftRight,
    hA ⟨q - 24, by omega⟩, hB ⟨q - 1, by omega⟩]
  by_cases h : q < 24
  · have h2 : ¬ (23 ≤ q - 1 ∧ q - 1 < 31) := by omega
    simp [h, h2]
  · have h2 : 23 + (q - 24) = q - 1 := by omega
    have h3 : q - 24 < 8 := by omega
    have h4 : 23 ≤ q - 1 ∧ q - 1 < 31 := by omega
    have h5 : ¬ q < 1 := by omega
    simp [h, h2, h3, h4, h5, hq]

/-- The scales' part of a word. -/
theorem v24_at (n : Fin 200000) (q : Fin 32) : val_main_v24 (F := Bits) Sc (ix2 n q)
    = if q.val < 8 then scaleWord (fun p => Sc (ix2 n p)) ⟨q.val % 8, by omega⟩ else 0#32 := by
  have e : val_main_v24 (F := Bits) Sc (ix2 n q) = (val_main_v10 (F := Bits) Sc (ix2 n q)) <<< 24 := by
    rw [val_main_v24_apply, val_main_v23_apply]
    rfl
  rw [e, v10_at]
  unfold scaleWord
  by_cases h : q.val < 3
  · rw [dif_pos h, if_pos (by omega), top_byte]
    have h2 : q.val % 8 = q.val := by omega
    simp only [h2, h, dif_pos]
  · rw [dif_neg h]
    by_cases h8 : q.val < 8
    · rw [if_pos h8, dif_neg (by show ¬ q.val % 8 < 3; omega)]; rfl
    · rw [if_neg h8]; rfl

/-- A word of an item. -/
theorem v25_at (n : Fin 200000) (q : Fin 32) : val_main_v25 (F := Bits) C Sc (ix2 n q) = itemWord (fun p => C (ix2 n p)) (fun p => Sc (ix2 n p)) q := by
  have e : val_main_v25 (F := Bits) C Sc (ix2 n q)
      = ((val_main_v12 (F := Bits) C (ix2 n q) ||| (val_main_v14 (F := Bits) C (ix2 n q)) <<< 8) ||| (val_main_v19 (F := Bits) C (ix2 n q)) <<< 16)
        ||| val_main_v24 (F := Bits) Sc (ix2 n q) := by
    rw [val_main_v25_apply, val_main_v22_apply, val_main_v17_apply, val_main_v16_apply, val_main_v21_apply, val_main_v15_apply, val_main_v20_apply]
    rfl
  rw [e, v12_at, v14_at, v19_at, v24_at, BitVec.or_comm]
  unfold itemWord codeWord three
  have e1 : 4 * (8 + q.val % 8) + q.val / 8 = 32 * 1 + 4 * (q.val % 8) + q.val / 8 := by omega
  have e2 : 4 * (16 + q.val % 8) + q.val / 8 = 32 * 2 + 4 * (q.val % 8) + q.val / 8 := by omega
  have e0 : 32 * 0 + 4 * (q.val % 8) + q.val / 8 = 4 * (q.val % 8) + q.val / 8 := by omega
  simp only [e0, e1, e2]

/-- The rows padded with zeros past the last item. -/
theorem v26_at (n : Fin 200192) (q : Fin 32) : val_main_v26 (F := Bits) C Sc (ix2 n q) = tableWord C Sc n.val q := by
  unfold val_main_v26 tableWord
  by_cases h : n.val < 200000
  · rw [dif_pos h, ← v25_at]
    refine pad_apply_of_inside _ _ _ _ _ _ _ _ (ix2 ⟨n.val, h⟩ q) ?_
    show ∀ a : Fin 2, _
    intro a; fin_cases a
    · show n.val = 0 + n.val * (0 + 1); omega
    · show q.val = 0 + q.val * (0 + 1); omega
  · rw [dif_neg h]
    refine (pad_apply_of_not_inside _ _ _ _ _ _ _ _ (0 : Fin 2) ?_).trans ?_
    · show ¬ (0 ≤ n.val ∧ (n.val - 0) % (0 + 1) = 0 ∧ (n.val - 0) / (0 + 1) < 200000)
      omega
    · rfl

/-- The reference's table. -/
theorem v29_eq : val_main_v29 (F := Bits) C Sc = outTable C Sc := by
  funext j
  obtain ⟨r, l, rfl⟩ : ∃ (r : Fin 50048) (l : Fin 128), j = ix2 r l := ⟨j 0, j 1, by idx_vars j⟩
  have hr := r.isLt
  have e9 : idx_main_v28 (idx_main_v29 (ix2 r l)) = ix4 (⟨r.val / 128, by omega⟩ : Fin 391) (⟨l.val / 32, by omega⟩ : Fin 4) (⟨r.val % 128, by omega⟩ : Fin 128) (⟨l.val % 32, by omega⟩ : Fin 32) := by
    funext a
    match a with
    | ⟨0, _⟩ => exact Fin.ext (by show (r.val * 128 + l.val) / 16384 = r.val / 128; omega)
    | ⟨1, _⟩ => exact Fin.ext (by show (r.val * 128 + l.val) / 32 % 4 = l.val / 32; omega)
    | ⟨2, _⟩ => exact Fin.ext (by show (r.val * 128 + l.val) / 128 % 128 = r.val % 128; omega)
    | ⟨3, _⟩ => exact Fin.ext (by show (r.val * 128 + l.val) % 32 = l.val % 32; omega)
  have e7 : idx_main_v27 (ix4 (⟨r.val / 128, by omega⟩ : Fin 391) (⟨l.val / 32, by omega⟩ : Fin 4) (⟨r.val % 128, by omega⟩ : Fin 128) (⟨l.val % 32, by omega⟩ : Fin 32))
      = ix2 (⟨itemOf r.val l.val, by unfold itemOf; omega⟩ : Fin 200192) (⟨l.val % 32, by omega⟩ : Fin 32) := by
    funext a
    match a with
    | ⟨0, _⟩ => exact Fin.ext (by show (((r.val / 128 * 4 + l.val / 32) * 128 + r.val % 128) * 32 + l.val % 32) / 32 = itemOf r.val l.val; unfold itemOf; omega)
    | ⟨1, _⟩ => exact Fin.ext (by show (((r.val / 128 * 4 + l.val / 32) * 128 + r.val % 128) * 32 + l.val % 32) % 32 = l.val % 32; omega)
  rw [val_main_v29_apply, val_main_v28_apply, e9, val_main_v27_apply, e7, v26_at]
  rfl

end Cert.TableReference.Hand

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_gathered
public import proofs.«01_k».proof.Proof.Gen.Table
public import proofs.«01_k».proof.Proof.Gen.TableReference
public import proofs.«01_k».proof.Proof.Gen.TableReference.Run
public import proofs.«01_k».proof.Proof.Gen.TableReference.Read
public import proofs.«01_k».proof.Proof.Hand.KernelFrame
public import proofs.«01_k».proof.Proof.Hand.KernelIdealFrame
public import proofs.«01_k».proof.Proof.Hand.ValueFrame
public import proofs.«01_k».proof.Proof.Hand.RefSoft
public import proofs.«01_k».proof.Proof.Hand.RefPre
public import proofs.«01_k».proof.Proof.Hand.TableFrame
public import proofs.«01_k».proof.Proof.Hand.TableRead
public import Idealize.ShloMosaic.Lib.Quiescent

@[expose] public section

noncomputable section

namespace Cert.Proof

open Idealize.ShloMosaic Idealize.SL.Sem

/-- The kernel terminates without a fault, its arguments unchanged, every semaphore at zero. -/
theorem kernelFrame : Cert.quiescent_Kernel (hKernel := Cert.Kernel.Gen.facts) := fun m g _ => Cert.Kernel.Hand.frame m g

/-- The same of the idealized kernel. -/
theorem idealFrame : Cert.quiescent_KernelIdeal (hKernelIdeal := Cert.KernelIdeal.Gen.facts) := fun m g _ => Cert.KernelIdeal.Hand.frame m g

/-- The same of the reference, which has no semaphore at all. -/
theorem referenceFrame : Cert.quiescent_ReferenceIdeal (hReferenceIdeal := Cert.ReferenceIdeal.Gen.facts) := fun m g _ =>
  (θ_run _ _ _).mono (fun r h => ⟨fun c => (h c).2.2, sem_eq_zero_of_no_sems rfl r.2⟩) (Cert.ReferenceIdeal.Value.run m g)

/-- The idealized kernel's run where the precondition holds as well. -/
theorem idealFrame_pre : Cert.quiescent_KernelIdeal_pre_gathered (hKernelIdeal := Cert.KernelIdeal.Gen.facts) (hPre_gathered := Cert.Pre_gathered.Gen.facts) :=
  fun m g _ => Cert.KernelIdeal.Hand.frame m g

/-- The reference's run where the precondition holds as well. -/
theorem referenceFrame_pre : Cert.quiescent_ReferenceIdeal_pre_gathered (hReferenceIdeal := Cert.ReferenceIdeal.Gen.facts) (hPre_gathered := Cert.Pre_gathered.Gen.facts) :=
  fun m g _ => (θ_run _ _ _).mono (fun r h => ⟨fun c => (h c).2.2, sem_eq_zero_of_no_sems rfl r.2⟩) (Cert.ReferenceIdeal.Value.run m g)

/-- Over the extended reals, on arguments that satisfy the precondition, the kernel and the reference leave the same
    weights and the same pooled rows. -/
theorem algebraic : Cert.algebraic_KernelIdeal_ReferenceIdeal_pre_gathered (hKernelIdeal := Cert.KernelIdeal.Gen.facts) (hReferenceIdeal := Cert.ReferenceIdeal.Gen.facts) (hPre_gathered := Cert.Pre_gathered.Gen.facts) := by
  intro m g m' g' hpre hagree
  refine ⟨_, _, Cert.KernelIdeal.Val.run m g, ?_⟩
  refine (θ_run Cert.ReferenceIdeal.defs _ _).mono (fun _ h c => ⟨(h c).1.trans ?_, (h c).2.1.trans ?_, (h c).2.2⟩)
    (Cert.ReferenceIdeal.Value.run (F := Ideal) m' g')
  · obtain ⟨h1, h2, h3, h4, h5, h6⟩ := hpre c
    obtain ⟨a0, a1, a2, a3⟩ := hagree c
    rw [(Cert.RefVal.results _ _ _ _ h1 h2 h3 h4 h5 h6).1, ← a0, ← a1, ← a2, ← a3]
    exact Cert.ReferenceIdeal.Read.val_main_v153_eq _
  · obtain ⟨h1, h2, h3, h4, h5, h6⟩ := hpre c
    obtain ⟨a0, a1, a2, a3⟩ := hagree c
    rw [(Cert.RefVal.results _ _ _ _ h1 h2 h3 h4 h5 h6).2, ← a0, ← a1, ← a2, ← a3]
    exact Cert.ReferenceIdeal.Read.val_main_v162_eq _

/-- The packing call terminates without a fault, its arguments unchanged, every semaphore at zero. -/
theorem tableFrame : Cert.quiescent_Table (hTable := Cert.Table.Gen.facts) := fun m g _ =>
  (θ_run _ _ _).mono (fun r h => ⟨fun c => (h.1 c).2, h.2⟩) (Cert.Table.Hand.run m g)

/-- The same of its reference, which has no semaphore at all. -/
theorem tableReferenceFrame : Cert.quiescent_TableReference (hTableReference := Cert.TableReference.Gen.facts) := fun m g _ =>
  (θ_run _ _ _).mono (fun r h => ⟨fun c => (h c).2, sem_eq_zero_of_no_sems rfl r.2⟩) (Cert.TableReference.Value.run m g)

/-- The packing call and its reference leave the same table, word for word. -/
theorem tableExact : Cert.bitexact_Table_TableReference (hTable := Cert.Table.Gen.facts) (hTableReference := Cert.TableReference.Gen.facts) := by
  intro m g m' g' _ hagree
  refine ⟨fun c => Cert.Table.Hand.outTable (Cert.Table.Hand.codesOf m c) (Cert.Table.Hand.scalesOf m c),
    (θ_run _ _ _).mono (fun r h => h.1) (Cert.Table.Hand.run m g), ?_⟩
  refine (θ_run Cert.TableReference.defs _ _).mono (fun _ h c => ⟨(h c).1.trans ?_, (h c).2⟩) (Cert.TableReference.Value.run (F := Bits) m' g')
  obtain ⟨a0, a1⟩ := hagree c
  rw [Cert.TableReference.Read.val_main_v29_eq, a0, a1]
  exact Cert.TableReference.Hand.v29_eq _ _

/-- Everything claimed. -/
theorem claim : Cert.Claim := ⟨Cert.Kernel.Gen.facts, Cert.KernelIdeal.Gen.facts, Cert.ReferenceIdeal.Gen.facts, Cert.Table.Gen.facts,
  Cert.TableReference.Gen.facts, Cert.Pre_gathered.Gen.facts,
  kernelFrame, idealFrame, idealFrame_pre, referenceFrame, referenceFrame_pre, tableFrame, tableReferenceFrame, trivial, algebraic, tableExact⟩

end Cert.Proof

end
